-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v49) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)) (v4 : (c : Dev Cert.FfnIdeal.nD) → Buf (Elt Ideal) ((c.tc : Thread Cert.FfnIdeal.nD Cert.FfnIdeal.τ).loc Cert.FfnIdeal.main_v5_4)) (v5 : (c : Dev Cert.FfnIdeal.nD) → Buf (Elt Ideal) ((c.tc : Thread Cert.FfnIdeal.nD Cert.FfnIdeal.τ).loc Cert.FfnIdeal.main_v5_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_v5_4) = v4 c
          ∧ r.2.mem ((c.tc : Thread Cert.FfnIdeal.nD Cert.FfnIdeal.τ).loc Cert.FfnIdeal.main_v5_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v121) = v0 c
          ∧ r.2.mem ((c.tc : Thread Cert.FfnRefIdeal.nD Cert.FfnRefIdeal.τ).loc Cert.FfnRefIdeal.main_v122) = v1 c
          ∧ r.2.mem ((c.tc : Thread Cert.FfnRefIdeal.nD Cert.FfnRefIdeal.τ).loc Cert.FfnRefIdeal.main_v123) = v2 c
          ∧ r.2.mem ((c.tc : Thread Cert.FfnRefIdeal.nD Cert.FfnRefIdeal.τ).loc Cert.FfnRefIdeal.main_v124) = v3 c
          ∧ r.2.mem ((c.tc : Thread Cert.FfnRefIdeal.nD Cert.FfnRefIdeal.τ).loc Cert.FfnRefIdeal.main_v125) = v4 c
          ∧ r.2.mem ((c.tc : Thread Cert.FfnRefIdeal.nD Cert.FfnRefIdeal.τ).loc Cert.FfnRefIdeal.main_v120) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v289)) (v1 : (c : Dev Cert.MixIdeal.nD) → Buf (Elt Ideal) ((c.tc : Thread Cert.MixIdeal.nD Cert.MixIdeal.τ).loc Cert.MixIdeal.main_v288_1)) (v2 : (c : Dev Cert.MixIdeal.nD) → Buf (Elt Ideal) ((c.tc : Thread Cert.MixIdeal.nD Cert.MixIdeal.τ).loc Cert.MixIdeal.main_v288_2)) (v3 : (c : Dev Cert.MixIdeal.nD) → Buf (Elt Ideal) ((c.tc : Thread Cert.MixIdeal.nD Cert.MixIdeal.τ).loc Cert.MixIdeal.main_v288_3)) (v4 : (c : Dev Cert.MixIdeal.nD) → Buf (Elt Ideal) ((c.tc : Thread Cert.MixIdeal.nD Cert.MixIdeal.τ).loc Cert.MixIdeal.main_v288_4)) (v5 : (c : Dev Cert.MixIdeal.nD) → Buf (Elt Ideal) ((c.tc : Thread Cert.MixIdeal.nD Cert.MixIdeal.τ).loc Cert.MixIdeal.main_v288_5)) (v6 : (c : Dev Cert.MixIdeal.nD) → Buf (Elt Ideal) ((c.tc : Thread Cert.MixIdeal.nD Cert.MixIdeal.τ).loc Cert.MixIdeal.main_v288_6)) (v7 : (c : Dev Cert.MixIdeal.nD) → Buf (Elt Ideal) ((c.tc : Thread Cert.MixIdeal.nD Cert.MixIdeal.τ).loc Cert.MixIdeal.main_v288_7)) (v8 : (c : Dev Cert.MixIdeal.nD) → Buf (Elt Ideal) ((c.tc : Thread Cert.MixIdeal.nD Cert.MixIdeal.τ).loc Cert.MixIdeal.main_v288_8)) (v9 : (c : Dev Cert.MixIdeal.nD) → Buf (Elt Ideal) ((c.tc : Thread Cert.MixIdeal.nD Cert.MixIdeal.τ).loc Cert.MixIdeal.main_v288_9)) (v10 : (c : Dev Cert.MixIdeal.nD) → Buf (Elt Ideal) ((c.tc : Thread Cert.MixIdeal.nD Cert.MixIdeal.τ).loc Cert.MixIdeal.main_v288_10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v289) = v0 c
          ∧ r.2.mem ((c.tc : Thread Cert.MixIdeal.nD Cert.MixIdeal.τ).loc Cert.MixIdeal.main_v288_1) = v1 c
          ∧ r.2.mem ((c.tc : Thread Cert.MixIdeal.nD Cert.MixIdeal.τ).loc Cert.MixIdeal.main_v288_2) = v2 c
          ∧ r.2.mem ((c.tc : Thread Cert.MixIdeal.nD Cert.MixIdeal.τ).loc Cert.MixIdeal.main_v288_3) = v3 c
          ∧ r.2.mem ((c.tc : Thread Cert.MixIdeal.nD Cert.MixIdeal.τ).loc Cert.MixIdeal.main_v288_4) = v4 c
          ∧ r.2.mem ((c.tc : Thread Cert.MixIdeal.nD Cert.MixIdeal.τ).loc Cert.MixIdeal.main_v288_5) = v5 c
          ∧ r.2.mem ((c.tc : Thread Cert.MixIdeal.nD Cert.MixIdeal.τ).loc Cert.MixIdeal.main_v288_6) = v6 c
          ∧ r.2.mem ((c.tc : Thread Cert.MixIdeal.nD Cert.MixIdeal.τ).loc Cert.MixIdeal.main_v288_7) = v7 c
          ∧ r.2.mem ((c.tc : Thread Cert.MixIdeal.nD Cert.MixIdeal.τ).loc Cert.MixIdeal.main_v288_8) = v8 c
          ∧ r.2.mem ((c.tc : Thread Cert.MixIdeal.nD Cert.MixIdeal.τ).loc Cert.MixIdeal.main_v288_9) = v9 c
          ∧ r.2.mem ((c.tc : Thread Cert.MixIdeal.nD Cert.MixIdeal.τ).loc Cert.MixIdeal.main_v288_10) = v10 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v573) = v0 c
          ∧ r.2.mem ((c.tc : Thread Cert.MixRefIdeal.nD Cert.MixRefIdeal.τ).loc Cert.MixRefIdeal.main_v575) = v1 c
          ∧ r.2.mem ((c.tc : Thread Cert.MixRefIdeal.nD Cert.MixRefIdeal.τ).loc Cert.MixRefIdeal.main_v577) = v2 c
          ∧ r.2.mem ((c.tc : Thread Cert.MixRefIdeal.nD Cert.MixRefIdeal.τ).loc Cert.MixRefIdeal.main_v579) = v3 c
          ∧ r.2.mem ((c.tc : Thread Cert.MixRefIdeal.nD Cert.MixRefIdeal.τ).loc Cert.MixRefIdeal.main_v378) = v4 c
          ∧ r.2.mem ((c.tc : Thread Cert.MixRefIdeal.nD Cert.MixRefIdeal.τ).loc Cert.MixRefIdeal.main_v580) = v5 c
          ∧ r.2.mem ((c.tc : Thread Cert.MixRefIdeal.nD Cert.MixRefIdeal.τ).loc Cert.MixRefIdeal.main_v581) = v6 c
          ∧ r.2.mem ((c.tc : Thread Cert.MixRefIdeal.nD Cert.MixRefIdeal.τ).loc Cert.MixRefIdeal.main_v582) = v7 c
          ∧ r.2.mem ((c.tc : Thread Cert.MixRefIdeal.nD Cert.MixRefIdeal.τ).loc Cert.MixRefIdeal.main_v583) = v8 c
          ∧ r.2.mem ((c.tc : Thread Cert.MixRefIdeal.nD Cert.MixRefIdeal.τ).loc Cert.MixRefIdeal.main_v584) = v9 c
          ∧ r.2.mem ((c.tc : Thread Cert.MixRefIdeal.nD Cert.MixRefIdeal.τ).loc Cert.MixRefIdeal.main_v571) = v10 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)) →
    ∃ (v0 : (c : Dev Cert.MixFwdIdeal.nD) → Buf (Elt Ideal) ((c.tc : Thread Cert.MixFwdIdeal.nD Cert.MixFwdIdeal.τ).loc Cert.MixFwdIdeal.main_v287)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v287) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v333) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12))

def preserves_Conv_ConvIdeal : Prop :=
  True

def Claim : Prop :=
  ∃ (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMixFwd : Cert.MixFwd.Facts) (hMixFwdIdeal : Cert.MixFwdIdeal.Facts) (hMixFwdRefIdeal : Cert.MixFwdRefIdeal.Facts) (hConv : Cert.Conv.Facts) (hConvIdeal : Cert.ConvIdeal.Facts) (hConvRefIdeal : Cert.ConvRefIdeal.Facts),
    quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_Conv (hConv := hConv)
    ∧ quiescent_ConvIdeal (hConvIdeal := hConvIdeal)
    ∧ quiescent_ConvRefIdeal (hConvRefIdeal := hConvRefIdeal)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_MixFwd_MixFwdIdeal
    ∧ algebraic_MixFwdIdeal_MixFwdRefIdeal (hMixFwdIdeal := hMixFwdIdeal) (hMixFwdRefIdeal := hMixFwdRefIdeal)
    ∧ preserves_Conv_ConvIdeal
-- ==== InProj.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S1024x8x1024 : Shape := ⟨3, ![1024, 8, 1024]⟩
abbrev S8x1024x1024 : Shape := ⟨3, ![8, 1024, 1024]⟩
abbrev S8x1024 : Shape := ⟨2, ![8, 1024]⟩
abbrev S512x8192 : Shape := ⟨2, ![512, 8192]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x8x1024, .f32⟩
  | .hbm, ⟨8, _⟩ => ⟨S8x1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x8192, .f32⟩
  | .hbm, ⟨18, _⟩ => ⟨S4096x8192, .bf16⟩
  | .hbm, ⟨19, _⟩ => ⟨S8x1024x1024, .bf16⟩
  | .hbm, ⟨20, _⟩ => ⟨S4096x1024, .f32⟩
  | .hbm, ⟨21, _⟩ => ⟨S8x1024, .f32⟩
  | .local _ .vmem, ⟨0, _⟩ => ⟨S512x8192, .bf16⟩
  | .local _ .vmem, ⟨1, _⟩ => ⟨S512x8192, .bf16⟩
  | .local _ .vmem, ⟨2, _⟩ => ⟨S8x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InProjRefIdeal.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x8192, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S5x1024, .f32⟩
  | .hbm, ⟨70, _⟩ => ⟨S8x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Ffn.lean ====
abbrev S4096x1024 : Shape := ⟨2, ![4096, 1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1 : Shape := ⟨1, ![1]⟩
abbrev S1x1 : Shape := ⟨2, ![1, 1]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | .hbm, ⟨12, _⟩ => ⟨S8x512x1024, .f32⟩
  | .hbm, ⟨13, _⟩ => ⟨S8x512x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x4096, .bf16⟩
  | .hbm, ⟨18, _⟩ => ⟨S4096x4096, .bf16⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024x512, .bf16⟩
  | .local _ .vmem, ⟨5, _⟩ => ⟨S8x512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x4096, .bf16⟩
  | .local _ .vmem, ⟨18, _⟩ => ⟨S512x4096, .bf16⟩
  | .local _ .vmem, ⟨19, _⟩ => ⟨S8x1024, .f32⟩
  | .local _ .vmem, ⟨20, _⟩ => ⟨S512x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S2x1024 : Shape := ⟨2, ![2, 1024]⟩
abbrev S8x1024 : Shape := ⟨2, ![8, 1024]⟩

abbrev nBuf : Space → Nat
  | .hbm => 170
  | .vmem => 0
  | .smem => 0
  | _ => 0

abbrev hbmTy0_0 (i : Nat) : BufTy := match i % 128 with
  | 0 => ⟨S4096x1024, .f32⟩
  | 1 => ⟨S4096x1024, .f32⟩
  | 2 => ⟨S1024x4096, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S1x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .i1⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S1x1024, .f32⟩
  | 34 => ⟨S_, .f32⟩
  | 35 => ⟨S2x1024, .f32⟩
  | 36 => ⟨S8x1024, .f32⟩
  | 37 => ⟨S4096x1024, .f32⟩
  | 38 => ⟨S4096x1024, .bf16⟩
  | 39 => ⟨S4096x1024, .bf16⟩
  | 40 => ⟨S4096x4096, .bf16⟩
  | 41 => ⟨S4096x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_cst_16 : Ref sig .tc := ⟨.hbm, 85, rfl⟩
abbrev main_cst_17 : Ref sig .tc := ⟨.hbm, 86, rfl⟩
abbrev main_v57 : Ref sig .tc := ⟨.hbm, 87, rfl⟩
abbrev main_v58 : Ref sig .tc := ⟨.hbm, 88, rfl⟩
abbrev main_cst_18 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_19 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_21 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_22 : Ref sig .tc := ⟨.hbm, 113, rfl⟩
abbrev main_v79 : Ref sig .tc := ⟨.hbm, 114, rfl⟩
abbrev main_v80 : Ref sig .tc := ⟨.hbm, 115, rfl⟩
abbrev main_cst_23 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_24 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_25 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_26 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_27 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_28 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_29 : Ref sig .tc := ⟨.hbm, 151, rfl⟩
abbrev main_v110 : Ref sig .tc := ⟨.hbm, 152, rfl⟩
abbrev main_v111 : Ref sig .tc := ⟨.hbm, 153, rfl⟩
abbrev main_cst_30 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]
-- ==== Mix.lean ====
abbrev S4096x1024 : Shape := ⟨2, ![4096, 1024]⟩
abbrev S4096x8192 : Shape := ⟨2, ![4096, 8192]⟩
abbrev S2x1024 : Shape := ⟨2, ![2, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S4096 : Shape := ⟨1, ![4096]⟩
abbrev S4096x1 : Shape := ⟨2, ![4096, 1]⟩
abbrev S1024 : Shape := ⟨1, ![1024]⟩
abbrev S32x128x8x128 : Shape := ⟨4, ![32, 128, 8, 128]⟩
abbrev S32x8x128x128 : Shape := ⟨4, ![32, 8, 128, 128]⟩
abbrev S128x128 : Shape := ⟨2, ![128, 128]⟩
abbrev S32x8x128x1x128 : Shape := ⟨5, ![32, 8, 128, 1, 128]⟩
abbrev S32x8x1x128x128 : Shape := ⟨5, ![32, 8, 1, 128, 128]⟩
abbrev S32x8x128x128x128 : Shape := ⟨5, ![32, 8, 128, 128, 128]⟩
abbrev S128x128x1 : Shape := ⟨3, ![128, 128, 1]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S1x8x128x128 : Shape := ⟨4, ![1, 8, 128, 128]⟩
abbrev S16x8x128x128 : Shape := ⟨4, ![16, 8, 128, 128]⟩
abbrev S32x128x1024 : Shape := ⟨3, ![32, 128, 1024]⟩
abbrev S32x1x1024 : Shape := ⟨3, ![32, 1, 1024]⟩
abbrev S8x1024 : Shape := ⟨2, ![8, 1024]⟩
abbrev S256x1024 : Shape := ⟨2, ![256, 1024]⟩
abbrev S2x128x1024 : Shape := ⟨3, ![2, 128, 1024]⟩
abbrev S2x1x1024 : Shape := ⟨3, ![2, 1, 1024]⟩
abbrev S256x3072 : Shape := ⟨2, ![256, 3072]⟩
abbrev S128x1024 : Shape := ⟨2, ![128, 1024]⟩
abbrev S1x128x1024 : Shape := ⟨3, ![1, 128, 1024]⟩
abbrev S256x128 : Shape := ⟨2, ![256, 128]⟩
abbrev S256 : Shape := ⟨1, ![256]⟩
abbrev S256x1 : Shape := ⟨2, ![256, 1]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩
abbrev S1x1x1024 : Shape := ⟨3, ![1, 1, 1024]⟩
abbrev S4096x3072 : Shape := ⟨2, ![4096, 3072]⟩

abbrev nBuf : Space → Nat
  | .hbm => 363
  | .vmem => 46
  | .smem => 0
  | _ => 0

abbrev hbmTy0_0 (i : Nat) : BufTy := match i % 128 with
  | 0 => ⟨S4096x1024, .f32⟩
  | 1 => ⟨S4096x8192, .f32⟩
  | 2 => ⟨S2x1024, .f32⟩
  | 3 => ⟨S31x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S1x1024, .f32⟩
  | 11 => ⟨S1x1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S30x1024, .f32⟩
  | 27 => ⟨S4126x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x16384, .f32⟩
  | 60 => ⟨S4096x15360, .f32⟩
  | 61 => ⟨S4096x31744, .f32⟩
  | 62 => ⟨S4096x31x1024, .f32⟩
  | 63 => ⟨S1x31x1024, .f32⟩
  | 64 => ⟨S4096x31x1024, .f32⟩
  | 65 => ⟨S4096x31x1024, .f32⟩
  | 66 => ⟨S_, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x1024, .f32⟩
  | 86 => ⟨S4096x1024, .f32⟩
  | 87 => ⟨S_, .f32⟩
  | 88 => ⟨S4096x1, .f32⟩
  | 89 => ⟨S4096x1, .f32⟩
  | 90 => ⟨S4096x1, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S_, .f32⟩
  | 112 => ⟨S1024, .f32⟩
  | 113 => ⟨S1024, .f32⟩
  | 114 => ⟨S1x1024, .f32⟩
  | 115 => ⟨S2x1024, .f32⟩
  | 116 => ⟨S2x1024, .f32⟩
  | 117 => ⟨S2x1024, .f32⟩
  | 118 => ⟨S_, .f32⟩
  | 119 => ⟨S1024, .f32⟩
  | 120 => ⟨S1x1024, .f32⟩
  | 121 => ⟨S2x1024, .f32⟩
  | 122 => ⟨S2x1024, .f32⟩
  | 123 => ⟨S1x1024, .f32⟩
  | 124 => ⟨S1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S4096x1024, .f32⟩
  | 6 => ⟨S_, .f32⟩
  | 7 => ⟨S1024, .f32⟩
  | 8 => ⟨S1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S32x128x8x128, .f32⟩
  | 28 => ⟨S32x8x128x128, .f32⟩
  | 29 => ⟨S32x128x8x128, .f32⟩
  | 30 => ⟨S32x8x128x128, .f32⟩
  | 31 => ⟨S32x128x8x128, .f32⟩
  | 32 => ⟨S32x8x128x128, .f32⟩
  | 33 => ⟨S32x128x8x128, .f32⟩
  | 34 => ⟨S32x8x128x128, .f32⟩
  | 35 => ⟨S_, .i1⟩
  | 36 => ⟨S128x128, .i1⟩
  | 37 => ⟨S128x128, .i32⟩
  | 38 => ⟨S_, .i32⟩
  | 39 => ⟨S128x128, .i32⟩
  | 40 => ⟨S128x128, .i32⟩
  | 41 => ⟨S128x128, .i32⟩
  | 42 => ⟨S128x128, .i1⟩
  | 43 => ⟨S_, .i1⟩
  | 44 => ⟨S128x128, .i1⟩
  | 45 => ⟨S128x128, .i1⟩
  | 46 => ⟨S_, .f32⟩
  | 47 => ⟨S_, .f32⟩
  | 48 => ⟨S32x8x128x128, .f32⟩
  | 49 => ⟨S32x8x128x1x128, .f32⟩
  | 50 => ⟨S32x8x1x128x128, .f32⟩
  | 51 => ⟨S32x8x128x128x128, .f32⟩
  | 52 => ⟨S32x8x128x128x128, .f32⟩
  | 53 => ⟨S32x8x128x128x128, .f32⟩
  | 54 => ⟨S128x128x1, .i1⟩
  | 55 => ⟨S_, .f32⟩
  | 56 => ⟨S_, .f32⟩
  | 57 => ⟨S32x8x128x128x128, .i1⟩
  | 58 => ⟨S32x8x128x128x128, .f32⟩
  | 59 => ⟨S32x8x128x128x128, .f32⟩
  | 60 => ⟨S32x8x128x128x128, .f32⟩
  | 61 => ⟨S32x8x128x1x128, .f32⟩
  | 62 => ⟨S32x8x1x128x128, .f32⟩
  | 63 => ⟨S32x8x128x128x128, .f32⟩
  | 64 => ⟨S32x8x128x128x128, .f32⟩
  | 65 => ⟨S32x8x128x128x128, .f32⟩
  | 66 => ⟨S32x8x128x128x128, .f32⟩
  | 67 => ⟨S_, .f32⟩
  | 68 => ⟨S32x8x128x128, .f32⟩
  | 69 => ⟨S32x8x128x128, .f32⟩
  | 70 => ⟨S32x8x1x128, .f32⟩
  | 71 => ⟨S32x8x128x128, .f32⟩
  | 72 => ⟨S32x8x128x128, .f32⟩
  | 73 => ⟨S32x8x128x128, .f32⟩
  | 74 => ⟨S32x8x128x128, .f32⟩
  | 75 => ⟨S32x8x128x128, .f32⟩
  | 76 => ⟨S32x8x128x128, .f32⟩
  | 77 => ⟨S32x8x128x128, .f32⟩
  | 78 => ⟨S32x8x128, .f32⟩
  | 79 => ⟨S32x8x128, .f32⟩
  | 80 => ⟨S32x8x128x1, .f32⟩
  | 81 => ⟨S32x8x128x128, .f32⟩
  | 82 => ⟨S_, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S1x8x128x128, .f32⟩
  | 105 => ⟨S1x8x128x128, .f32⟩
  | 106 => ⟨S1x8x128x128, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S1x8x128x128, .f32⟩
  | 80 => ⟨S16x8x128x128, .f32⟩
  | 81 => ⟨S16x8x128x128, .f32⟩
  | 82 => ⟨S32x8x128x128, .f32⟩
  | 83 => ⟨S32x128x8x128, .f32⟩
  | 84 => ⟨S32x128x1024, .f32⟩
  | 85 => ⟨S32x128x8x128, .f32⟩
  | 86 => ⟨S4096x1024, .f32⟩
  | 87 => ⟨S4096x1024, .bf16⟩
  | 88 => ⟨S32x128x8x128, .f32⟩
  | 89 => ⟨S4096x1024, .f32⟩
  | 90 => ⟨S4096x1024, .bf16⟩
  | 91 => ⟨S1024x1024, .bf16⟩
  | 92 => ⟨S1024x1024, .bf16⟩
  | 93 => ⟨S1024x1024, .bf16⟩
  | 94 => ⟨S32x1x1024, .f32⟩
  | 95 => ⟨S4096x8192, .bf16⟩
  | 96 => ⟨S4096x1024, .f32⟩
  | 97 => ⟨S4096x1024, .f32⟩
  | 98 => ⟨S32x128x1024, .f32⟩
  | 99 => ⟨S4096x1024, .f32⟩
  | 100 => ⟨S4096x1024, .bf16⟩
  | 101 => ⟨S4096x1024, .bf16⟩
  | 102 => ⟨S4096x1024, .bf16⟩
  | 103 => ⟨S4096x1024, .bf16⟩
  | 104 => ⟨S4096x1024, .bf16⟩
  | 105 => ⟨S8x1024, .f32⟩
  | 106 => ⟨S4096x3072, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S2x128x1024, .f32⟩
  | .local _ .vmem, ⟨11, _⟩ => ⟨S2x128x1024, .f32⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S2x1x1024, .f32⟩
  | .local _ .vmem, ⟨23, _⟩ => ⟨S2x1x1024, .f32⟩
  | .local _ .vmem, ⟨24, _⟩ => ⟨S256x3072, .bf16⟩
  | .local _ .vmem, ⟨25, _⟩ => ⟨S256x3072, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S2x128x1024, .f32⟩
  | .local _ .vmem, ⟨31, _⟩ => ⟨S2x128x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S8x1024, .f32⟩
  | .local _ .vmem, ⟨45, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v91 : Ref sig .tc := ⟨.hbm, 133, rfl⟩
abbrev main_cst_11 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_12 : Ref sig .tc := ⟨.hbm, 139, rfl⟩
abbrev main_v96 : Ref sig .tc := ⟨.hbm, 140, rfl⟩
abbrev main_v97 : Ref sig .tc := ⟨.hbm, 141, rfl⟩
abbrev main_cst_13 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_14 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c : Ref sig .tc := ⟨.hbm, 163, rfl⟩
abbrev main_v117 : Ref sig .tc := ⟨.hbm, 164, rfl⟩
abbrev main_call2_v0 : Ref sig .tc := ⟨.hbm, 165, rfl⟩
abbrev main_call2_c : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_c_0 : Ref sig .tc := ⟨.hbm, 171, rfl⟩
abbrev main_call2_v5 : Ref sig .tc := ⟨.hbm, 172, rfl⟩
abbrev main_v118 : Ref sig .tc := ⟨.hbm, 173, rfl⟩
abbrev main_call3_call0_cst : Ref sig .tc := ⟨.hbm, 174, rfl⟩
abbrev main_call3_call0_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_15 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_16 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_17 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288_0 : Ref sig .tc := ⟨.hbm, 351, rfl⟩
abbrev main_v288_1 : Ref sig .tc := ⟨.hbm, 352, rfl⟩
abbrev main_v288_2 : Ref sig .tc := ⟨.hbm, 353, rfl⟩
abbrev main_v288_3 : Ref sig .tc := ⟨.hbm, 354, rfl⟩
abbrev main_v288_4 : Ref sig .tc := ⟨.hbm, 355, rfl⟩
abbrev main_v288_5 : Ref sig .tc := ⟨.hbm, 356, rfl⟩
abbrev main_v288_6 : Ref sig .tc := ⟨.hbm, 357, rfl⟩
abbrev main_v288_7 : Ref sig .tc := ⟨.hbm, 358, rfl⟩
abbrev main_v288_8 : Ref sig .tc := ⟨.hbm, 359, rfl⟩
abbrev main_v288_9 : Ref sig .tc := ⟨.hbm, 360, rfl⟩
abbrev main_v288_10 : Ref sig .tc := ⟨.hbm, 361, rfl⟩
abbrev main_v289 : Ref sig .tc := ⟨.hbm, 362, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MixRefIdeal.lean ====
abbrev S4096x1024 : Shape := ⟨2, ![4096, 1024]⟩
abbrev S4096x8192 : Shape := ⟨2, ![4096, 8192]⟩
abbrev S2x1024 : Shape := ⟨2, ![2, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S4096 : Shape := ⟨1, ![4096]⟩
abbrev S4096x1 : Shape := ⟨2, ![4096, 1]⟩
abbrev S1024 : Shape := ⟨1, ![1024]⟩
abbrev S32x128x8x128 : Shape := ⟨4, ![32, 128, 8, 128]⟩
abbrev S32x8x128x128 : Shape := ⟨4, ![32, 8, 128, 128]⟩
abbrev S128x128 : Shape := ⟨2, ![128, 128]⟩
abbrev S32x8x128x1x128 : Shape := ⟨5, ![32, 8, 128, 1, 128]⟩
abbrev S32x8x1x128x128 : Shape := ⟨5, ![32, 8, 1, 128, 128]⟩
abbrev S32x8x128x128x128 : Shape := ⟨5, ![32, 8, 128, 128, 128]⟩
abbrev S128x128x1 : Shape := ⟨3, ![128, 128, 1]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S1x8x128x128 : Shape := ⟨4, ![1, 8, 128, 128]⟩
abbrev S16x8x128x128 : Shape := ⟨4, ![16, 8, 128, 128]⟩
abbrev S4096x8x128 : Shape := ⟨3, ![4096, 8, 128]⟩
abbrev S8x128 : Shape := ⟨2, ![8, 128]⟩
abbrev S4096x8 : Shape := ⟨2, ![4096, 8]⟩
abbrev S4096x8x1 : Shape := ⟨3, ![4096, 8, 1]⟩
abbrev S1x8x128 : Shape := ⟨3, ![1, 8, 128]⟩
abbrev S8x1024 : Shape := ⟨2, ![8, 1024]⟩
abbrev S4096x3072 : Shape := ⟨2, ![4096, 3072]⟩
abbrev S32x128x1024 : Shape := ⟨3, ![32, 128, 1024]⟩

abbrev nBuf : Space → Nat
  | .hbm => 723
  | .vmem => 0
  | .smem => 0
  | _ => 0

abbrev hbmTy0_0 (i : Nat) : BufTy := match i % 128 with
  | 0 => ⟨S4096x1024, .f32⟩
  | 1 => ⟨S4096x8192, .f32⟩
  | 2 => ⟨S2x1024, .f32⟩
  | 3 => ⟨S31x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S1x1024, .f32⟩
  | 11 => ⟨S1x1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S30x1024, .f32⟩
  | 27 => ⟨S4126x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x16384, .f32⟩
  | 60 => ⟨S4096x15360, .f32⟩
  | 61 => ⟨S4096x31744, .f32⟩
  | 62 => ⟨S4096x31x1024, .f32⟩
  | 63 => ⟨S1x31x1024, .f32⟩
  | 64 => ⟨S4096x31x1024, .f32⟩
  | 65 => ⟨S4096x31x1024, .f32⟩
  | 66 => ⟨S_, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x1024, .f32⟩
  | 86 => ⟨S4096x1024, .f32⟩
  | 87 => ⟨S_, .f32⟩
  | 88 => ⟨S4096x1, .f32⟩
  | 89 => ⟨S4096x1, .f32⟩
  | 90 => ⟨S4096x1, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S_, .f32⟩
  | 112 => ⟨S1024, .f32⟩
  | 113 => ⟨S1024, .f32⟩
  | 114 => ⟨S1x1024, .f32⟩
  | 115 => ⟨S2x1024, .f32⟩
  | 116 => ⟨S2x1024, .f32⟩
  | 117 => ⟨S2x1024, .f32⟩
  | 118 => ⟨S_, .f32⟩
  | 119 => ⟨S1024, .f32⟩
  | 120 => ⟨S1x1024, .f32⟩
  | 121 => ⟨S2x1024, .f32⟩
  | 122 => ⟨S2x1024, .f32⟩
  | 123 => ⟨S1x1024, .f32⟩
  | 124 => ⟨S1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S4096x1024, .f32⟩
  | 6 => ⟨S_, .f32⟩
  | 7 => ⟨S1024, .f32⟩
  | 8 => ⟨S1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S32x128x8x128, .f32⟩
  | 28 => ⟨S32x8x128x128, .f32⟩
  | 29 => ⟨S32x128x8x128, .f32⟩
  | 30 => ⟨S32x8x128x128, .f32⟩
  | 31 => ⟨S32x128x8x128, .f32⟩
  | 32 => ⟨S32x8x128x128, .f32⟩
  | 33 => ⟨S32x128x8x128, .f32⟩
  | 34 => ⟨S32x8x128x128, .f32⟩
  | 35 => ⟨S_, .i1⟩
  | 36 => ⟨S128x128, .i1⟩
  | 37 => ⟨S128x128, .i32⟩
  | 38 => ⟨S_, .i32⟩
  | 39 => ⟨S128x128, .i32⟩
  | 40 => ⟨S128x128, .i32⟩
  | 41 => ⟨S128x128, .i32⟩
  | 42 => ⟨S128x128, .i1⟩
  | 43 => ⟨S_, .i1⟩
  | 44 => ⟨S128x128, .i1⟩
  | 45 => ⟨S128x128, .i1⟩
  | 46 => ⟨S_, .f32⟩
  | 47 => ⟨S_, .f32⟩
  | 48 => ⟨S32x8x128x128, .f32⟩
  | 49 => ⟨S32x8x128x1x128, .f32⟩
  | 50 => ⟨S32x8x1x128x128, .f32⟩
  | 51 => ⟨S32x8x128x128x128, .f32⟩
  | 52 => ⟨S32x8x128x128x128, .f32⟩
  | 53 => ⟨S32x8x128x128x128, .f32⟩
  | 54 => ⟨S128x128x1, .i1⟩
  | 55 => ⟨S_, .f32⟩
  | 56 => ⟨S_, .f32⟩
  | 57 => ⟨S32x8x128x128x128, .i1⟩
  | 58 => ⟨S32x8x128x128x128, .f32⟩
  | 59 => ⟨S32x8x128x128x128, .f32⟩
  | 60 => ⟨S32x8x128x128x128, .f32⟩
  | 61 => ⟨S32x8x128x1x128, .f32⟩
  | 62 => ⟨S32x8x1x128x128, .f32⟩
  | 63 => ⟨S32x8x128x128x128, .f32⟩
  | 64 => ⟨S32x8x128x128x128, .f32⟩
  | 65 => ⟨S32x8x128x128x128, .f32⟩
  | 66 => ⟨S32x8x128x128x128, .f32⟩
  | 67 => ⟨S_, .f32⟩
  | 68 => ⟨S32x8x128x128, .f32⟩
  | 69 => ⟨S32x8x128x128, .f32⟩
  | 70 => ⟨S32x8x1x128, .f32⟩
  | 71 => ⟨S32x8x128x128, .f32⟩
  | 72 => ⟨S32x8x128x128, .f32⟩
  | 73 => ⟨S32x8x128x128, .f32⟩
  | 74 => ⟨S32x8x128x128, .f32⟩
  | 75 => ⟨S32x8x128x128, .f32⟩
  | 76 => ⟨S32x8x128x128, .f32⟩
  | 77 => ⟨S32x8x128x128, .f32⟩
  | 78 => ⟨S32x8x128, .f32⟩
  | 79 => ⟨S32x8x128, .f32⟩
  | 80 => ⟨S32x8x128x1, .f32⟩
  | 81 => ⟨S32x8x128x128, .f32⟩
  | 82 => ⟨S_, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S1x8x128x128, .f32⟩
  | 105 => ⟨S1x8x128x128, .f32⟩
  | 106 => ⟨S1x8x128x128, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S1x8x128x128, .f32⟩
  | 80 => ⟨S16x8x128x128, .f32⟩
  | 81 => ⟨S16x8x128x128, .f32⟩
  | 82 => ⟨S32x8x128x128, .f32⟩
  | 83 => ⟨S_, .f32⟩
  | 84 => ⟨S1x8x128x128, .f32⟩
  | 85 => ⟨S32x8x128x128, .f32⟩
  | 86 => ⟨S32x8x128x128, .f32⟩
  | 87 => ⟨S4096x1024, .f32⟩
  | 88 => ⟨S32x128x8x128, .f32⟩
  | 89 => ⟨S4096x1024, .f32⟩
  | 90 => ⟨S4096x8x128, .f32⟩
  | 91 => ⟨S8x128, .f32⟩
  | 92 => ⟨S4096x8x128, .f32⟩
  | 93 => ⟨S_, .f32⟩
  | 94 => ⟨S4096x8, .f32⟩
  | 95 => ⟨S4096x8x1, .f32⟩
  | 96 => ⟨S_, .f32⟩
  | 97 => ⟨S4096x8x1, .f32⟩
  | 98 => ⟨S4096x8x1, .f32⟩
  | 99 => ⟨S_, .f32⟩
  | 100 => ⟨S4096x8x1, .f32⟩
  | 101 => ⟨S4096x8x1, .f32⟩
  | 102 => ⟨S4096x8x1, .f32⟩
  | 103 => ⟨S4096x8x1, .f32⟩
  | 104 => ⟨S_, .f32⟩
  | 105 => ⟨S4096x8x1, .f32⟩
  | 106 => ⟨S4096x8x1, .f32⟩
  | 107 => ⟨S4096x8x128, .f32⟩
  | 108 => ⟨S4096x8x128, .f32⟩
  | 109 => ⟨S1x8x128, .f32⟩
  | 110 => ⟨S4096x8x128, .f32⟩
  | 111 => ⟨S4096x8x128, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_3 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S1024, .f32⟩
  | 58 => ⟨S1x1024, .f32⟩
  | 59 => ⟨S4096x1024, .f32⟩
  | 60 => ⟨S_, .f32⟩
  | 61 => ⟨S1024, .f32⟩
  | 62 => ⟨S1x1024, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S4096x1024, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x8x128, .f32⟩
  | 98 => ⟨S4096x8x128, .f32⟩
  | 99 => ⟨S_, .f32⟩
  | 100 => ⟨S8x128, .f32⟩
  | 101 => ⟨S1x8x128, .f32⟩
  | 102 => ⟨S4096x8x128, .f32⟩
  | 103 => ⟨S4096x8x128, .f32⟩
  | 104 => ⟨S_, .f32⟩
  | 105 => ⟨S8x128, .f32⟩
  | 106 => ⟨S4096x8x128, .f32⟩
  | 107 => ⟨S_, .f32⟩
  | 108 => ⟨S4096x8, .f32⟩
  | 109 => ⟨S4096x8x1, .f32⟩
  | 110 => ⟨S4096x8x128, .f32⟩
  | 111 => ⟨S4096x8x128, .f32⟩
  | 112 => ⟨S4096x8x1, .f32⟩
  | 113 => ⟨S_, .f32⟩
  | 114 => ⟨S4096x8x1, .f32⟩
  | 115 => ⟨S4096x8x1, .f32⟩
  | 116 => ⟨S_, .f32⟩
  | 117 => ⟨S4096x8, .f32⟩
  | 118 => ⟨S4096x8x128, .f32⟩
  | 119 => ⟨S4096x8x128, .f32⟩
  | 120 => ⟨S4096x8x128, .f32⟩
  | 121 => ⟨S4096x8x128, .f32⟩
  | 122 => ⟨S4096x8x128, .f32⟩
  | 123 => ⟨S1x1024, .f32⟩
  | 124 => ⟨S4096x1024, .f32⟩
  | 125 => ⟨S32x128x8x128, .f32⟩
  | 126 => ⟨S32x8x128x128, .f32⟩
  | 127 => ⟨S32x8x128x128, .f32⟩
  | _ => ⟨S4096x1024, .f32⟩

abbrev hbmTy0_4 (i : Nat) : BufTy := match i % 128 with
  | 0 => ⟨S32x8x128x128, .f32⟩
  | 1 => ⟨S32x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S_, .f32⟩
  | 35 => ⟨S32x8x128x128, .f32⟩
  | 36 => ⟨S1x8x128x128, .f32⟩
  | 37 => ⟨S1x8x128x128, .f32⟩
  | 38 => ⟨S_, .f32⟩
  | 39 => ⟨S32x8x128x128, .f32⟩
  | 40 => ⟨S32x8x128x128, .f32⟩
  | 41 => ⟨S1x8x128x128, .f32⟩
  | 42 => ⟨S1x8x128x128, .f32⟩
  | 43 => ⟨S_, .f32⟩
  | 44 => ⟨S32x8x128x128, .f32⟩
  | 45 => ⟨S32x8x128x128, .f32⟩
  | 46 => ⟨S1x8x128x128, .f32⟩
  | 47 => ⟨S1x8x128x128, .f32⟩
  | 48 => ⟨S_, .f32⟩
  | 49 => ⟨S32x8x128x128, .f32⟩
  | 50 => ⟨S32x8x128x128, .f32⟩
  | 51 => ⟨S1x8x128x128, .f32⟩
  | 52 => ⟨S1x8x128x128, .f32⟩
  | 53 => ⟨S_, .f32⟩
  | 54 => ⟨S32x8x128x128, .f32⟩
  | 55 => ⟨S32x8x128x128, .f32⟩
  | 56 => ⟨S1x8x128x128, .f32⟩
  | 57 => ⟨S1x8x128x128, .f32⟩
  | 58 => ⟨S_, .f32⟩
  | 59 => ⟨S32x8x128x128, .f32⟩
  | 60 => ⟨S32x8x128x128, .f32⟩
  | 61 => ⟨S1x8x128x128, .f32⟩
  | 62 => ⟨S1x8x128x128, .f32⟩
  | 63 => ⟨S_, .f32⟩
  | 64 => ⟨S32x8x128x128, .f32⟩
  | 65 => ⟨S32x8x128x128, .f32⟩
  | 66 => ⟨S1x8x128x128, .f32⟩
  | 67 => ⟨S1x8x128x128, .f32⟩
  | 68 => ⟨S_, .f32⟩
  | 69 => ⟨S32x8x128x128, .f32⟩
  | 70 => ⟨S32x8x128x128, .f32⟩
  | 71 => ⟨S1x8x128x128, .f32⟩
  | 72 => ⟨S1x8x128x128, .f32⟩
  | 73 => ⟨S_, .f32⟩
  | 74 => ⟨S32x8x128x128, .f32⟩
  | 75 => ⟨S32x8x128x128, .f32⟩
  | 76 => ⟨S1x8x128x128, .f32⟩
  | 77 => ⟨S1x8x128x128, .f32⟩
  | 78 => ⟨S_, .f32⟩
  | 79 => ⟨S32x8x128x128, .f32⟩
  | 80 => ⟨S32x8x128x128, .f32⟩
  | 81 => ⟨S1x8x128x128, .f32⟩
  | 82 => ⟨S1x8x128x128, .f32⟩
  | 83 => ⟨S_, .f32⟩
  | 84 => ⟨S32x8x128x128, .f32⟩
  | 85 => ⟨S32x8x128x128, .f32⟩
  | 86 => ⟨S1x8x128x128, .f32⟩
  | 87 => ⟨S1x8x128x128, .f32⟩
  | 88 => ⟨S_, .f32⟩
  | 89 => ⟨S32x8x128x128, .f32⟩
  | 90 => ⟨S32x8x128x128, .f32⟩
  | 91 => ⟨S1x8x128x128, .f32⟩
  | 92 => ⟨S1x8x128x128, .f32⟩
  | 93 => ⟨S_, .f32⟩
  | 94 => ⟨S32x8x128x128, .f32⟩
  | 95 => ⟨S32x8x128x128, .f32⟩
  | 96 => ⟨S1x8x128x128, .f32⟩
  | 97 => ⟨S1x8x128x128, .f32⟩
  | 98 => ⟨S_, .f32⟩
  | 99 => ⟨S32x8x128x128, .f32⟩
  | 100 => ⟨S32x8x128x128, .f32⟩
  | 101 => ⟨S1x8x128x128, .f32⟩
  | 102 => ⟨S1x8x128x128, .f32⟩
  | 103 => ⟨S_, .f32⟩
  | 104 => ⟨S32x8x128x128, .f32⟩
  | 105 => ⟨S32x8x128x128, .f32⟩
  | 106 => ⟨S1x8x128x128, .f32⟩
  | 107 => ⟨S1x8x128x128, .f32⟩
  | 108 => ⟨S_, .f32⟩
  | 109 => ⟨S32x8x128x128, .f32⟩
  | 110 => ⟨S32x8x128x128, .f32⟩
  | 111 => ⟨S1x8x128x128, .f32⟩
  | 112 => ⟨S1x8x128x128, .f32⟩
  | 113 => ⟨S_, .f32⟩
  | 114 => ⟨S32x8x128x128, .f32⟩
  | 115 => ⟨S32x8x128x128, .f32⟩
  | 116 => ⟨S1x8x128x128, .f32⟩
  | 117 => ⟨S1x8x128x128, .f32⟩
  | 118 => ⟨S_, .f32⟩
  | 119 => ⟨S32x8x128x128, .f32⟩
  | 120 => ⟨S32x8x128x128, .f32⟩
  | 121 => ⟨S1x8x128x128, .f32⟩
  | 122 => ⟨S1x8x128x128, .f32⟩
  | 123 => ⟨S_, .f32⟩
  | 124 => ⟨S32x8x128x128, .f32⟩
  | 125 => ⟨S32x8x128x128, .f32⟩
  | 126 => ⟨S1x8x128x128, .f32⟩
  | 127 => ⟨S1x8x128x128, .f32⟩
  | _ => ⟨S4096x1024, .f32⟩

abbrev hbmTy0_5 (i : Nat) : BufTy := match i % 128 with
  | 0 => ⟨S_, .f32⟩
  | 1 => ⟨S32x8x128x128, .f32⟩
  | 2 => ⟨S32x8x128x128, .f32⟩
  | 3 => ⟨S1x8x128x128, .f32⟩
  | 4 => ⟨S1x8x128x128, .f32⟩
  | 5 => ⟨S_, .f32⟩
  | 6 => ⟨S32x8x128x128, .f32⟩
  | 7 => ⟨S32x8x128x128, .f32⟩
  | 8 => ⟨S1x8x128x128, .f32⟩
  | 9 => ⟨S1x8x128x128, .f32⟩
  | 10 => ⟨S_, .f32⟩
  | 11 => ⟨S32x8x128x128, .f32⟩
  | 12 => ⟨S32x8x128x128, .f32⟩
  | 13 => ⟨S1x8x128x128, .f32⟩
  | 14 => ⟨S1x8x128x128, .f32⟩
  | 15 => ⟨S_, .f32⟩
  | 16 => ⟨S32x8x128x128, .f32⟩
  | 17 => ⟨S32x8x128x128, .f32⟩
  | 18 => ⟨S1x8x128x128, .f32⟩
  | 19 => ⟨S1x8x128x128, .f32⟩
  | 20 => ⟨S_, .f32⟩
  | 21 => ⟨S32x8x128x128, .f32⟩
  | 22 => ⟨S32x8x128x128, .f32⟩
  | 23 => ⟨S1x8x128x128, .f32⟩
  | 24 => ⟨S1x8x128x128, .f32⟩
  | 25 => ⟨S_, .f32⟩
  | 26 => ⟨S32x8x128x128, .f32⟩
  | 27 => ⟨S32x8x128x128, .f32⟩
  | 28 => ⟨S1x8x128x128, .f32⟩
  | 29 => ⟨S1x8x128x128, .f32⟩
  | 30 => ⟨S_, .f32⟩
  | 31 => ⟨S32x8x128x128, .f32⟩
  | 32 => ⟨S32x8x128x128, .f32⟩
  | 33 => ⟨S1x8x128x128, .f32⟩
  | 34 => ⟨S1x8x128x128, .f32⟩
  | 35 => ⟨S_, .f32⟩
  | 36 => ⟨S32x8x128x128, .f32⟩
  | 37 => ⟨S32x8x128x128, .f32⟩
  | 38 => ⟨S1x8x128x128, .f32⟩
  | 39 => ⟨S1x8x128x128, .f32⟩
  | 40 => ⟨S_, .f32⟩
  | 41 => ⟨S32x8x128x128, .f32⟩
  | 42 => ⟨S32x8x128x128, .f32⟩
  | 43 => ⟨S1x8x128x128, .f32⟩
  | 44 => ⟨S1x8x128x128, .f32⟩
  | 45 => ⟨S_, .f32⟩
  | 46 => ⟨S32x8x128x128, .f32⟩
  | 47 => ⟨S32x8x128x128, .f32⟩
  | 48 => ⟨S1x8x128x128, .f32⟩
  | 49 => ⟨S1x8x128x128, .f32⟩
  | 50 => ⟨S_, .f32⟩
  | 51 => ⟨S32x8x128x128, .f32⟩
  | 52 => ⟨S32x8x128x128, .f32⟩
  | 53 => ⟨S1x8x128x128, .f32⟩
  | 54 => ⟨S1x8x128x128, .f32⟩
  | 55 => ⟨S_, .f32⟩
  | 56 => ⟨S32x8x128x128, .f32⟩
  | 57 => ⟨S32x8x128x128, .f32⟩
  | 58 => ⟨S_, .f32⟩
  | 59 => ⟨S1024, .f32⟩
  | 60 => ⟨S1x1024, .f32⟩
  | 61 => ⟨S_, .f32⟩
  | 62 => ⟨S1024, .f32⟩
  | 63 => ⟨S1x1024, .f32⟩
  | 64 => ⟨S_, .f32⟩
  | 65 => ⟨S1024, .f32⟩
  | 66 => ⟨S1x1024, .f32⟩
  | 67 => ⟨S_, .f32⟩
  | 68 => ⟨S2x1024, .f32⟩
  | 69 => ⟨S8x1024, .f32⟩
  | 70 => ⟨S4096x3072, .f32⟩
  | 71 => ⟨S4096x3072, .bf16⟩
  | 72 => ⟨S32x128x8x128, .f32⟩
  | 73 => ⟨S4096x1024, .f32⟩
  | 74 => ⟨S32x128x8x128, .f32⟩
  | 75 => ⟨S4096x1024, .f32⟩
  | 76 => ⟨S32x128x8x128, .f32⟩
  | 77 => ⟨S32x128x1024, .f32⟩
  | 78 => ⟨S4096x1024, .bf16⟩
  | 79 => ⟨S4096x1024, .bf16⟩
  | 80 => ⟨S4096x1024, .bf16⟩
  | 81 => ⟨S4096x1024, .bf16⟩
  | 82 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v91 : Ref sig .tc := ⟨.hbm, 133, rfl⟩
abbrev main_cst_11 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_12 : Ref sig .tc := ⟨.hbm, 139, rfl⟩
abbrev main_v96 : Ref sig .tc := ⟨.hbm, 140, rfl⟩
abbrev main_v97 : Ref sig .tc := ⟨.hbm, 141, rfl⟩
abbrev main_cst_13 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_14 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c : Ref sig .tc := ⟨.hbm, 163, rfl⟩
abbrev main_v117 : Ref sig .tc := ⟨.hbm, 164, rfl⟩
abbrev main_call2_v0 : Ref sig .tc := ⟨.hbm, 165, rfl⟩
abbrev main_call2_c : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_c_0 : Ref sig .tc := ⟨.hbm, 171, rfl⟩
abbrev main_call2_v5 : Ref sig .tc := ⟨.hbm, 172, rfl⟩
abbrev main_v118 : Ref sig .tc := ⟨.hbm, 173, rfl⟩
abbrev main_call3_call0_cst : Ref sig .tc := ⟨.hbm, 174, rfl⟩
abbrev main_call3_call0_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_15 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_16 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_17 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_cst_18 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_cst_19 : Ref sig .tc := ⟨.hbm, 349, rfl⟩
abbrev main_v285 : Ref sig .tc := ⟨.hbm, 350, rfl⟩
abbrev main_v286 : Ref sig .tc := ⟨.hbm, 351, rfl⟩
abbrev main_cst_20 : Ref sig .tc := ⟨.hbm, 352, rfl⟩
abbrev main_v287 : Ref sig .tc := ⟨.hbm, 353, rfl⟩
abbrev main_v288 : Ref sig .tc := ⟨.hbm, 354, rfl⟩
abbrev main_cst_21 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_cst_22 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_call5_v0 : Ref sig .tc := ⟨.hbm, 369, rfl⟩
abbrev main_call5_v1 : Ref sig .tc := ⟨.hbm, 370, rfl⟩
abbrev main_call5_cst : Ref sig .tc := ⟨.hbm, 371, rfl⟩
abbrev main_call5_v2 : Ref sig .tc := ⟨.hbm, 372, rfl⟩
abbrev main_call5_v3 : Ref sig .tc := ⟨.hbm, 373, rfl⟩
abbrev main_call5_cst_0 : Ref sig .tc := ⟨.hbm, 374, rfl⟩
abbrev main_call5_v4 : Ref sig .tc := ⟨.hbm, 375, rfl⟩
abbrev main_v301_2 : Ref sig .tc := ⟨.hbm, 376, rfl⟩
abbrev main_call5_cst_1 : Ref sig .tc := ⟨.hbm, 377, rfl⟩
abbrev main_call5_v6 : Ref sig .tc := ⟨.hbm, 378, rfl⟩
abbrev main_call5_v7 : Ref sig .tc := ⟨.hbm, 379, rfl⟩
abbrev main_v301_1 : Ref sig .tc := ⟨.hbm, 380, rfl⟩
abbrev main_v301_0 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_cst_23 : Ref sig .tc := ⟨.hbm, 389, rfl⟩
abbrev main_v309 : Ref sig .tc := ⟨.hbm, 390, rfl⟩
abbrev main_v310 : Ref sig .tc := ⟨.hbm, 391, rfl⟩
abbrev main_cst_24 : Ref sig .tc := ⟨.hbm, 392, rfl⟩
abbrev main_v311 : Ref sig .tc := ⟨.hbm, 393, rfl⟩
abbrev main_v312 : Ref sig .tc := ⟨.hbm, 394, rfl⟩
abbrev main_cst_25 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_cst_26 : Ref sig .tc := ⟨.hbm, 402, rfl⟩
abbrev main_v319 : Ref sig .tc := ⟨.hbm, 403, rfl⟩
abbrev main_v320 : Ref sig .tc := ⟨.hbm, 404, rfl⟩
abbrev main_cst_27 : Ref sig .tc := ⟨.hbm, 405, rfl⟩
abbrev main_v321 : Ref sig .tc := ⟨.hbm, 406, rfl⟩
abbrev main_v322 : Ref sig .tc := ⟨.hbm, 407, rfl⟩
abbrev main_cst_28 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_cst_29 : Ref sig .tc := ⟨.hbm, 416, rfl⟩
abbrev main_v330 : Ref sig .tc := ⟨.hbm, 417, rfl⟩
abbrev main_v331 : Ref sig .tc := ⟨.hbm, 418, rfl⟩
abbrev main_cst_30 : Ref sig .tc := ⟨.hbm, 419, rfl⟩
abbrev main_v332 : Ref sig .tc := ⟨.hbm, 420, rfl⟩
abbrev main_v333 : Ref sig .tc := ⟨.hbm, 421, rfl⟩
abbrev main_cst_31 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_cst_32 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_v345 : Ref sig .tc := ⟨.hbm, 435, rfl⟩
abbrev main_v346 : Ref sig .tc := ⟨.hbm, 436, rfl⟩
abbrev main_v347 : Ref sig .tc := ⟨.hbm, 437, rfl⟩
abbrev main_v348 : Ref sig .tc := ⟨.hbm, 438, rfl⟩
abbrev main_v349 : Ref sig .tc := ⟨.hbm, 439, rfl⟩
abbrev main_cst_33 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_cst_34 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_cst_35 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_cst_36 : Ref sig .tc := ⟨.hbm, 456, rfl⟩
abbrev main_v363 : Ref sig .tc := ⟨.hbm, 457, rfl⟩
abbrev main_v364 : Ref sig .tc := ⟨.hbm, 458, rfl⟩
abbrev main_cst_37 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_call6_v0 : Ref sig .tc := ⟨.hbm, 477, rfl⟩
abbrev main_call6_v1 : Ref sig .tc := ⟨.hbm, 478, rfl⟩
abbrev main_call6_v2 : Ref sig .tc := ⟨.hbm, 479, rfl⟩
abbrev main_v382 : Ref sig .tc := ⟨.hbm, 480, rfl⟩
abbrev main_v383 : Ref sig .tc := ⟨.hbm, 481, rfl⟩
abbrev main_v384 : Ref sig .tc := ⟨.hbm, 482, rfl⟩
abbrev main_cst_38 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_cst_39 : Ref sig .tc := ⟨.hbm, 488, rfl⟩
abbrev main_v389 : Ref sig .tc := ⟨.hbm, 489, rfl⟩
abbrev main_v390 : Ref sig .tc := ⟨.hbm, 490, rfl⟩
abbrev main_cst_40 : Ref sig .tc := ⟨.hbm, 491, rfl⟩
abbrev main_v391 : Ref sig .tc := ⟨.hbm, 492, rfl⟩
abbrev main_v392 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_cst_41 : Ref sig .tc := ⟨.hbm, 497, rfl⟩
abbrev main_v396 : Ref sig .tc := ⟨.hbm, 498, rfl⟩
abbrev main_v397 : Ref sig .tc := ⟨.hbm, 499, rfl⟩
abbrev main_cst_42 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_v411 : Ref sig .tc := ⟨.hbm, 514, rfl⟩
abbrev main_v412 : Ref sig .tc := ⟨.hbm, 515, rfl⟩
abbrev main_v413 : Ref sig .tc := ⟨.hbm, 516, rfl⟩
abbrev main_v414 : Ref sig .tc := ⟨.hbm, 517, rfl⟩
abbrev main_v415 : Ref sig .tc := ⟨.hbm, 518, rfl⟩
abbrev main_v416 : Ref sig .tc := ⟨.hbm, 519, rfl⟩
abbrev main_v417 : Ref sig .tc := ⟨.hbm, 520, rfl⟩
abbrev main_v418 : Ref sig .tc := ⟨.hbm, 521, rfl⟩
abbrev main_v419 : Ref sig .tc := ⟨.hbm, 522, rfl⟩
abbrev main_v420 : Ref sig .tc := ⟨.hbm, 523, rfl⟩
abbrev main_v421 : Ref sig .tc := ⟨.hbm, 524, rfl⟩
abbrev main_v422 : Ref sig .tc := ⟨.hbm, 525, rfl⟩
abbrev main_v423 : Ref sig .tc := ⟨.hbm, 526, rfl⟩
abbrev main_v424 : Ref sig .tc := ⟨.hbm, 527, rfl⟩
abbrev main_v425 : Ref sig .tc := ⟨.hbm, 528, rfl⟩
abbrev main_v426 : Ref sig .tc := ⟨.hbm, 529, rfl⟩
abbrev main_v427 : Ref sig .tc := ⟨.hbm, 530, rfl⟩
abbrev main_v428 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_v434 : Ref sig .tc := ⟨.hbm, 537, rfl⟩
abbrev main_v435 : Ref sig .tc := ⟨.hbm, 538, rfl⟩
abbrev main_v436 : Ref sig .tc := ⟨.hbm, 539, rfl⟩
abbrev main_v437 : Ref sig .tc := ⟨.hbm, 540, rfl⟩
abbrev main_v438 : Ref sig .tc := ⟨.hbm, 541, rfl⟩
abbrev main_v439 : Ref sig .tc := ⟨.hbm, 542, rfl⟩
abbrev main_v440 : Ref sig .tc := ⟨.hbm, 543, rfl⟩
abbrev main_v441 : Ref sig .tc := ⟨.hbm, 544, rfl⟩
abbrev main_v442 : Ref sig .tc := ⟨.hbm, 545, rfl⟩
abbrev main_cst_43 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_cst_44 : Ref sig .tc := ⟨.hbm, 550, rfl⟩
abbrev main_v446 : Ref sig .tc := ⟨.hbm, 551, rfl⟩
abbrev main_v447 : Ref sig .tc := ⟨.hbm, 552, rfl⟩
abbrev main_v448 : Ref sig .tc := ⟨.hbm, 553, rfl⟩
abbrev main_v449 : Ref sig .tc := ⟨.hbm, 554, rfl⟩
abbrev main_cst_45 : Ref sig .tc := ⟨.hbm, 555, rfl⟩
abbrev main_v450 : Ref sig .tc := ⟨.hbm, 556, rfl⟩
abbrev main_v451 : Ref sig .tc := ⟨.hbm, 557, rfl⟩
abbrev main_v452 : Ref sig .tc := ⟨.hbm, 558, rfl⟩
abbrev main_v453 : Ref sig .tc := ⟨.hbm, 559, rfl⟩
abbrev main_cst_46 : Ref sig .tc := ⟨.hbm, 560, rfl⟩
abbrev main_v454 : Ref sig .tc := ⟨.hbm, 561, rfl⟩
abbrev main_v455 : Ref sig .tc := ⟨.hbm, 562, rfl⟩
abbrev main_v456 : Ref sig .tc := ⟨.hbm, 563, rfl⟩
abbrev main_v457 : Ref sig .tc := ⟨.hbm, 564, rfl⟩
abbrev main_cst_47 : Ref sig .tc := ⟨.hbm, 565, rfl⟩
abbrev main_v458 : Ref sig .tc := ⟨.hbm, 566, rfl⟩
abbrev main_v459 : Ref sig .tc := ⟨.hbm, 567, rfl⟩
abbrev main_v460 : Ref sig .tc := ⟨.hbm, 568, rfl⟩
abbrev main_v461 : Ref sig .tc := ⟨.hbm, 569, rfl⟩
abbrev main_cst_48 : Ref sig .tc := ⟨.hbm, 570, rfl⟩
abbrev main_v462 : Ref sig .tc := ⟨.hbm, 571, rfl⟩
abbrev main_v463 : Ref sig .tc := ⟨.hbm, 572, rfl⟩
abbrev main_v464 : Ref sig .tc := ⟨.hbm, 573, rfl⟩
abbrev main_v465 : Ref sig .tc := ⟨.hbm, 574, rfl⟩
abbrev main_cst_49 : Ref sig .tc := ⟨.hbm, 575, rfl⟩
abbrev main_v466 : Ref sig .tc := ⟨.hbm, 576, rfl⟩
abbrev main_v467 : Ref sig .tc := ⟨.hbm, 577, rfl⟩
abbrev main_v468 : Ref sig .tc := ⟨.hbm, 578, rfl⟩
abbrev main_v469 : Ref sig .tc := ⟨.hbm, 579, rfl⟩
abbrev main_cst_50 : Ref sig .tc := ⟨.hbm, 580, rfl⟩
abbrev main_v470 : Ref sig .tc := ⟨.hbm, 581, rfl⟩
abbrev main_v471 : Ref sig .tc := ⟨.hbm, 582, rfl⟩
abbrev main_v472 : Ref sig .tc := ⟨.hbm, 583, rfl⟩
abbrev main_v473 : Ref sig .tc := ⟨.hbm, 584, rfl⟩
abbrev main_cst_51 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_cst_52 : Ref sig .tc := ⟨.hbm, 590, rfl⟩
abbrev main_v478 : Ref sig .tc := ⟨.hbm, 591, rfl⟩
abbrev main_v479 : Ref sig .tc := ⟨.hbm, 592, rfl⟩
abbrev main_v480 : Ref sig .tc := ⟨.hbm, 593, rfl⟩
abbrev main_v481 : Ref sig .tc := ⟨.hbm, 594, rfl⟩
abbrev main_cst_53 : Ref sig .tc := ⟨.hbm, 595, rfl⟩
abbrev main_v482 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_cst_54 : Ref sig .tc := ⟨.hbm, 600, rfl⟩
abbrev main_v486 : Ref sig .tc := ⟨.hbm, 601, rfl⟩
abbrev main_v487 : Ref sig .tc := ⟨.hbm, 602, rfl⟩
abbrev main_v488 : Ref sig .tc := ⟨.hbm, 603, rfl⟩
abbrev main_v489 : Ref sig .tc := ⟨.hbm, 604, rfl⟩
abbrev main_cst_55 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_v493 : Ref sig .tc := ⟨.hbm, 609, rfl⟩
abbrev main_cst_56 : Ref sig .tc := ⟨.hbm, 610, rfl⟩
abbrev main_v494 : Ref sig .tc := ⟨.hbm, 611, rfl⟩
abbrev main_v495 : Ref sig .tc := ⟨.hbm, 612, rfl⟩
abbrev main_v496 : Ref sig .tc := ⟨.hbm, 613, rfl⟩
abbrev main_v497 : Ref sig .tc := ⟨.hbm, 614, rfl⟩
abbrev main_cst_57 : Ref sig .tc := ⟨.hbm, 615, rfl⟩
abbrev main_v498 : Ref sig .tc := ⟨.hbm, 616, rfl⟩
abbrev main_v499 : Ref sig .tc := ⟨.hbm, 617, rfl⟩
abbrev main_v500 : Ref sig .tc := ⟨.hbm, 618, rfl⟩
abbrev main_v501 : Ref sig .tc := ⟨.hbm, 619, rfl⟩
abbrev main_cst_58 : Ref sig .tc := ⟨.hbm, 620, rfl⟩
abbrev main_v502 : Ref sig .tc := ⟨.hbm, 621, rfl⟩
abbrev main_v503 : Ref sig .tc := ⟨.hbm, 622, rfl⟩
abbrev main_v504 : Ref sig .tc := ⟨.hbm, 623, rfl⟩
abbrev main_v505 : Ref sig .tc := ⟨.hbm, 624, rfl⟩
abbrev main_cst_59 : Ref sig .tc := ⟨.hbm, 625, rfl⟩
abbrev main_v506 : Ref sig .tc := ⟨.hbm, 626, rfl⟩
abbrev main_v507 : Ref sig .tc := ⟨.hbm, 627, rfl⟩
abbrev main_v508 : Ref sig .tc := ⟨.hbm, 628, rfl⟩
abbrev main_v509 : Ref sig .tc := ⟨.hbm, 629, rfl⟩
abbrev main_cst_60 : Ref sig .tc := ⟨.hbm, 630, rfl⟩
abbrev main_v510 : Ref sig .tc := ⟨.hbm, 631, rfl⟩
abbrev main_v511 : Ref sig .tc := ⟨.hbm, 632, rfl⟩
abbrev main_v512 : Ref sig .tc := ⟨.hbm, 633, rfl⟩
abbrev main_v513 : Ref sig .tc := ⟨.hbm, 634, rfl⟩
abbrev main_cst_61 : Ref sig .tc := ⟨.hbm, 635, rfl⟩
abbrev main_v514 : Ref sig .tc := ⟨.hbm, 636, rfl⟩
abbrev main_v515 : Ref sig .tc := ⟨.hbm, 637, rfl⟩
abbrev main_v516 : Ref sig .tc := ⟨.hbm, 638, rfl⟩
abbrev main_v517 : Ref sig .tc := ⟨.hbm, 639, rfl⟩
abbrev main_cst_62 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_cst_63 : Ref sig .tc := ⟨.hbm, 645, rfl⟩
abbrev main_v522 : Ref sig .tc := ⟨.hbm, 646, rfl⟩
abbrev main_v523 : Ref sig .tc := ⟨.hbm, 647, rfl⟩
abbrev main_v524 : Ref sig .tc := ⟨.hbm, 648, rfl⟩
abbrev main_v525 : Ref sig .tc := ⟨.hbm, 649, rfl⟩
abbrev main_cst_64 : Ref sig .tc := ⟨.hbm, 650, rfl⟩
abbrev main_v526 : Ref sig .tc := ⟨.hbm, 651, rfl⟩
abbrev main_v527 : Ref sig .tc := ⟨.hbm, 652, rfl⟩
abbrev main_v528 : Ref sig .tc := ⟨.hbm, 653, rfl⟩
abbrev main_v529 : Ref sig .tc := ⟨.hbm, 654, rfl⟩
abbrev main_cst_65 : Ref sig .tc := ⟨.hbm, 655, rfl⟩
abbrev main_v530 : Ref sig .tc := ⟨.hbm, 656, rfl⟩
abbrev main_v531 : Ref sig .tc := ⟨.hbm, 657, rfl⟩
abbrev main_v532 : Ref sig .tc := ⟨.hbm, 658, rfl⟩
abbrev main_v533 : Ref sig .tc := ⟨.hbm, 659, rfl⟩
abbrev main_cst_66 : Ref sig .tc := ⟨.hbm, 660, rfl⟩
abbrev main_v534 : Ref sig .tc := ⟨.hbm, 661, rfl⟩
abbrev main_v535 : Ref sig .tc := ⟨.hbm, 662, rfl⟩
abbrev main_v536 : Ref sig .tc := ⟨.hbm, 663, rfl⟩
abbrev main_v537 : Ref sig .tc := ⟨.hbm, 664, rfl⟩
abbrev main_cst_67 : Ref sig .tc := ⟨.hbm, 665, rfl⟩
abbrev main_v538 : Ref sig .tc := ⟨.hbm, 666, rfl⟩
abbrev main_v539 : Ref sig .tc := ⟨.hbm, 667, rfl⟩
abbrev main_v540 : Ref sig .tc := ⟨.hbm, 668, rfl⟩
abbrev main_v541 : Ref sig .tc := ⟨.hbm, 669, rfl⟩
abbrev main_cst_68 : Ref sig .tc := ⟨.hbm, 670, rfl⟩
abbrev main_v542 : Ref sig .tc := ⟨.hbm, 671, rfl⟩
abbrev main_v543 : Ref sig .tc := ⟨.hbm, 672, rfl⟩
abbrev main_v544 : Ref sig .tc := ⟨.hbm, 673, rfl⟩
abbrev main_v545 : Ref sig .tc := ⟨.hbm, 674, rfl⟩
abbrev main_cst_69 : Ref sig .tc := ⟨.hbm, 675, rfl⟩
abbrev main_v546 : Ref sig .tc := ⟨.hbm, 676, rfl⟩
abbrev main_v547 : Ref sig .tc := ⟨.hbm, 677, rfl⟩
abbrev main_v548 : Ref sig .tc := ⟨.hbm, 678, rfl⟩
abbrev main_v549 : Ref sig .tc := ⟨.hbm, 679, rfl⟩
abbrev main_cst_70 : Ref sig .tc := ⟨.hbm, 680, rfl⟩
abbrev main_v550 : Ref sig .tc := ⟨.hbm, 681, rfl⟩
abbrev main_v551 : Ref sig .tc := ⟨.hbm, 682, rfl⟩
abbrev main_v552 : Ref sig .tc := ⟨.hbm, 683, rfl⟩
abbrev main_v553 : Ref sig .tc := ⟨.hbm, 684, rfl⟩
abbrev main_cst_71 : Ref sig .tc := ⟨.hbm, 685, rfl⟩
abbrev main_v554 : Ref sig .tc := ⟨.hbm, 686, rfl⟩
abbrev main_v555 : Ref sig .tc := ⟨.hbm, 687, rfl⟩
abbrev main_v556 : Ref sig .tc := ⟨.hbm, 688, rfl⟩
abbrev main_v557 : Ref sig .tc := ⟨.hbm, 689, rfl⟩
abbrev main_cst_72 : Ref sig .tc := ⟨.hbm, 690, rfl⟩
abbrev main_v558 : Ref sig .tc := ⟨.hbm, 691, rfl⟩
abbrev main_v559 : Ref sig .tc := ⟨.hbm, 692, rfl⟩
abbrev main_v560 : Ref sig .tc := ⟨.hbm, 693, rfl⟩
abbrev main_v561 : Ref sig .tc := ⟨.hbm, 694, rfl⟩
abbrev main_cst_73 : Ref sig .tc := ⟨.hbm, 695, rfl⟩
abbrev main_v562 : Ref sig .tc := ⟨.hbm, 696, rfl⟩
abbrev main_v563 : Ref sig .tc := ⟨.hbm, 697, rfl⟩
abbrev main_cst_74 : Ref sig .tc := ⟨.hbm, 698, rfl⟩
abbrev main_v564 : Ref sig .tc := ⟨.hbm, 699, rfl⟩
abbrev main_v565 : Ref sig .tc := ⟨.hbm, 700, rfl⟩
abbrev main_cst_75 : Ref sig .tc := ⟨.hbm, 701, rfl⟩
abbrev main_v566 : Ref sig .tc := ⟨.hbm, 702, rfl⟩
abbrev main_v567 : Ref sig .tc := ⟨.hbm, 703, rfl⟩
abbrev main_cst_76 : Ref sig .tc := ⟨.hbm, 704, rfl⟩
abbrev main_v568 : Ref sig .tc := ⟨.hbm, 705, rfl⟩
abbrev main_v569 : Ref sig .tc := ⟨.hbm, 706, rfl⟩
abbrev main_cst_77 : Ref sig .tc := ⟨.hbm, 707, rfl⟩
abbrev main_v570 : Ref sig .tc := ⟨.hbm, 708, rfl⟩
abbrev main_v571 : Ref sig .tc := ⟨.hbm, 709, rfl⟩
abbrev main_v572 : Ref sig .tc := ⟨.hbm, 710, rfl⟩
abbrev main_v573 : Ref sig .tc := ⟨.hbm, 711, rfl⟩
abbrev main_v574 : Ref sig .tc := ⟨.hbm, 712, rfl⟩
abbrev main_v575 : Ref sig .tc := ⟨.hbm, 713, rfl⟩
abbrev main_v576 : Ref sig .tc := ⟨.hbm, 714, rfl⟩
abbrev main_v577 : Ref sig .tc := ⟨.hbm, 715, rfl⟩
abbrev main_v578 : Ref sig .tc := ⟨.hbm, 716, rfl⟩
abbrev main_v579 : Ref sig .tc := ⟨.hbm, 717, rfl⟩
abbrev main_v580 : Ref sig .tc := ⟨.hbm, 718, rfl⟩
abbrev main_v581 : Ref sig .tc := ⟨.hbm, 719, rfl⟩
abbrev main_v582 : Ref sig .tc := ⟨.hbm, 720, rfl⟩
abbrev main_v583 : Ref sig .tc := ⟨.hbm, 721, rfl⟩
abbrev main_v584 : Ref sig .tc := ⟨.hbm, 722, rfl⟩

abbrev nD : Nat := 1
abbrev τ : Topo := Topo.v7x

variable {F : FTy → Type} [FloatOps F]
-- ==== MixFwd.lean ====
abbrev S4096x1024 : Shape := ⟨2, ![4096, 1024]⟩
abbrev S4096x8192 : Shape := ⟨2, ![4096, 8192]⟩
abbrev S2x1024 : Shape := ⟨2, ![2, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S4096 : Shape := ⟨1, ![4096]⟩
abbrev S4096x1 : Shape := ⟨2, ![4096, 1]⟩
abbrev S1024 : Shape := ⟨1, ![1024]⟩
abbrev S32x128x8x128 : Shape := ⟨4, ![32, 128, 8, 128]⟩
abbrev S32x8x128x128 : Shape := ⟨4, ![32, 8, 128, 128]⟩
abbrev S128x128 : Shape := ⟨2, ![128, 128]⟩
abbrev S32x8x128x1x128 : Shape := ⟨5, ![32, 8, 128, 1, 128]⟩
abbrev S32x8x1x128x128 : Shape := ⟨5, ![32, 8, 1, 128, 128]⟩
abbrev S32x8x128x128x128 : Shape := ⟨5, ![32, 8, 128, 128, 128]⟩
abbrev S128x128x1 : Shape := ⟨3, ![128, 128, 1]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S1x8x128x128 : Shape := ⟨4, ![1, 8, 128, 128]⟩
abbrev S16x8x128x128 : Shape := ⟨4, ![16, 8, 128, 128]⟩
abbrev S32x128x1024 : Shape := ⟨3, ![32, 128, 1024]⟩
abbrev S512x1024 : Shape := ⟨2, ![512, 1024]⟩
abbrev S4x128x1024 : Shape := ⟨3, ![4, 128, 1024]⟩
abbrev S1x128x1024 : Shape := ⟨3, ![1, 128, 1024]⟩
abbrev S128x1024 : Shape := ⟨2, ![128, 1024]⟩
abbrev S512x128 : Shape := ⟨2, ![512, 128]⟩
abbrev S512 : Shape := ⟨1, ![512]⟩
abbrev S512x1 : Shape := ⟨2, ![512, 1]⟩

abbrev nBuf : Space → Nat
  | .hbm => 350
  | .vmem => 24
  | .smem => 0
  | _ => 0

abbrev hbmTy0_0 (i : Nat) : BufTy := match i % 128 with
  | 0 => ⟨S4096x1024, .f32⟩
  | 1 => ⟨S4096x8192, .f32⟩
  | 2 => ⟨S2x1024, .f32⟩
  | 3 => ⟨S31x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S1x1024, .f32⟩
  | 11 => ⟨S1x1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S_, .f32⟩
  | 25 => ⟨S30x1024, .f32⟩
  | 26 => ⟨S4126x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x16384, .f32⟩
  | 59 => ⟨S4096x15360, .f32⟩
  | 60 => ⟨S4096x31744, .f32⟩
  | 61 => ⟨S4096x31x1024, .f32⟩
  | 62 => ⟨S1x31x1024, .f32⟩
  | 63 => ⟨S4096x31x1024, .f32⟩
  | 64 => ⟨S4096x31x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S_, .f32⟩
  | 87 => ⟨S4096x1, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S_, .f32⟩
  | 111 => ⟨S1024, .f32⟩
  | 112 => ⟨S1024, .f32⟩
  | 113 => ⟨S1x1024, .f32⟩
  | 114 => ⟨S2x1024, .f32⟩
  | 115 => ⟨S2x1024, .f32⟩
  | 116 => ⟨S2x1024, .f32⟩
  | 117 => ⟨S_, .f32⟩
  | 118 => ⟨S1024, .f32⟩
  | 119 => ⟨S1x1024, .f32⟩
  | 120 => ⟨S2x1024, .f32⟩
  | 121 => ⟨S2x1024, .f32⟩
  | 122 => ⟨S1x1024, .f32⟩
  | 123 => ⟨S1024, .f32⟩
  | 124 => ⟨S4096x1024, .f32⟩
  | 125 => ⟨S4096x1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S32x128x8x128, .f32⟩
  | 27 => ⟨S32x8x128x128, .f32⟩
  | 28 => ⟨S32x128x8x128, .f32⟩
  | 29 => ⟨S32x8x128x128, .f32⟩
  | 30 => ⟨S32x128x8x128, .f32⟩
  | 31 => ⟨S32x8x128x128, .f32⟩
  | 32 => ⟨S32x128x8x128, .f32⟩
  | 33 => ⟨S32x8x128x128, .f32⟩
  | 34 => ⟨S_, .i1⟩
  | 35 => ⟨S128x128, .i1⟩
  | 36 => ⟨S128x128, .i32⟩
  | 37 => ⟨S_, .i32⟩
  | 38 => ⟨S128x128, .i32⟩
  | 39 => ⟨S128x128, .i32⟩
  | 40 => ⟨S128x128, .i32⟩
  | 41 => ⟨S128x128, .i1⟩
  | 42 => ⟨S_, .i1⟩
  | 43 => ⟨S128x128, .i1⟩
  | 44 => ⟨S128x128, .i1⟩
  | 45 => ⟨S_, .f32⟩
  | 46 => ⟨S_, .f32⟩
  | 47 => ⟨S32x8x128x128, .f32⟩
  | 48 => ⟨S32x8x128x1x128, .f32⟩
  | 49 => ⟨S32x8x1x128x128, .f32⟩
  | 50 => ⟨S32x8x128x128x128, .f32⟩
  | 51 => ⟨S32x8x128x128x128, .f32⟩
  | 52 => ⟨S32x8x128x128x128, .f32⟩
  | 53 => ⟨S128x128x1, .i1⟩
  | 54 => ⟨S_, .f32⟩
  | 55 => ⟨S_, .f32⟩
  | 56 => ⟨S32x8x128x128x128, .i1⟩
  | 57 => ⟨S32x8x128x128x128, .f32⟩
  | 58 => ⟨S32x8x128x128x128, .f32⟩
  | 59 => ⟨S32x8x128x128x128, .f32⟩
  | 60 => ⟨S32x8x128x1x128, .f32⟩
  | 61 => ⟨S32x8x1x128x128, .f32⟩
  | 62 => ⟨S32x8x128x128x128, .f32⟩
  | 63 => ⟨S32x8x128x128x128, .f32⟩
  | 64 => ⟨S32x8x128x128x128, .f32⟩
  | 65 => ⟨S32x8x128x128x128, .f32⟩
  | 66 => ⟨S_, .f32⟩
  | 67 => ⟨S32x8x128x128, .f32⟩
  | 68 => ⟨S32x8x128x128, .f32⟩
  | 69 => ⟨S32x8x1x128, .f32⟩
  | 70 => ⟨S32x8x128x128, .f32⟩
  | 71 => ⟨S32x8x128x128, .f32⟩
  | 72 => ⟨S32x8x128x128, .f32⟩
  | 73 => ⟨S32x8x128x128, .f32⟩
  | 74 => ⟨S32x8x128x128, .f32⟩
  | 75 => ⟨S32x8x128x128, .f32⟩
  | 76 => ⟨S32x8x128x128, .f32⟩
  | 77 => ⟨S32x8x128, .f32⟩
  | 78 => ⟨S32x8x128, .f32⟩
  | 79 => ⟨S32x8x128x1, .f32⟩
  | 80 => ⟨S32x8x128x128, .f32⟩
  | 81 => ⟨S_, .f32⟩
  | 82 => ⟨S1x8x128x128, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S1x8x128x128, .f32⟩
  | 105 => ⟨S1x8x128x128, .f32⟩
  | 106 => ⟨S1x8x128x128, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S16x8x128x128, .f32⟩
  | 80 => ⟨S16x8x128x128, .f32⟩
  | 81 => ⟨S32x8x128x128, .f32⟩
  | 82 => ⟨S32x128x8x128, .f32⟩
  | 83 => ⟨S32x128x1024, .f32⟩
  | 84 => ⟨S32x128x8x128, .f32⟩
  | 85 => ⟨S4096x1024, .f32⟩
  | 86 => ⟨S4096x1024, .bf16⟩
  | 87 => ⟨S32x128x8x128, .f32⟩
  | 88 => ⟨S4096x1024, .f32⟩
  | 89 => ⟨S4096x1024, .bf16⟩
  | 90 => ⟨S1024x1024, .bf16⟩
  | 91 => ⟨S1024x1024, .bf16⟩
  | 92 => ⟨S1024x1024, .bf16⟩
  | 93 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S4x128x1024, .f32⟩
  | .local _ .vmem, ⟨13, _⟩ => ⟨S4x128x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_8 : Ref sig .tc := ⟨.hbm, 108, rfl⟩
abbrev main_v78 : Ref sig .tc := ⟨.hbm, 109, rfl⟩
abbrev main_cst_9 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v91 : Ref sig .tc := ⟨.hbm, 132, rfl⟩
abbrev main_cst_11 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_12 : Ref sig .tc := ⟨.hbm, 138, rfl⟩
abbrev main_v96 : Ref sig .tc := ⟨.hbm, 139, rfl⟩
abbrev main_v97 : Ref sig .tc := ⟨.hbm, 140, rfl⟩
abbrev main_cst_13 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_14 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c : Ref sig .tc := ⟨.hbm, 162, rfl⟩
abbrev main_v117 : Ref sig .tc := ⟨.hbm, 163, rfl⟩
abbrev main_call2_v0 : Ref sig .tc := ⟨.hbm, 164, rfl⟩
abbrev main_call2_c : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_c_0 : Ref sig .tc := ⟨.hbm, 170, rfl⟩
abbrev main_call2_v5 : Ref sig .tc := ⟨.hbm, 171, rfl⟩
abbrev main_v118 : Ref sig .tc := ⟨.hbm, 172, rfl⟩
abbrev main_call3_call0_cst : Ref sig .tc := ⟨.hbm, 173, rfl⟩
abbrev main_call3_call0_v0 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_15 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_16 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_17 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixFwdRefIdeal.lean ====
abbrev S4096x1024 : Shape := ⟨2, ![4096, 1024]⟩
abbrev S4096x8192 : Shape := ⟨2, ![4096, 8192]⟩
abbrev S2x1024 : Shape := ⟨2, ![2, 1024]⟩
abbrev S31x1024 : Shape := ⟨2, ![31, 1024]⟩
abbrev S1x1024 : Shape := ⟨2, ![1, 1024]⟩
abbrev S1024x1024 : Shape := ⟨2, ![1024, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S4096 : Shape := ⟨1, ![4096]⟩
abbrev S4096x1 : Shape := ⟨2, ![4096, 1]⟩
abbrev S1024 : Shape := ⟨1, ![1024]⟩
abbrev S32x128x8x128 : Shape := ⟨4, ![32, 128, 8, 128]⟩
abbrev S32x8x128x128 : Shape := ⟨4, ![32, 8, 128, 128]⟩
abbrev S128x128 : Shape := ⟨2, ![128, 128]⟩
abbrev S32x8x128x1x128 : Shape := ⟨5, ![32, 8, 128, 1, 128]⟩
abbrev S32x8x1x128x128 : Shape := ⟨5, ![32, 8, 1, 128, 128]⟩
abbrev S32x8x128x128x128 : Shape := ⟨5, ![32, 8, 128, 128, 128]⟩
abbrev S128x128x1 : Shape := ⟨3, ![128, 128, 1]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S1x8x128x128 : Shape := ⟨4, ![1, 8, 128, 128]⟩
abbrev S16x8x128x128 : Shape := ⟨4, ![16, 8, 128, 128]⟩
abbrev S4096x8x128 : Shape := ⟨3, ![4096, 8, 128]⟩
abbrev S8x128 : Shape := ⟨2, ![8, 128]⟩
abbrev S4096x8 : Shape := ⟨2, ![4096, 8]⟩
abbrev S4096x8x1 : Shape := ⟨3, ![4096, 8, 1]⟩
abbrev S1x8x128 : Shape := ⟨3, ![1, 8, 128]⟩

abbrev nBuf : Space → Nat
  | .hbm => 414
  | .vmem => 0
  | .smem => 0
  | _ => 0

abbrev hbmTy0_0 (i : Nat) : BufTy := match i % 128 with
  | 0 => ⟨S4096x1024, .f32⟩
  | 1 => ⟨S4096x8192, .f32⟩
  | 2 => ⟨S2x1024, .f32⟩
  | 3 => ⟨S31x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S1024x1024, .f32⟩
  | 10 => ⟨S1x1024, .f32⟩
  | 11 => ⟨S1x1024, .f32⟩
  | 12 => ⟨S1x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S_, .f32⟩
  | 25 => ⟨S30x1024, .f32⟩
  | 26 => ⟨S4126x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x16384, .f32⟩
  | 59 => ⟨S4096x15360, .f32⟩
  | 60 => ⟨S4096x31744, .f32⟩
  | 61 => ⟨S4096x31x1024, .f32⟩
  | 62 => ⟨S1x31x1024, .f32⟩
  | 63 => ⟨S4096x31x1024, .f32⟩
  | 64 => ⟨S4096x31x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S_, .f32⟩
  | 87 => ⟨S4096x1, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S_, .f32⟩
  | 111 => ⟨S1024, .f32⟩
  | 112 => ⟨S1024, .f32⟩
  | 113 => ⟨S1x1024, .f32⟩
  | 114 => ⟨S2x1024, .f32⟩
  | 115 => ⟨S2x1024, .f32⟩
  | 116 => ⟨S2x1024, .f32⟩
  | 117 => ⟨S_, .f32⟩
  | 118 => ⟨S1024, .f32⟩
  | 119 => ⟨S1x1024, .f32⟩
  | 120 => ⟨S2x1024, .f32⟩
  | 121 => ⟨S2x1024, .f32⟩
  | 122 => ⟨S1x1024, .f32⟩
  | 123 => ⟨S1024, .f32⟩
  | 124 => ⟨S4096x1024, .f32⟩
  | 125 => ⟨S4096x1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S32x128x8x128, .f32⟩
  | 27 => ⟨S32x8x128x128, .f32⟩
  | 28 => ⟨S32x128x8x128, .f32⟩
  | 29 => ⟨S32x8x128x128, .f32⟩
  | 30 => ⟨S32x128x8x128, .f32⟩
  | 31 => ⟨S32x8x128x128, .f32⟩
  | 32 => ⟨S32x128x8x128, .f32⟩
  | 33 => ⟨S32x8x128x128, .f32⟩
  | 34 => ⟨S_, .i1⟩
  | 35 => ⟨S128x128, .i1⟩
  | 36 => ⟨S128x128, .i32⟩
  | 37 => ⟨S_, .i32⟩
  | 38 => ⟨S128x128, .i32⟩
  | 39 => ⟨S128x128, .i32⟩
  | 40 => ⟨S128x128, .i32⟩
  | 41 => ⟨S128x128, .i1⟩
  | 42 => ⟨S_, .i1⟩
  | 43 => ⟨S128x128, .i1⟩
  | 44 => ⟨S128x128, .i1⟩
  | 45 => ⟨S_, .f32⟩
  | 46 => ⟨S_, .f32⟩
  | 47 => ⟨S32x8x128x128, .f32⟩
  | 48 => ⟨S32x8x128x1x128, .f32⟩
  | 49 => ⟨S32x8x1x128x128, .f32⟩
  | 50 => ⟨S32x8x128x128x128, .f32⟩
  | 51 => ⟨S32x8x128x128x128, .f32⟩
  | 52 => ⟨S32x8x128x128x128, .f32⟩
  | 53 => ⟨S128x128x1, .i1⟩
  | 54 => ⟨S_, .f32⟩
  | 55 => ⟨S_, .f32⟩
  | 56 => ⟨S32x8x128x128x128, .i1⟩
  | 57 => ⟨S32x8x128x128x128, .f32⟩
  | 58 => ⟨S32x8x128x128x128, .f32⟩
  | 59 => ⟨S32x8x128x128x128, .f32⟩
  | 60 => ⟨S32x8x128x1x128, .f32⟩
  | 61 => ⟨S32x8x1x128x128, .f32⟩
  | 62 => ⟨S32x8x128x128x128, .f32⟩
  | 63 => ⟨S32x8x128x128x128, .f32⟩
  | 64 => ⟨S32x8x128x128x128, .f32⟩
  | 65 => ⟨S32x8x128x128x128, .f32⟩
  | 66 => ⟨S_, .f32⟩
  | 67 => ⟨S32x8x128x128, .f32⟩
  | 68 => ⟨S32x8x128x128, .f32⟩
  | 69 => ⟨S32x8x1x128, .f32⟩
  | 70 => ⟨S32x8x128x128, .f32⟩
  | 71 => ⟨S32x8x128x128, .f32⟩
  | 72 => ⟨S32x8x128x128, .f32⟩
  | 73 => ⟨S32x8x128x128, .f32⟩
  | 74 => ⟨S32x8x128x128, .f32⟩
  | 75 => ⟨S32x8x128x128, .f32⟩
  | 76 => ⟨S32x8x128x128, .f32⟩
  | 77 => ⟨S32x8x128, .f32⟩
  | 78 => ⟨S32x8x128, .f32⟩
  | 79 => ⟨S32x8x128x1, .f32⟩
  | 80 => ⟨S32x8x128x128, .f32⟩
  | 81 => ⟨S_, .f32⟩
  | 82 => ⟨S1x8x128x128, .f32⟩
  | 83 => ⟨S1x8x128x128, .f32⟩
  | 84 => ⟨S1x8x128x128, .f32⟩
  | 85 => ⟨S1x8x128x128, .f32⟩
  | 86 => ⟨S1x8x128x128, .f32⟩
  | 87 => ⟨S1x8x128x128, .f32⟩
  | 88 => ⟨S1x8x128x128, .f32⟩
  | 89 => ⟨S1x8x128x128, .f32⟩
  | 90 => ⟨S1x8x128x128, .f32⟩
  | 91 => ⟨S1x8x128x128, .f32⟩
  | 92 => ⟨S1x8x128x128, .f32⟩
  | 93 => ⟨S1x8x128x128, .f32⟩
  | 94 => ⟨S1x8x128x128, .f32⟩
  | 95 => ⟨S1x8x128x128, .f32⟩
  | 96 => ⟨S1x8x128x128, .f32⟩
  | 97 => ⟨S1x8x128x128, .f32⟩
  | 98 => ⟨S1x8x128x128, .f32⟩
  | 99 => ⟨S1x8x128x128, .f32⟩
  | 100 => ⟨S1x8x128x128, .f32⟩
  | 101 => ⟨S1x8x128x128, .f32⟩
  | 102 => ⟨S1x8x128x128, .f32⟩
  | 103 => ⟨S1x8x128x128, .f32⟩
  | 104 => ⟨S1x8x128x128, .f32⟩
  | 105 => ⟨S1x8x128x128, .f32⟩
  | 106 => ⟨S1x8x128x128, .f32⟩
  | 107 => ⟨S1x8x128x128, .f32⟩
  | 108 => ⟨S1x8x128x128, .f32⟩
  | 109 => ⟨S1x8x128x128, .f32⟩
  | 110 => ⟨S1x8x128x128, .f32⟩
  | 111 => ⟨S1x8x128x128, .f32⟩
  | 112 => ⟨S1x8x128x128, .f32⟩
  | 113 => ⟨S1x8x128x128, .f32⟩
  | 114 => ⟨S1x8x128x128, .f32⟩
  | 115 => ⟨S1x8x128x128, .f32⟩
  | 116 => ⟨S1x8x128x128, .f32⟩
  | 117 => ⟨S1x8x128x128, .f32⟩
  | 118 => ⟨S1x8x128x128, .f32⟩
  | 119 => ⟨S1x8x128x128, .f32⟩
  | 120 => ⟨S1x8x128x128, .f32⟩
  | 121 => ⟨S1x8x128x128, .f32⟩
  | 122 => ⟨S1x8x128x128, .f32⟩
  | 123 => ⟨S1x8x128x128, .f32⟩
  | 124 => ⟨S1x8x128x128, .f32⟩
  | 125 => ⟨S1x8x128x128, .f32⟩
  | 126 => ⟨S1x8x128x128, .f32⟩
  | 127 => ⟨S1x8x128x128, .f32⟩
  | _ => ⟨S4096x1024, .f32⟩

abbrev hbmTy0_2 (i : Nat) : BufTy := match i % 128 with
  | 0 => ⟨S1x8x128x128, .f32⟩
  | 1 => ⟨S1x8x128x128, .f32⟩
  | 2 => ⟨S1x8x128x128, .f32⟩
  | 3 => ⟨S1x8x128x128, .f32⟩
  | 4 => ⟨S1x8x128x128, .f32⟩
  | 5 => ⟨S1x8x128x128, .f32⟩
  | 6 => ⟨S1x8x128x128, .f32⟩
  | 7 => ⟨S1x8x128x128, .f32⟩
  | 8 => ⟨S1x8x128x128, .f32⟩
  | 9 => ⟨S1x8x128x128, .f32⟩
  | 10 => ⟨S1x8x128x128, .f32⟩
  | 11 => ⟨S1x8x128x128, .f32⟩
  | 12 => ⟨S1x8x128x128, .f32⟩
  | 13 => ⟨S1x8x128x128, .f32⟩
  | 14 => ⟨S1x8x128x128, .f32⟩
  | 15 => ⟨S1x8x128x128, .f32⟩
  | 16 => ⟨S1x8x128x128, .f32⟩
  | 17 => ⟨S1x8x128x128, .f32⟩
  | 18 => ⟨S1x8x128x128, .f32⟩
  | 19 => ⟨S1x8x128x128, .f32⟩
  | 20 => ⟨S1x8x128x128, .f32⟩
  | 21 => ⟨S1x8x128x128, .f32⟩
  | 22 => ⟨S1x8x128x128, .f32⟩
  | 23 => ⟨S1x8x128x128, .f32⟩
  | 24 => ⟨S1x8x128x128, .f32⟩
  | 25 => ⟨S1x8x128x128, .f32⟩
  | 26 => ⟨S1x8x128x128, .f32⟩
  | 27 => ⟨S1x8x128x128, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x128x128, .f32⟩
  | 33 => ⟨S1x8x128x128, .f32⟩
  | 34 => ⟨S1x8x128x128, .f32⟩
  | 35 => ⟨S1x8x128x128, .f32⟩
  | 36 => ⟨S1x8x128x128, .f32⟩
  | 37 => ⟨S1x8x128x128, .f32⟩
  | 38 => ⟨S1x8x128x128, .f32⟩
  | 39 => ⟨S1x8x128x128, .f32⟩
  | 40 => ⟨S1x8x128x128, .f32⟩
  | 41 => ⟨S1x8x128x128, .f32⟩
  | 42 => ⟨S1x8x128x128, .f32⟩
  | 43 => ⟨S1x8x128x128, .f32⟩
  | 44 => ⟨S1x8x128x128, .f32⟩
  | 45 => ⟨S1x8x128x128, .f32⟩
  | 46 => ⟨S1x8x128x128, .f32⟩
  | 47 => ⟨S1x8x128x128, .f32⟩
  | 48 => ⟨S1x8x128x128, .f32⟩
  | 49 => ⟨S1x8x128x128, .f32⟩
  | 50 => ⟨S1x8x128x128, .f32⟩
  | 51 => ⟨S1x8x128x128, .f32⟩
  | 52 => ⟨S1x8x128x128, .f32⟩
  | 53 => ⟨S1x8x128x128, .f32⟩
  | 54 => ⟨S1x8x128x128, .f32⟩
  | 55 => ⟨S1x8x128x128, .f32⟩
  | 56 => ⟨S1x8x128x128, .f32⟩
  | 57 => ⟨S1x8x128x128, .f32⟩
  | 58 => ⟨S1x8x128x128, .f32⟩
  | 59 => ⟨S1x8x128x128, .f32⟩
  | 60 => ⟨S1x8x128x128, .f32⟩
  | 61 => ⟨S1x8x128x128, .f32⟩
  | 62 => ⟨S1x8x128x128, .f32⟩
  | 63 => ⟨S1x8x128x128, .f32⟩
  | 64 => ⟨S1x8x128x128, .f32⟩
  | 65 => ⟨S1x8x128x128, .f32⟩
  | 66 => ⟨S1x8x128x128, .f32⟩
  | 67 => ⟨S1x8x128x128, .f32⟩
  | 68 => ⟨S1x8x128x128, .f32⟩
  | 69 => ⟨S1x8x128x128, .f32⟩
  | 70 => ⟨S1x8x128x128, .f32⟩
  | 71 => ⟨S1x8x128x128, .f32⟩
  | 72 => ⟨S1x8x128x128, .f32⟩
  | 73 => ⟨S1x8x128x128, .f32⟩
  | 74 => ⟨S1x8x128x128, .f32⟩
  | 75 => ⟨S1x8x128x128, .f32⟩
  | 76 => ⟨S1x8x128x128, .f32⟩
  | 77 => ⟨S1x8x128x128, .f32⟩
  | 78 => ⟨S1x8x128x128, .f32⟩
  | 79 => ⟨S16x8x128x128, .f32⟩
  | 80 => ⟨S16x8x128x128, .f32⟩
  | 81 => ⟨S32x8x128x128, .f32⟩
  | 82 => ⟨S32x8x128x128, .f32⟩
  | 83 => ⟨S32x8x128x128, .f32⟩
  | 84 => ⟨S32x128x8x128, .f32⟩
  | 85 => ⟨S4096x1024, .f32⟩
  | 86 => ⟨S4096x8x128, .f32⟩
  | 87 => ⟨S8x128, .f32⟩
  | 88 => ⟨S4096x8x128, .f32⟩
  | 89 => ⟨S_, .f32⟩
  | 90 => ⟨S4096x8, .f32⟩
  | 91 => ⟨S4096x8x1, .f32⟩
  | 92 => ⟨S_, .f32⟩
  | 93 => ⟨S4096x8x1, .f32⟩
  | 94 => ⟨S4096x8x1, .f32⟩
  | 95 => ⟨S_, .f32⟩
  | 96 => ⟨S4096x8x1, .f32⟩
  | 97 => ⟨S4096x8x1, .f32⟩
  | 98 => ⟨S4096x8x1, .f32⟩
  | 99 => ⟨S4096x8x128, .f32⟩
  | 100 => ⟨S4096x8x128, .f32⟩
  | 101 => ⟨S1x8x128, .f32⟩
  | 102 => ⟨S4096x8x128, .f32⟩
  | 103 => ⟨S4096x8x128, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_3 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_8 : Ref sig .tc := ⟨.hbm, 108, rfl⟩
abbrev main_v78 : Ref sig .tc := ⟨.hbm, 109, rfl⟩
abbrev main_cst_9 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v91 : Ref sig .tc := ⟨.hbm, 132, rfl⟩
abbrev main_cst_11 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_12 : Ref sig .tc := ⟨.hbm, 138, rfl⟩
abbrev main_v96 : Ref sig .tc := ⟨.hbm, 139, rfl⟩
abbrev main_v97 : Ref sig .tc := ⟨.hbm, 140, rfl⟩
abbrev main_cst_13 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_14 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c : Ref sig .tc := ⟨.hbm, 162, rfl⟩
abbrev main_v117 : Ref sig .tc := ⟨.hbm, 163, rfl⟩
abbrev main_call2_v0 : Ref sig .tc := ⟨.hbm, 164, rfl⟩
abbrev main_call2_c : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_c_0 : Ref sig .tc := ⟨.hbm, 170, rfl⟩
abbrev main_call2_v5 : Ref sig .tc := ⟨.hbm, 171, rfl⟩
abbrev main_v118 : Ref sig .tc := ⟨.hbm, 172, rfl⟩
abbrev main_call3_call0_cst : Ref sig .tc := ⟨.hbm, 173, rfl⟩
abbrev main_call3_call0_v0 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_15 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_16 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_17 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_cst_18 : Ref sig .tc := ⟨.hbm, 345, rfl⟩
abbrev main_v283 : Ref sig .tc := ⟨.hbm, 346, rfl⟩
abbrev main_v284 : Ref sig .tc := ⟨.hbm, 347, rfl⟩
abbrev main_cst_19 : Ref sig .tc := ⟨.hbm, 348, rfl⟩
abbrev main_v285 : Ref sig .tc := ⟨.hbm, 349, rfl⟩
abbrev main_v286 : Ref sig .tc := ⟨.hbm, 350, rfl⟩
abbrev main_cst_20 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_call5_v0 : Ref sig .tc := ⟨.hbm, 362, rfl⟩
abbrev main_call5_v1 : Ref sig .tc := ⟨.hbm, 363, rfl⟩
abbrev main_call5_cst : Ref sig .tc := ⟨.hbm, 364, rfl⟩
abbrev main_call5_v2 : Ref sig .tc := ⟨.hbm, 365, rfl⟩
abbrev main_call5_v3 : Ref sig .tc := ⟨.hbm, 366, rfl⟩
abbrev main_call5_cst_0 : Ref sig .tc := ⟨.hbm, 367, rfl⟩
abbrev main_call5_v4 : Ref sig .tc := ⟨.hbm, 368, rfl⟩
abbrev main_call5_v5 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_cst_21 : Ref sig .tc := ⟨.hbm, 375, rfl⟩
abbrev main_v302 : Ref sig .tc := ⟨.hbm, 376, rfl⟩
abbrev main_v303 : Ref sig .tc := ⟨.hbm, 377, rfl⟩
abbrev main_cst_22 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_cst_23 : Ref sig .tc := ⟨.hbm, 386, rfl⟩
abbrev main_v311 : Ref sig .tc := ⟨.hbm, 387, rfl⟩
abbrev main_v312 : Ref sig .tc := ⟨.hbm, 388, rfl⟩
abbrev main_cst_24 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_cst_25 : Ref sig .tc := ⟨.hbm, 397, rfl⟩
abbrev main_v320 : Ref sig .tc := ⟨.hbm, 398, rfl⟩
abbrev main_v321 : Ref sig .tc := ⟨.hbm, 399, rfl⟩
abbrev main_cst_26 : Ref sig .tc := ⟨.hbm, 400, rfl⟩
abbrev main_v322 : Ref sig .tc := ⟨.hbm, 401, rfl⟩
abbrev main_v323 : Ref sig .tc := ⟨.hbm, 402, rfl⟩
abbrev main_cst_27 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩

abbrev nD : Nat := 1
abbrev τ : Topo := Topo.v7x

variable {F : FTy → Type} [FloatOps F]
-- ==== Conv.lean ====
abbrev S4096x8192 : Shape := ⟨2, ![4096, 8192]⟩
abbrev S4096x1024 : Shape := ⟨2, ![4096, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S32x1024 : Shape := ⟨2, ![32, 1024]⟩
abbrev S8x1024 : Shape := ⟨2, ![8, 1024]⟩
abbrev S256x1024 : Shape := ⟨2, ![256, 1024]⟩
abbrev S256x2048 : Shape := ⟨2, ![256, 2048]⟩
abbrev S288x1024 : Shape := ⟨2, ![288, 1024]⟩
abbrev S8x288x1024 : Shape := ⟨3, ![8, 288, 1024]⟩
abbrev S32x8x1024 : Shape := ⟨3, ![32, 8, 1024]⟩
abbrev S1x288x1024 : Shape := ⟨3, ![1, 288, 1024]⟩
abbrev S280x1024 : Shape := ⟨2, ![280, 1024]⟩
abbrev S1x280x1024 : Shape := ⟨3, ![1, 280, 1024]⟩
abbrev S256 : Shape := ⟨1, ![256]⟩
abbrev S256x1 : Shape := ⟨2, ![256, 1]⟩
abbrev S1024 : Shape := ⟨1, ![1024]⟩
abbrev S32 : Shape := ⟨1, ![32]⟩
abbrev S32x1 : Shape := ⟨2, ![32, 1]⟩
abbrev S128x128 : Shape := ⟨2, ![128, 128]⟩
abbrev S1x128 : Shape := ⟨2, ![1, 128]⟩
abbrev S1x128x128 : Shape := ⟨3, ![1, 128, 128]⟩
abbrev S4x4x8x128 : Shape := ⟨4, ![4, 4, 8, 128]⟩
abbrev S4x8x128 : Shape := ⟨3, ![4, 8, 128]⟩
abbrev S1x8x128 : Shape := ⟨3, ![1, 8, 128]⟩
abbrev S8x128 : Shape := ⟨2, ![8, 128]⟩

abbrev nBuf : Space → Nat
  | .hbm => 69
  | .vmem => 29
  | .smem => 0
  | _ => 0

abbrev bufTy : (tb : Table) → Fin (tcTables nBuf tb) → BufTy
  | .hbm, ⟨0, _⟩ => ⟨S4096x8192, .f32⟩
  | .hbm, ⟨1, _⟩ => ⟨S4096x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x8192, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S30x1024, .f32⟩
  | .hbm, ⟨20, _⟩ => ⟨S4126x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x16384, .f32⟩
  | .hbm, ⟨53, _⟩ => ⟨S4096x15360, .f32⟩
  | .hbm, ⟨54, _⟩ => ⟨S4096x31744, .f32⟩
  | .hbm, ⟨55, _⟩ => ⟨S4096x31x1024, .f32⟩
  | .hbm, ⟨56, _⟩ => ⟨S1x31x1024, .f32⟩
  | .hbm, ⟨57, _⟩ => ⟨S4096x31x1024, .f32⟩
  | .hbm, ⟨58, _⟩ => ⟨S4096x31x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1x1024, .f32⟩
  | .hbm, ⟨65, _⟩ => ⟨S32x1024, .f32⟩
  | .hbm, ⟨66, _⟩ => ⟨S4096x8192, .bf16⟩
  | .hbm, ⟨67, _⟩ => ⟨S8x1024, .f32⟩
  | .hbm, ⟨68, _⟩ => ⟨S32x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S256x1024, .f32⟩
  | .local _ .vmem, ⟨13, _⟩ => ⟨S256x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S1x1024, .f32⟩
  | .local _ .vmem, ⟨18, _⟩ => ⟨S1x1024, .f32⟩
  | .local _ .vmem, ⟨19, _⟩ => ⟨S256x2048, .bf16⟩
  | .local _ .vmem, ⟨20, _⟩ => ⟨S256x2048, .bf16⟩
  | .local _ .vmem, ⟨21, _⟩ => ⟨S8x1024, .f32⟩
  | .local _ .vmem, ⟨22, _⟩ => ⟨S32x1024, .f32⟩
  | .local _ .vmem, ⟨23, _⟩ => ⟨S288x1024, .f32⟩
  | .local _ .vmem, ⟨24, _⟩ => ⟨S288x1024, .f32⟩
  | .local _ .vmem, ⟨25, _⟩ => ⟨S8x288x1024, .f32⟩
  | .local _ .vmem, ⟨26, _⟩ => ⟨S8x288x1024, .f32⟩
  | .local _ .vmem, ⟨27, _⟩ => ⟨S32x8x1024, .f32⟩
  | .local _ .vmem, ⟨28, _⟩ => ⟨S256x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54_0 : Ref sig .tc := ⟨.hbm, 66, rfl⟩
abbrev main_v54_1 : Ref sig .tc := ⟨.hbm, 67, rfl⟩
abbrev main_v54_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_7631 : BitVec 32 := 15#32
  let v14706 : BitVec 1 := Scalar.cmpi .eq arg0 c15_i32_7631
  let v14707 : BitVec 32 := Scalar.extui v14706
  let c0_i32_7632 : BitVec 32 := 0#32
  let v14708 : BitVec 1 := Scalar.cmpi .ne v14707 c0_i32_7632
  v14708

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvRefIdeal.lean ====
abbrev S4096x8192 : Shape := ⟨2, ![4096, 8192]⟩
abbrev S4096x1024 : Shape := ⟨2, ![4096, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S4126x1024 : Shape := ⟨2, ![4126, 1024]⟩
abbrev S4096x16384 : Shape := ⟨2, ![4096, 16384]⟩
abbrev S4096x15360 : Shape := ⟨2, ![4096, 15360]⟩
abbrev S4096x31744 : Shape := ⟨2, ![4096, 31744]⟩
abbrev S4096x31x1024 : Shape := ⟨3, ![4096, 31, 1024]⟩
abbrev S1x31x1024 : Shape := ⟨3, ![1, 31, 1024]⟩
abbrev S4096 : Shape := ⟨1, ![4096]⟩
abbrev S4096x1 : Shape := ⟨2, ![4096, 1]⟩
abbrev S1024 : Shape := ⟨1, ![1024]⟩
abbrev S3x1024 : Shape := ⟨2, ![3, 1024]⟩
abbrev S8x1024 : Shape := ⟨2, ![8, 1024]⟩
abbrev S4096x6144 : Shape := ⟨2, ![4096, 6144]⟩
abbrev S32x1024 : Shape := ⟨2, ![32, 1024]⟩

abbrev nBuf : Space → Nat
  | .hbm => 317
  | .vmem => 0
  | .smem => 0
  | _ => 0

abbrev hbmTy0_0 (i : Nat) : BufTy := match i % 128 with
  | 0 => ⟨S4096x8192, .f32⟩
  | 1 => ⟨S4096x1024, .f32⟩
  | 2 => ⟨S31x1024, .f32⟩
  | 3 => ⟨S1x1024, .f32⟩
  | 4 => ⟨S1x1024, .f32⟩
  | 5 => ⟨S1x1024, .f32⟩
  | 6 => ⟨S4096x8192, .bf16⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S30x1024, .f32⟩
  | 24 => ⟨S4126x1024, .f32⟩
  | 25 => ⟨S_, .f32⟩
  | 26 => ⟨S30x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x16384, .f32⟩
  | 59 => ⟨S4096x15360, .f32⟩
  | 60 => ⟨S4096x31744, .f32⟩
  | 61 => ⟨S4096x31x1024, .f32⟩
  | 62 => ⟨S1x31x1024, .f32⟩
  | 63 => ⟨S4096x31x1024, .f32⟩
  | 64 => ⟨S4096x31x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S4096x1024, .f32⟩
  | 88 => ⟨S4096x1024, .f32⟩
  | 89 => ⟨S_, .f32⟩
  | 90 => ⟨S4096x1, .f32⟩
  | 91 => ⟨S4096x1, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x8192, .f32⟩

abbrev hbmTy0_1 (i : Nat) : BufTy := match i % 128 with
  | 0 => ⟨S4096x1024, .f32⟩
  | 1 => ⟨S4096x1024, .f32⟩
  | 2 => ⟨S_, .f32⟩
  | 3 => ⟨S4096, .f32⟩
  | 4 => ⟨S4096x1, .f32⟩
  | 5 => ⟨S4096x1024, .f32⟩
  | 6 => ⟨S4096x1024, .f32⟩
  | 7 => ⟨S4096x1, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S4096x31x1024, .f32⟩
  | 36 => ⟨S4096x31x1024, .f32⟩
  | 37 => ⟨S_, .f32⟩
  | 38 => ⟨S31x1024, .f32⟩
  | 39 => ⟨S1x31x1024, .f32⟩
  | 40 => ⟨S4096x31x1024, .f32⟩
  | 41 => ⟨S4096x31x1024, .f32⟩
  | 42 => ⟨S_, .f32⟩
  | 43 => ⟨S31x1024, .f32⟩
  | 44 => ⟨S4096x31744, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4126x1024, .f32⟩
  | 78 => ⟨S_, .f32⟩
  | 79 => ⟨S4126x1024, .f32⟩
  | 80 => ⟨S4126x1024, .f32⟩
  | 81 => ⟨S_, .f32⟩
  | 82 => ⟨S4126x1024, .f32⟩
  | 83 => ⟨S4126x1024, .f32⟩
  | 84 => ⟨S_, .f32⟩
  | 85 => ⟨S4126x1024, .f32⟩
  | 86 => ⟨S4126x1024, .f32⟩
  | 87 => ⟨S_, .f32⟩
  | 88 => ⟨S4126x1024, .f32⟩
  | 89 => ⟨S4126x1024, .f32⟩
  | 90 => ⟨S_, .f32⟩
  | 91 => ⟨S4126x1024, .f32⟩
  | 92 => ⟨S4126x1024, .f32⟩
  | 93 => ⟨S_, .f32⟩
  | 94 => ⟨S4126x1024, .f32⟩
  | 95 => ⟨S4126x1024, .f32⟩
  | 96 => ⟨S_, .f32⟩
  | 97 => ⟨S4126x1024, .f32⟩
  | 98 => ⟨S4126x1024, .f32⟩
  | 99 => ⟨S_, .f32⟩
  | 100 => ⟨S4126x1024, .f32⟩
  | 101 => ⟨S4126x1024, .f32⟩
  | 102 => ⟨S_, .f32⟩
  | 103 => ⟨S4126x1024, .f32⟩
  | 104 => ⟨S4126x1024, .f32⟩
  | 105 => ⟨S_, .f32⟩
  | 106 => ⟨S4126x1024, .f32⟩
  | 107 => ⟨S4126x1024, .f32⟩
  | 108 => ⟨S_, .f32⟩
  | 109 => ⟨S4126x1024, .f32⟩
  | 110 => ⟨S4126x1024, .f32⟩
  | 111 => ⟨S_, .f32⟩
  | 112 => ⟨S4126x1024, .f32⟩
  | 113 => ⟨S4126x1024, .f32⟩
  | 114 => ⟨S_, .f32⟩
  | 115 => ⟨S4126x1024, .f32⟩
  | 116 => ⟨S4126x1024, .f32⟩
  | 117 => ⟨S_, .f32⟩
  | 118 => ⟨S4126x1024, .f32⟩
  | 119 => ⟨S4126x1024, .f32⟩
  | 120 => ⟨S_, .f32⟩
  | 121 => ⟨S4126x1024, .f32⟩
  | 122 => ⟨S4126x1024, .f32⟩
  | 123 => ⟨S_, .f32⟩
  | 124 => ⟨S4126x1024, .f32⟩
  | 125 => ⟨S4126x1024, .f32⟩
  | 126 => ⟨S_, .f32⟩
  | 127 => ⟨S4126x1024, .f32⟩
  | _ => ⟨S4096x8192, .f32⟩

abbrev hbmTy0_2 (i : Nat) : BufTy := match i % 128 with
  | 0 => ⟨S4126x1024, .f32⟩
  | 1 => ⟨S_, .f32⟩
  | 2 => ⟨S4126x1024, .f32⟩
  | 3 => ⟨S4126x1024, .f32⟩
  | 4 => ⟨S_, .f32⟩
  | 5 => ⟨S4126x1024, .f32⟩
  | 6 => ⟨S4126x1024, .f32⟩
  | 7 => ⟨S_, .f32⟩
  | 8 => ⟨S4126x1024, .f32⟩
  | 9 => ⟨S4126x1024, .f32⟩
  | 10 => ⟨S_, .f32⟩
  | 11 => ⟨S4126x1024, .f32⟩
  | 12 => ⟨S4126x1024, .f32⟩
  | 13 => ⟨S_, .f32⟩
  | 14 => ⟨S4126x1024, .f32⟩
  | 15 => ⟨S4126x1024, .f32⟩
  | 16 => ⟨S_, .f32⟩
  | 17 => ⟨S4126x1024, .f32⟩
  | 18 => ⟨S4126x1024, .f32⟩
  | 19 => ⟨S_, .f32⟩
  | 20 => ⟨S4126x1024, .f32⟩
  | 21 => ⟨S4126x1024, .f32⟩
  | 22 => ⟨S_, .f32⟩
  | 23 => ⟨S4126x1024, .f32⟩
  | 24 => ⟨S4126x1024, .f32⟩
  | 25 => ⟨S_, .f32⟩
  | 26 => ⟨S4126x1024, .f32⟩
  | 27 => ⟨S4126x1024, .f32⟩
  | 28 => ⟨S_, .f32⟩
  | 29 => ⟨S4126x1024, .f32⟩
  | 30 => ⟨S4126x1024, .f32⟩
  | 31 => ⟨S_, .f32⟩
  | 32 => ⟨S4126x1024, .f32⟩
  | 33 => ⟨S4126x1024, .f32⟩
  | 34 => ⟨S_, .f32⟩
  | 35 => ⟨S4126x1024, .f32⟩
  | 36 => ⟨S4126x1024, .f32⟩
  | 37 => ⟨S_, .f32⟩
  | 38 => ⟨S4126x1024, .f32⟩
  | 39 => ⟨S4126x1024, .f32⟩
  | 40 => ⟨S30x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S1024, .f32⟩
  | 47 => ⟨S1x1024, .f32⟩
  | 48 => ⟨S_, .f32⟩
  | 49 => ⟨S1024, .f32⟩
  | 50 => ⟨S1x1024, .f32⟩
  | 51 => ⟨S_, .f32⟩
  | 52 => ⟨S3x1024, .f32⟩
  | 53 => ⟨S8x1024, .f32⟩
  | 54 => ⟨S4096x6144, .bf16⟩
  | 55 => ⟨S4096x1024, .bf16⟩
  | 56 => ⟨S4096x1024, .bf16⟩
  | 57 => ⟨S4096x8192, .bf16⟩
  | 58 => ⟨S_, .f32⟩
  | 59 => ⟨S1x1024, .f32⟩
  | 60 => ⟨S32x1024, .f32⟩
  | _ => ⟨S4096x8192, .f32⟩

abbrev hbmTy (i : Nat) : BufTy := match i / 128 with
  | 0 => hbmTy0_0 i
  | 1 => hbmTy0_1 i
  | 2 => hbmTy0_2 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_v83_2 : Ref sig .tc := ⟨.hbm, 110, rfl⟩
abbrev main_call0_cst_1 : Ref sig .tc := ⟨.hbm, 111, rfl⟩
abbrev main_call0_v6 : Ref sig .tc := ⟨.hbm, 112, rfl⟩
abbrev main_call0_v7 : Ref sig .tc := ⟨.hbm, 113, rfl⟩
abbrev main_v83_1 : Ref sig .tc := ⟨.hbm, 114, rfl⟩
abbrev main_v83_0 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v84 : Ref sig .tc := ⟨.hbm, 119, rfl⟩
abbrev main_cst_12 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_13 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_14 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_15 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_v102 : Ref sig .tc := ⟨.hbm, 142, rfl⟩
abbrev main_cst_17 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_19 : Ref sig .tc := ⟨.hbm, 153, rfl⟩
abbrev main_v111 : Ref sig .tc := ⟨.hbm, 154, rfl⟩
abbrev main_v112 : Ref sig .tc := ⟨.hbm, 155, rfl⟩
abbrev main_cst_20 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_21 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_23 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_24 : Ref sig .tc := ⟨.hbm, 204, rfl⟩
abbrev main_v157 : Ref sig .tc := ⟨.hbm, 205, rfl⟩
abbrev main_cst_25 : Ref sig .tc := ⟨.hbm, 206, rfl⟩
abbrev main_v158 : Ref sig .tc := ⟨.hbm, 207, rfl⟩
abbrev main_v159 : Ref sig .tc := ⟨.hbm, 208, rfl⟩
abbrev main_cst_26 : Ref sig .tc := ⟨.hbm, 209, rfl⟩
abbrev main_v160 : Ref sig .tc := ⟨.hbm, 210, rfl⟩
abbrev main_v161 : Ref sig .tc := ⟨.hbm, 211, rfl⟩
abbrev main_cst_27 : Ref sig .tc := ⟨.hbm, 212, rfl⟩
abbrev main_v162 : Ref sig .tc := ⟨.hbm, 213, rfl⟩
abbrev main_v163 : Ref sig .tc := ⟨.hbm, 214, rfl⟩
abbrev main_cst_28 : Ref sig .tc := ⟨.hbm, 215, rfl⟩
abbrev main_v164 : Ref sig .tc := ⟨.hbm, 216, rfl⟩
abbrev main_v165 : Ref sig .tc := ⟨.hbm, 217, rfl⟩
abbrev main_cst_29 : Ref sig .tc := ⟨.hbm, 218, rfl⟩
abbrev main_v166 : Ref sig .tc := ⟨.hbm, 219, rfl⟩
abbrev main_v167 : Ref sig .tc := ⟨.hbm, 220, rfl⟩
abbrev main_cst_30 : Ref sig .tc := ⟨.hbm, 221, rfl⟩
abbrev main_v168 : Ref sig .tc := ⟨.hbm, 222, rfl⟩
abbrev main_v169 : Ref sig .tc := ⟨.hbm, 223, rfl⟩
abbrev main_cst_31 : Ref sig .tc := ⟨.hbm, 224, rfl⟩
abbrev main_v170 : Ref sig .tc := ⟨.hbm, 225, rfl⟩
abbrev main_v171 : Ref sig .tc := ⟨.hbm, 226, rfl⟩
abbrev main_cst_32 : Ref sig .tc := ⟨.hbm, 227, rfl⟩
abbrev main_v172 : Ref sig .tc := ⟨.hbm, 228, rfl⟩
abbrev main_v173 : Ref sig .tc := ⟨.hbm, 229, rfl⟩
abbrev main_cst_33 : Ref sig .tc := ⟨.hbm, 230, rfl⟩
abbrev main_v174 : Ref sig .tc := ⟨.hbm, 231, rfl⟩
abbrev main_v175 : Ref sig .tc := ⟨.hbm, 232, rfl⟩
abbrev main_cst_34 : Ref sig .tc := ⟨.hbm, 233, rfl⟩
abbrev main_v176 : Ref sig .tc := ⟨.hbm, 234, rfl⟩
abbrev main_v177 : Ref sig .tc := ⟨.hbm, 235, rfl⟩
abbrev main_cst_35 : Ref sig .tc := ⟨.hbm, 236, rfl⟩
abbrev main_v178 : Ref sig .tc := ⟨.hbm, 237, rfl⟩
abbrev main_v179 : Ref sig .tc := ⟨.hbm, 238, rfl⟩
abbrev main_cst_36 : Ref sig .tc := ⟨.hbm, 239, rfl⟩
abbrev main_v180 : Ref sig .tc := ⟨.hbm, 240, rfl⟩
abbrev main_v181 : Ref sig .tc := ⟨.hbm, 241, rfl⟩
abbrev main_cst_37 : Ref sig .tc := ⟨.hbm, 242, rfl⟩
abbrev main_v182 : Ref sig .tc := ⟨.hbm, 243, rfl⟩
abbrev main_v183 : Ref sig .tc := ⟨.hbm, 244, rfl⟩
abbrev main_cst_38 : Ref sig .tc := ⟨.hbm, 245, rfl⟩
abbrev main_v184 : Ref sig .tc := ⟨.hbm, 246, rfl⟩
abbrev main_v185 : Ref sig .tc := ⟨.hbm, 247, rfl⟩
abbrev main_cst_39 : Ref sig .tc := ⟨.hbm, 248, rfl⟩
abbrev main_v186 : Ref sig .tc := ⟨.hbm, 249, rfl⟩
abbrev main_v187 : Ref sig .tc := ⟨.hbm, 250, rfl⟩
abbrev main_cst_40 : Ref sig .tc := ⟨.hbm, 251, rfl⟩
abbrev main_v188 : Ref sig .tc := ⟨.hbm, 252, rfl⟩
abbrev main_v189 : Ref sig .tc := ⟨.hbm, 253, rfl⟩
abbrev main_cst_41 : Ref sig .tc := ⟨.hbm, 254, rfl⟩
abbrev main_v190 : Ref sig .tc := ⟨.hbm, 255, rfl⟩
abbrev main_v191 : Ref sig .tc := ⟨.hbm, 256, rfl⟩
abbrev main_cst_42 : Ref sig .tc := ⟨.hbm, 257, rfl⟩
abbrev main_v192 : Ref sig .tc := ⟨.hbm, 258, rfl⟩
abbrev main_v193 : Ref sig .tc := ⟨.hbm, 259, rfl⟩
abbrev main_cst_43 : Ref sig .tc := ⟨.hbm, 260, rfl⟩
abbrev main_v194 : Ref sig .tc := ⟨.hbm, 261, rfl⟩
abbrev main_v195 : Ref sig .tc := ⟨.hbm, 262, rfl⟩
abbrev main_cst_44 : Ref sig .tc := ⟨.hbm, 263, rfl⟩
abbrev main_v196 : Ref sig .tc := ⟨.hbm, 264, rfl⟩
abbrev main_v197 : Ref sig .tc := ⟨.hbm, 265, rfl⟩
abbrev main_cst_45 : Ref sig .tc := ⟨.hbm, 266, rfl⟩
abbrev main_v198 : Ref sig .tc := ⟨.hbm, 267, rfl⟩
abbrev main_v199 : Ref sig .tc := ⟨.hbm, 268, rfl⟩
abbrev main_cst_46 : Ref sig .tc := ⟨.hbm, 269, rfl⟩
abbrev main_v200 : Ref sig .tc := ⟨.hbm, 270, rfl⟩
abbrev main_v201 : Ref sig .tc := ⟨.hbm, 271, rfl⟩
abbrev main_cst_47 : Ref sig .tc := ⟨.hbm, 272, rfl⟩
abbrev main_v202 : Ref sig .tc := ⟨.hbm, 273, rfl⟩
abbrev main_v203 : Ref sig .tc := ⟨.hbm, 274, rfl⟩
abbrev main_cst_48 : Ref sig .tc := ⟨.hbm, 275, rfl⟩
abbrev main_v204 : Ref sig .tc := ⟨.hbm, 276, rfl⟩
abbrev main_v205 : Ref sig .tc := ⟨.hbm, 277, rfl⟩
abbrev main_cst_49 : Ref sig .tc := ⟨.hbm, 278, rfl⟩
abbrev main_v206 : Ref sig .tc := ⟨.hbm, 279, rfl⟩
abbrev main_v207 : Ref sig .tc := ⟨.hbm, 280, rfl⟩
abbrev main_cst_50 : Ref sig .tc := ⟨.hbm, 281, rfl⟩
abbrev main_v208 : Ref sig .tc := ⟨.hbm, 282, rfl⟩
abbrev main_v209 : Ref sig .tc := ⟨.hbm, 283, rfl⟩
abbrev main_cst_51 : Ref sig .tc := ⟨.hbm, 284, rfl⟩
abbrev main_v210 : Ref sig .tc := ⟨.hbm, 285, rfl⟩
abbrev main_v211 : Ref sig .tc := ⟨.hbm, 286, rfl⟩
abbrev main_cst_52 : Ref sig .tc := ⟨.hbm, 287, rfl⟩
abbrev main_v212 : Ref sig .tc := ⟨.hbm, 288, rfl⟩
abbrev main_v213 : Ref sig .tc := ⟨.hbm, 289, rfl⟩
abbrev main_cst_53 : Ref sig .tc := ⟨.hbm, 290, rfl⟩
abbrev main_v214 : Ref sig .tc := ⟨.hbm, 291, rfl⟩
abbrev main_v215 : Ref sig .tc := ⟨.hbm, 292, rfl⟩
abbrev main_cst_54 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_cst_55 : Ref sig .tc := ⟨.hbm, 301, rfl⟩
abbrev main_v223 : Ref sig .tc := ⟨.hbm, 302, rfl⟩
abbrev main_v224 : Ref sig .tc := ⟨.hbm, 303, rfl⟩
abbrev main_cst_56 : Ref sig .tc := ⟨.hbm, 304, rfl⟩
abbrev main_v225 : Ref sig .tc := ⟨.hbm, 305, rfl⟩
abbrev main_v226 : Ref sig .tc := ⟨.hbm, 306, rfl⟩
abbrev main_cst_57 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_cst_58 : Ref sig .tc := ⟨.hbm, 314, rfl⟩
abbrev main_v233 : Ref sig .tc := ⟨.hbm, 315, rfl⟩
abbrev main_v234 : Ref sig .tc := ⟨.hbm, 316, rfl⟩

abbrev nD : Nat := 1
abbrev τ : Topo := Topo.v7x

variable {F : FTy → Type} [FloatOps F]
-- ==== Proof.InProjRow.lean ====
module

public import Idealize.ShloMosaic.Lib.Pipeline.ValueKit
public import Idealize.ShloMosaic.Lib.Claim

@[expose] public section

set_option maxRecDepth 16384

noncomputable section

open Idealize.ShloMosaic

namespace Cert.InProjHand

/-- The mean square of a row plus the norm's small constant. -/
def rms (x : Fin 1024 → EReal) : EReal :=
  Ideal.div (∑ k, x k * x k) (Ideal.ofBits .f32 1149239296#32) + Ideal.ofBits .f32 897988541#32

/-- What the mean square hands back to each entry of the row, `a` being the gradient of the scaled row. -/
def corr (x a : Fin 1024 → EReal) : EReal :=
  ∑ _k : Fin 1, Ideal.div ((∑ k, x k * a k) * (Ideal.ofBits .f32 3204448256#32 * Ideal.div (Ideal.rsqrt (rms x)) (rms x)))
    (Ideal.ofBits .f32 1149239296#32)

/-- One entry of the row's gradient: the skip's share `d` and the norm's. -/
def gxRow (x a d : Fin 1024 → EReal) (j : Fin 1024) : EReal :=
  d j + (a j * Ideal.rsqrt (rms x) + x j * corr x a + corr x a * x j)

variable (dp : Fin 4096 → Fin 8192 → EReal) (w : Fin 1024 → Fin 8192 → EReal) (x dx1 : Fin 4096 → Fin 1024 → EReal)
  (g sc : Fin 1024 → EReal)

/-- The gradient of the normed rows: the incoming gradient against the weights. -/
def dh (R : Fin 4096) (j : Fin 1024) : EReal := ∑ q, dp R q * w j q

/-- The gradient of the rows. -/
def gx (R : Fin 4096) (j : Fin 1024) : EReal :=
  gxRow (x R) (fun k => dh dp w R k * (1 + sc k) * g k) (dx1 R) j

/-- What row `R` adds to the gradient of the gain, of the scale, of the shift (rows 0, 1, 2), and nothing in five rows. -/
def accTerm (r : Fin 8) (R : Fin 4096) (j : Fin 1024) : EReal :=
  if r.val = 2 then dh dp w R j
  else if r.val = 1 then x R j * Ideal.rsqrt (rms (x R)) * g j * dh dp w R j
  else if r.val = 0 then x R j * Ideal.rsqrt (rms (x R)) * (dh dp w R j * (1 + sc j))
  else 0

/-- The gradients of the gain, of the scale and of the shift, and five rows of zeros. -/
def acc (r : Fin 8) (j : Fin 1024) : EReal := ∑ R, accTerm dp w x g sc r R j

/-- A sum over 8192 columns, taken by the eight blocks of 1024 columns in the order 3, 6, 7, 0, 1, 2, 4, 5. -/
theorem sum_blocks (f : Fin 8192 → EReal) :
    ∑ q, f q =
      (∑ k : Fin 1024, f ⟨3072 + k.val, by omega⟩) + (∑ k : Fin 1024, f ⟨6144 + k.val, by omega⟩)
        + (∑ k : Fin 1024, f ⟨7168 + k.val, by omega⟩) + (∑ k : Fin 1024, f ⟨k.val, by omega⟩)
        + (∑ k : Fin 1024, f ⟨1024 + k.val, by omega⟩) + (∑ k : Fin 1024, f ⟨2048 + k.val, by omega⟩)
        + (∑ k : Fin 1024, f ⟨4096 + k.val, by omega⟩) + (∑ k : Fin 1024, f ⟨5120 + k.val, by omega⟩) := by
  have h : ∑ s : Fin 8, ∑ k : Fin 1024, f ⟨s.val * 1024 + k.val, by omega⟩ = ∑ q, f q := by
    exact Fin.sum_mul_add_congr (F := fun (s : Fin 8) (k : Fin 1024) => f ⟨s.val * 1024 + k.val, by omega⟩) (f := f)
      fun s k hl => rfl
  rw [← h, Fin.sum_univ_eight]
  simp only [Fin.val_zero, Fin.val_one, Fin.val_two, show ((3 : Fin 8) : ℕ) = 3 from rfl,
    show ((4 : Fin 8) : ℕ) = 4 from rfl, show ((5 : Fin 8) : ℕ) = 5 from rfl, show ((6 : Fin 8) : ℕ) = 6 from rfl,
    show ((7 : Fin 8) : ℕ) = 7 from rfl, Nat.zero_mul, Nat.zero_add, Nat.one_mul, Nat.reduceMul]
  ac_rfl

end Cert.InProjHand

end
-- ==== Proof.InProjBlock.lean ====
module

public import proofs.«01_k».proof.Proof.Gen.InProjIdeal.Value
public import proofs.«01_k».proof.Proof.Gen.InProjRefIdeal.Run
public import proofs.«01_k».proof.Proof.InProjRow
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

variable (m : (ℓ : Loc nD τ sig) → Buf (Elt Ideal) ℓ)

theorem idx : ∀ t : Fin cfg0.N,
    win0_0.index t = ![t.val, 0] ∧ win0_1.index t = ![0, 0, 0] ∧ win0_2.index t = ![t.val, 0]
      ∧ win0_3.index t = ![t.val, 0] ∧ win0_4.index t = ![0, 0] ∧ win0_5.index t = ![0, 0]
      ∧ win0_7.index t = ![t.val, 0] ∧ win0_8.index t = ![0, 0] :=
  (by decide +kernel : ∀ t : Fin grid0.N, _)

/-- The gradient of the normed rows in one block: eight products, one per block of columns. -/
def dhBlk (c : Dev nD) (t : Fin cfg0.N) : FVec Ideal S512x1024 .f32 :=
  k0_pay6
    (k0_pay5
      (View.ld (iblk m c 0 t) (Rect.unit ![0, 0] ![512, 1024] inb_S512x8192_S512x1024_0_0))
      (View.ld (iblk m c 1 t) (Rect.unit ![3, 0, 0] ![1, 1024, 1024] inb_S8x1024x1024_S1x1024x1024_3_0_0))
      (View.ld (iblk m c 0 t) (Rect.unit ![0, 1024] ![512, 1024] inb_S512x8192_S512x1024_0_1024))
      (View.ld (iblk m c 1 t) (Rect.unit ![6, 0, 0] ![1, 1024, 1024] inb_S8x1024x1024_S1x1024x1024_6_0_0))
      (View.ld (iblk m c 0 t) (Rect.unit ![0, 2048] ![512, 1024] inb_S512x8192_S512x1024_0_2048))
      (View.ld (iblk m c 1 t) (Rect.unit ![7, 0, 0] ![1, 1024, 1024] inb_S8x1024x1024_S1x1024x1024_7_0_0))
      (View.ld (iblk m c 0 t) (Rect.unit ![0, 3072] ![512, 1024] inb_S512x8192_S512x1024_0_3072))
      (View.ld (iblk m c 1 t) (Rect.unit ![0, 0, 0] ![1, 1024, 1024] inb_S8x1024x1024_S1x1024x1024_0_0_0)))
    (View.ld (iblk m c 0 t) (Rect.unit ![0, 4096] ![512, 1024] inb_S512x8192_S512x1024_0_4096))
    (View.ld (iblk m c 1 t) (Rect.unit ![1, 0, 0] ![1, 1024, 1024] inb_S8x1024x1024_S1x1024x1024_1_0_0))
    (View.ld (iblk m c 0 t) (Rect.unit ![0, 5120] ![512, 1024] inb_S512x8192_S512x1024_0_5120))
    (View.ld (iblk m c 1 t) (Rect.unit ![2, 0, 0] ![1, 1024, 1024] inb_S8x1024x1024_S1x1024x1024_2_0_0))
    (View.ld (iblk m c 0 t) (Rect.unit ![0, 6144] ![512, 1024] inb_S512x8192_S512x1024_0_6144))
    (View.ld (iblk m c 1 t) (Rect.unit ![4, 0, 0] ![1, 1024, 1024] inb_S8x1024x1024_S1x1024x1024_4_0_0))
    (View.ld (iblk m c 0 t) (Rect.unit ![0, 7168] ![512, 1024] inb_S512x8192_S512x1024_0_7168))
    (View.ld (iblk m c 1 t) (Rect.unit ![5, 0, 0] ![1, 1024, 1024] inb_S8x1024x1024_S1x1024x1024_5_0_0))

/-- The gradient array the host is handed, and the weights. -/
def dpA (c : Dev nD) : FVec Ideal S4096x8192 .f32 := m (c.tc.loc main_arg0)
def wA (c : Dev nD) : FVec Ideal S1024x8192 .f32 := m (c.tc.loc main_arg1)

theorem w_host (c : Dev nD) (s : Fin 8) (j k : Fin 1024) (h : s.val * 1024 + k.val < 8192) :
    (V m c main_v12 : FVec Ideal S8x1024x1024 .bf16) (ix3 s j k) = wA m c (ix2 j ⟨s.val * 1024 + k.val, h⟩) := by
  entry_read
  pointwise
  rfl

theorem V_v11 (c : Dev nD) :
    (V m c main_v11 : FVec Ideal S4096x8192 .bf16) = truncf .bf16 (concatenate S4096x8192 1
      [⟨S4096x1024, extractStridedSlice S4096x1024 ![0, 3072] (dpA m c) slices_S4096x8192_S4096x1024_0_3072⟩,
      ⟨S4096x1024, extractStridedSlice S4096x1024 ![0, 6144] (dpA m c) slices_S4096x8192_S4096x1024_0_6144⟩,
      ⟨S4096x1024, extractStridedSlice S4096x1024 ![0, 7168] (dpA m c) slices_S4096x8192_S4096x1024_0_7168⟩,
      ⟨S4096x1024, extractStridedSlice S4096x1024 ![0, 0] (dpA m c) slices_S4096x8192_S4096x1024_0_0⟩,
      ⟨S4096x1024, extractStridedSlice S4096x1024 ![0, 1024] (dpA m c) slices_S4096x8192_S4096x1024_0_1024⟩,
      ⟨S4096x1024, extractStridedSlice S4096x1024 ![0, 2048] (dpA m c) slices_S4096x8192_S4096x1024_0_2048⟩,
      ⟨S4096x1024, extractStridedSlice S4096x1024 ![0, 4096] (dpA m c) slices_S4096x8192_S4096x1024_0_4096⟩,
      ⟨S4096x1024, extractStridedSlice S4096x1024 ![0, 5120] (dpA m c) slices_S4096x8192_S4096x1024_0_5120⟩]
      concatenates_S4096x1024_S4096x1024_S4096x1024_S4096x1024_S4096x1024_S4096x1024_S4096x1024_S4096x1024_S4096x8192_d1)
      bitsLt_bf16_f32 := by
  dsimp only [V, dpA]
  simp only [Idealize.ShloMosaic.StableHlo.after_cons, Idealize.ShloMosaic.StableHlo.after_nil]
  after_results_simp
  rfl

/-- Each block of 1024 columns of the re-ordered gradient, read in the gradient as handed over. -/
theorem p_host (c : Dev nD) (R : Fin 4096) (k : Fin 1024) (a : FVec Ideal S4096x8192 .bf16) (ha : a = V m c main_v11) :
    a (ix2 R ⟨k.val, by omega⟩) = dpA m c (ix2 R ⟨3072 + k.val, by omega⟩)
      ∧ a (ix2 R ⟨1024 + k.val, by omega⟩) = dpA m c (ix2 R ⟨6144 + k.val, by omega⟩)
      ∧ a (ix2 R ⟨2048 + k.val, by omega⟩) = dpA m c (ix2 R ⟨7168 + k.val, by omega⟩)
      ∧ a (ix2 R ⟨3072 + k.val, by omega⟩) = dpA m c (ix2 R ⟨k.val, by omega⟩)
      ∧ a (ix2 R ⟨4096 + k.val, by omega⟩) = dpA m c (ix2 R ⟨1024 + k.val, by omega⟩)
      ∧ a (ix2 R ⟨5120 + k.val, by omega⟩) = dpA m c (ix2 R ⟨2048 + k.val, by omega⟩)
      ∧ a (ix2 R ⟨6144 + k.val, by omega⟩) = dpA m c (ix2 R ⟨4096 + k.val, by omega⟩)
      ∧ a (ix2 R ⟨7168 + k.val, by omega⟩) = dpA m c (ix2 R ⟨5120 + k.val, by omega⟩) := by
  subst ha
  rw [V_v11]
  refine ⟨?_, ?_, ?_, ?_, ?_, ?_, ?_, ?_⟩ <;> pointwise
  all_goals
    repeat rw [dif_neg (by omega)]
    try rw [dif_pos (by omega)]
    exact congrArg (dpA m c) (congrArg (ix2 R) (Fin.ext (by dsimp only; omega)))

theorem blk0 (c : Dev nD) (t : Fin cfg0.N) (r : Fin 512) (q : Fin 8192) (hR : t.val * 512 + r.val < 4096) :
    (iblk m c 0 t : FVec Ideal S512x8192 .bf16) (ix2 r q)
      = (V m c main_v11 : FVec Ideal S4096x8192 .bf16) (ix2 ⟨t.val * 512 + r.val, hR⟩ q) := by
  generalize hV : (V m c main_v11 : FVec Ideal S4096x8192 .bf16) = a
  blk_simp [iblk]
  rw [hV]
  blk_ext [idx t]

theorem blk1 (c : Dev nD) (t : Fin cfg0.N) (s : Fin 8) (j k : Fin 1024) :
    (iblk m c 1 t : FVec Ideal S8x1024x1024 .bf16) (ix3 s j k)
      = (V m c main_v12 : FVec Ideal S8x1024x1024 .bf16) (ix3 s j k) := by
  generalize hV : (V m c main_v12 : FVec Ideal S8x1024x1024 .bf16) = a
  blk_simp [iblk]
  rw [hV]
  blk_ext [idx t]

theorem dhBlk_apply (c : Dev nD) (t : Fin cfg0.N) (r : Fin 512) (j : Fin 1024) (hR : t.val * 512 + r.val < 4096) :
    dhBlk m c t (ix2 r j) = Cert.InProjHand.dh (fun R q => dpA m c (ix2 R q)) (fun j q => wA m c (ix2 j q)) ⟨t.val * 512 + r.val, hR⟩ j := by
  have hp := fun k => p_host m c ⟨t.val * 512 + r.val, hR⟩ k _ rfl
  have hw := fun (s : Fin 8) (k : Fin 1024) => w_host m c s j k (by omega)
  have h0 := fun q => blk0 m c t r q hR
  have h1 := fun s k => blk1 m c t s j k
  unfold dhBlk
  unfold_payloads
  pointwise
  rw [Cert.InProjHand.dh, Cert.InProjHand.sum_blocks]
  generalize iblk m c 0 t = X0 at h0 ⊢
  generalize iblk m c 1 t = X1 at h1 ⊢
  simp only [h0, h1, hw, (hp _).1, (hp _).2.1, (hp _).2.2.1, (hp _).2.2.2.1, (hp _).2.2.2.2.1, (hp _).2.2.2.2.2.1,
    (hp _).2.2.2.2.2.2.1, (hp _).2.2.2.2.2.2.2]
  rfl

end Cert.InProjIdeal.Hand
end
-- ==== Proof.RowStore.lean ====
module

public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic

namespace Cert.RowStore

variable {sig : RefSig} {κ : Kind} {sp : Space} {e : EltTy} {Val : EltTy → Type} {n q : ℕ}

/-- One row stored over a matrix: the row itself there, what was there before in every other row. -/
theorem read_row (v : View sig κ sp (⟨2, ![n, q]⟩ : Shape) e) (f : v.ty.Contents Val) (k : ℕ)
    (inb : ∀ a, (![k, 0] : Fin 2 → ℕ) a + (![1, q] : Fin 2 → ℕ) a ≤ (⟨2, ![n, q]⟩ : Shape).size a)
    (w : (⟨2, ![1, q]⟩ : Shape).Idx → Val e) (L : List (View.Piece Val (⟨2, ![n, q]⟩ : Shape) e))
    (r : Fin n) (j : Fin q) :
    v.read Val (v.writes Val f (⟨Rect.unit ![k, 0] ![1, q] inb, w⟩ :: L)) (ix2 r j)
      = if r.val = k then w (ix2 0 j) else v.read Val (v.writes Val f L) (ix2 r j) := by
  by_cases h : r.val = k
  · rw [if_pos h]
    exact View.read_writes_cons_unit_of_mem v f inb w L (ix2 r j) (ix2 0 j) rfl
      (Fin.forall_fin_two.mpr ⟨h, (Nat.zero_add _).symm⟩)
  · rw [if_neg h]
    refine View.read_writes_cons_unit_of_not_mem v f inb w L (ix2 r j) rfl 0 ?_
    show r.val < k ∨ k + 1 ≤ r.val
    omega

/-- The whole matrix stored. -/
theorem read_fill (v : View sig κ sp (⟨2, ![n, q]⟩ : Shape) e) (f : v.ty.Contents Val)
    (inb : ∀ a, (![0, 0] : Fin 2 → ℕ) a + (![n, q] : Fin 2 → ℕ) a ≤ (⟨2, ![n, q]⟩ : Shape).size a)
    (w : (⟨2, ![n, q]⟩ : Shape).Idx → Val e) (L : List (View.Piece Val (⟨2, ![n, q]⟩ : Shape) e))
    (r : Fin n) (j : Fin q) :
    v.read Val (v.writes Val f (⟨Rect.unit ![0, 0] ![n, q] inb, w⟩ :: L)) (ix2 r j) = w (ix2 r j) :=
  View.read_writes_cons_unit_of_mem v f inb w L (ix2 r j) (ix2 r j) rfl
    (Fin.forall_fin_two.mpr ⟨(Nat.zero_add _).symm, (Nat.zero_add _).symm⟩)

end Cert.RowStore

end
-- ==== Proof.InProjOut.lean ====
module

public import proofs.«01_k».proof.Proof.InProjBlock
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

variable (m : (ℓ : Loc nD τ sig) → Buf (Elt Ideal) ℓ)

def xA (c : Dev nD) : FVec Ideal S4096x1024 .f32 := m (c.tc.loc main_arg2)
def dxA (c : Dev nD) : FVec Ideal S4096x1024 .f32 := m (c.tc.loc main_arg3)
def gA (c : Dev nD) : FVec Ideal S1x1024 .f32 := m (c.tc.loc main_arg4)
def scA (c : Dev nD) : FVec Ideal S1x1024 .f32 := m (c.tc.loc main_arg5)

/-- The gradient of the rows, of the arrays handed over. -/
def gxK (c : Dev nD) : Fin 4096 → Fin 1024 → EReal :=
  Cert.InProjHand.gx (fun R q => dpA m c (ix2 R q)) (fun j q => wA m c (ix2 j q)) (fun R j => xA m c (ix2 R j))
    (fun R j => dxA m c (ix2 R j)) (fun j => gA m c (ix2 0 j)) (fun j => scA m c (ix2 0 j))

/-- One block of rows of the gradient, at every point. -/
theorem out7 (c : Dev nD) (t : Fin cfg0.N) :
    (outsAt0 m c t.val t.isLt).1 = k0_pay16 (dhBlk m c t) (iblk m c 2 t) (iblk m c 4 t) (iblk m c 5 t)
      (k0_pay7 (iblk m c 2 t)) k0_pay8 (iblk m c 3 t) := by
  by_cases h : t.val % 8 = 0
  · rw [outsAt0_A m c t h]; frame_out; rfl
  · rw [outsAt0_B m c t h]; frame_out; rfl

theorem pay16 (d x : FVec Ideal S512x1024 .f32) (g s : FVec Ideal S1x1024 .f32) (x1 : FVec Ideal S512x1024 .f32)
    (r : Fin 512) (j : Fin 1024) :
    k0_pay16 d x g s (k0_pay7 x) k0_pay8 x1 (ix2 r j) =
      Cert.InProjHand.gxRow (fun k => x (ix2 r k)) (fun k => d (ix2 r k) * (1 + s (ix2 0 k)) * g (ix2 0 k))
        (fun k => x1 (ix2 r k)) j := by
  unfold_payloads
  pointwise [Cert.InProjHand.gxRow, Cert.InProjHand.corr, Cert.InProjHand.rms]

theorem point7 (c : Dev nD) (t : Fin cfg0.N) (r : Fin 512) (j : Fin 1024) (hR : t.val * 512 + r.val < 4096) :
    (outsAt0 m c t.val t.isLt).1 (ix2 r j) = gxK m c ⟨t.val * 512 + r.val, hR⟩ j := by
  rw [out7, pay16]
  unfold gxK Cert.InProjHand.gx
  simp only [dhBlk_apply m c t r _ hR]
  blk_point [iblk, V, idx t]

theorem final7 (c : Dev nD) : (dats m 0 c).arrAt 7 cfg0.N = fun i : S4096x1024.Idx => gxK m c (i 0) (i 1) := by
  refine (dats m 0 c).arrAt_eq_of_covers 7 _ (by decide +kernel) fun t hf y => ?_
  rw [after0_7]
  blk_simp [idx t]
  have ht : t.val < 8 := t.isLt
  have hy : (y 0).val < 512 := (y 0).isLt
  have hy1 : (y 1).val < 1024 := (y 1).isLt
  refine Eq.trans (congrArg _ ?_) ((point7 m c t ⟨(y 0).val, hy⟩ ⟨(y 1).val, hy1⟩ (by dsimp only; omega)).trans ?_)
  · blk_ext
  · refine congrArg₂ (gxK m c) (Fin.ext ?_) (Fin.ext ?_) <;> blk_simp [idx t]

def accK (c : Dev nD) : Fin 8 → Fin 1024 → EReal :=
  Cert.InProjHand.acc (fun R q => dpA m c (ix2 R q)) (fun j q => wA m c (ix2 j q)) (fun R j => xA m c (ix2 R j))
    (fun j => gA m c (ix2 0 j)) (fun j => scA m c (ix2 0 j))

/-- What one block of rows adds to the accumulated gradients. -/
def accBlk (c : Dev nD) (t : Fin cfg0.N) (r : Fin 8) (j : Fin 1024) : EReal :=
  if r.val = 2 then k0_pay12 (dhBlk m c t) (ix2 0 j)
  else if r.val = 1 then k0_pay13 (dhBlk m c t) (iblk m c 2 t) (iblk m c 4 t) (k0_pay7 (iblk m c 2 t)) k0_pay8 (ix2 0 j)
  else if r.val = 0 then k0_pay15 (dhBlk m c t) (iblk m c 2 t) (iblk m c 5 t) (k0_pay7 (iblk m c 2 t)) k0_pay8 (ix2 0 j)
  else 0

/-- A stored row is the row before plus what is added. -/
theorem pay_rows (a : FVec Ideal S1x1024 .f32) (Z : FVec Ideal S8x1024 .f32) (j : Fin 1024) :
    k0_pay3 a (View.ld (Val := Elt Ideal) (e' := .f32) Z (Rect.unit ![2, 0] ![1, 1024] inb_S8x1024_S1x1024_2_0)) (ix2 0 j)
        = Z (ix2 2 j) + a (ix2 0 j)
      ∧ k0_pay2 a (View.ld (Val := Elt Ideal) (e' := .f32) Z (Rect.unit ![1, 0] ![1, 1024] inb_S8x1024_S1x1024_1_0)) (ix2 0 j)
        = Z (ix2 1 j) + a (ix2 0 j)
      ∧ k0_pay1 a (View.ld (Val := Elt Ideal) (e' := .f32) Z (Rect.unit ![0, 0] ![1, 1024] inb_S8x1024_S1x1024_0_0)) (ix2 0 j)
        = Z (ix2 0 j) + a (ix2 0 j) := by
  unfold_payloads
  refine ⟨?_, ?_, ?_⟩ <;> pointwise

theorem rows_ite (a : FVec Ideal S1x1024 .f32) (b : FVec Ideal S1x1024 .f32) (e : FVec Ideal S1x1024 .f32)
    (Z : FVec Ideal S8x1024 .f32) (r : Fin 8) (j : Fin 1024) :
    (if r.val = 2 then
        k0_pay3 a (View.ld (Val := Elt Ideal) (e' := .f32) Z (Rect.unit ![2, 0] ![1, 1024] inb_S8x1024_S1x1024_2_0)) (ix2 0 j)
      else if r.val = 1 then
        k0_pay2 b (View.ld (Val := Elt Ideal) (e' := .f32) Z (Rect.unit ![1, 0] ![1, 1024] inb_S8x1024_S1x1024_1_0)) (ix2 0 j)
      else if r.val = 0 then
        k0_pay1 e (View.ld (Val := Elt Ideal) (e' := .f32) Z (Rect.unit ![0, 0] ![1, 1024] inb_S8x1024_S1x1024_0_0)) (ix2 0 j)
      else Z (ix2 r j))
      = Z (ix2 r j) + (if r.val = 2 then a (ix2 0 j) else if r.val = 1 then b (ix2 0 j) else if r.val = 0 then e (ix2 0 j)
        else 0) := by
  rw [(pay_rows a Z j).1, (pay_rows b Z j).2.1, (pay_rows e Z j).2.2]
  by_cases h2 : r.val = 2
  · obtain rfl : r = 2 := Fin.ext h2
    rfl
  by_cases h1 : r.val = 1
  · obtain rfl : r = 1 := Fin.ext h1
    rfl
  by_cases h0 : r.val = 0
  · obtain rfl : r = 0 := Fin.ext h0
    rfl
  rw [if_neg h2, if_neg h1, if_neg h0, if_neg h2, if_neg h1, if_neg h0, add_zero]

theorem out8A (c : Dev nD) (t : Fin cfg0.N) (h : t.val % 8 = 0) (r : Fin 8) (j : Fin 1024) :
    (outsAt0 m c t.val t.isLt).2 (ix2 r j) = 0 + accBlk m c t r j := by
  rw [outsAt0_A m c t h]
  frame_open
  simp (disch := decide) only [↓ View.readCov_skip, ↓ View.readCov_cons_toLoadRect, ↓ View.readCov_fill]
  frame_out
  generalize hd : k0_pay6 (F := Ideal) _ _ _ _ _ _ _ _ _ = d
  replace hd : dhBlk m c t = d := hd
  unfold accBlk
  rw [hd, ← View.read_writes_junk_eq_canon (ms0_8 t).view, RowStore.read_row, RowStore.read_row, RowStore.read_row,
    RowStore.read_fill]
  refine (rows_ite _ _ _ _ r j).trans (congrArg (· + _) ?_)
  unfold_payloads
  pointwise

theorem out8B (c : Dev nD) (t : Fin cfg0.N) (h : ¬ t.val % 8 = 0) (r : Fin 8) (j : Fin 1024) :
    (outsAt0 m c t.val t.isLt).2 (ix2 r j) = (outsAt0 m c (t.val - 1) (by omega)).2 (ix2 r j) + accBlk m c t r j := by
  rw [outsAt0_B m c t h]
  frame_open
  frame_out
  generalize hd : k0_pay6 (F := Ideal) _ _ _ _ _ _ _ _ _ = d
  replace hd : dhBlk m c t = d := hd
  unfold accBlk
  rw [hd, RowStore.read_row, RowStore.read_row, RowStore.read_row, View.writes_nil, Memref.IsWhole.read_unread]
  exact rows_ite _ _ _ _ r j

theorem pay12 (d : FVec Ideal S512x1024 .f32) (j : Fin 1024) : k0_pay12 d (ix2 0 j) = ∑ k, d (ix2 k j) := by
  unfold_payloads
  pointwise

theorem pay13 (d x : FVec Ideal S512x1024 .f32) (g : FVec Ideal S1x1024 .f32) (j : Fin 1024) :
    k0_pay13 d x g (k0_pay7 x) k0_pay8 (ix2 0 j)
      = ∑ k, x (ix2 k j) * Ideal.rsqrt (Cert.InProjHand.rms fun q => x (ix2 k q)) * g (ix2 0 j) * d (ix2 k j) := by
  unfold_payloads
  pointwise [Cert.InProjHand.rms]

theorem pay15 (d x : FVec Ideal S512x1024 .f32) (s : FVec Ideal S1x1024 .f32) (j : Fin 1024) :
    k0_pay15 d x s (k0_pay7 x) k0_pay8 (ix2 0 j)
      = ∑ k, x (ix2 k j) * Ideal.rsqrt (Cert.InProjHand.rms fun q => x (ix2 k q)) * (d (ix2 k j) * (1 + s (ix2 0 j))) := by
  unfold_payloads
  pointwise [Cert.InProjHand.rms]

/-- One row's share of the accumulated gradients. -/
def accRow (c : Dev nD) : Fin 8 → Fin 4096 → Fin 1024 → EReal :=
  Cert.InProjHand.accTerm (fun R q => dpA m c (ix2 R q)) (fun j q => wA m c (ix2 j q)) (fun R j => xA m c (ix2 R j))
    (fun j => gA m c (ix2 0 j)) (fun j => scA m c (ix2 0 j))

theorem accBlk_eq (c : Dev nD) (t : Fin cfg0.N) (r : Fin 8) (j : Fin 1024) (hN : ∀ k : Fin 512, t.val * 512 + k.val < 4096) :
    accBlk m c t r j = ∑ k : Fin 512, accRow m c r ⟨t.val * 512 + k.val, hN k⟩ j := by
  unfold accBlk
  rw [pay12, pay13, pay15]
  unfold accRow Cert.InProjHand.accTerm
  simp only [fun k => dhBlk_apply m c t k j (hN k)]
  by_cases h2 : r.val = 2
  · simp only [if_pos h2]
  by_cases h1 : r.val = 1
  · simp only [if_neg h2, if_pos h1]
    blk_point [iblk, V, idx t]
  by_cases h0 : r.val = 0
  · simp only [if_neg h2, if_neg h1, if_pos h0]
    blk_point [iblk, V, idx t]
  simp only [if_neg h2, if_neg h1, if_neg h0, Finset.sum_const_zero]

theorem final8 (c : Dev nD) : (dats m 0 c).arrAt 8 cfg0.N = fun i : S8x1024.Idx => accK m c (i 0) (i 1) := by
  refine (dats m 0 c).arrAt_eq_of_after_last 8 t0_7 (by decide +kernel) _ fun j => ?_
  blk_simp [idx t0_7]
  rw [after0_8]
  have h := Pipeline.eq_sum_fin_of_reset_step_apply_last (fun n h => fun i : Fin 8 × Fin 1024 => (outsAt0 m c n h).2 (ix2 i.1 i.2))
    8 (fun _ => 0) (fun t i => accBlk m c t i.1 i.2) (fun t h i => out8A m c t h i.1 i.2) (fun t h i => out8B m c t h i.1 i.2)
    (le_of_eq N_0) t0_7 rfl (j 0, j 1)
  refine Eq.trans (congrArg _ ?_) (h.trans ?_)
  · blk_ext
  · rw [zero_add]
    refine Eq.trans ?_ (Fin.sum_mul_add_congr (F := fun (t : Fin cfg0.N) (k : Fin 512) =>
      accRow m c (j 0) ⟨t.val * 512 + k.val, by have := t.isLt; have := (show cfg0.N = 8 from N_0); omega⟩ (j 1)) fun s k hl => rfl)
    exact Finset.sum_congr rfl fun t _ => accBlk_eq m c t (j 0) (j 1) _

end Cert.InProjIdeal.Hand
end
-- ==== Proof.InProjRef.lean ====
module

public import proofs.«01_k».proof.Proof.InProjRow
public import proofs.«01_k».proof.Proof.Gen.InProjRefIdeal.Run
public import proofs.«01_k».proof.Proof.Gen.InProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InProjRefIdeal.Hand

open Cert.InProjRefIdeal Cert.InProjRefIdeal.Gen Cert.InProjRefIdeal.Read

variable (dp : FVec Ideal S4096x8192 .f32) (w : FVec Ideal S1024x8192 .f32) (x dx1 : FVec Ideal S4096x1024 .f32)
  (g sc : FVec Ideal S1x1024 .f32)

theorem v49 (R : Fin 4096) (j : Fin 1024) :
    val_main_v49 (F := Ideal) dp w x dx1 g sc (ix2 R j) = Cert.InProjHand.gx (fun R q => dp (ix2 R q)) (fun j q => w (ix2 j q))
      (fun R j => x (ix2 R j)) (fun R j => dx1 (ix2 R j)) (fun j => g (ix2 0 j)) (fun j => sc (ix2 0 j)) R j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_cst_4, val_main_v23, val_main_v24, val_main_v25, val_main_cst_5, val_main_v26, val_main_v27, val_main_v28, val_main_v29, val_main_v30, val_main_cst_6, val_main_v31, val_main_v32, val_main_v33, val_main_v34, val_main_v35, val_main_cst_7, val_main_v36, val_main_v37, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, Cert.InProjHand.gx, Cert.InProjHand.gxRow, Cert.InProjHand.corr,
    Cert.InProjHand.rms, Cert.InProjHand.dh]
  simp only [add_assoc]

theorem v51 (r : Fin 8) (j : Fin 1024) :
    val_main_v51 (F := Ideal) dp w x g sc (ix2 r j) = Cert.InProjHand.acc (fun R q => dp (ix2 R q)) (fun j q => w (ix2 j q))
      (fun R j => x (ix2 R j)) (fun j => g (ix2 0 j)) (fun j => sc (ix2 0 j)) r j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_cst_4, val_main_v23, val_main_v24, val_main_v25, val_main_cst_5, val_main_v26, val_main_v27, val_main_v28, val_main_v29, val_main_v30, val_main_cst_6, val_main_v31, val_main_v32, val_main_v33, val_main_v34, val_main_v35, val_main_cst_7, val_main_v36, val_main_v37, val_main_v38, val_main_v39, val_main_v40, val_main_v41, val_main_cst_8, val_main_v42, val_main_v43, val_main_cst_9, val_main_v44, val_main_v45, val_main_v46, val_main_v47, val_main_v48, val_main_v49, val_main_cst_10, val_main_v50, val_main_v51, Cert.InProjHand.acc, Cert.InProjHand.accTerm,
    Cert.InProjHand.rms, Cert.InProjHand.dh]
  by_cases h2 : r.val = 2
  · simp only [if_pos h2]
    rw [dif_neg (by omega), dif_neg (by omega), dif_pos (by omega)]
  by_cases h1 : r.val = 1
  · simp only [if_neg h2, if_pos h1]
    rw [dif_neg (by omega), dif_pos (by omega)]
  by_cases h0 : r.val = 0
  · simp only [if_neg h2, if_neg h1, if_pos h0]
    rw [dif_pos (by omega)]
  simp only [if_neg h2, if_neg h1, if_neg h0, Finset.sum_const_zero]
  rw [dif_neg (by omega), dif_neg (by omega), dif_neg (by omega)]

end Cert.InProjRefIdeal.Hand
end
-- ==== Proof.FfnRow.lean ====
module

public import proofs.«01_k».proof.Proof.InProjRow

@[expose] public section

set_option maxRecDepth 16384

noncomputable section

open Idealize.ShloMosaic

namespace Cert.FfnHand

/-- A row under the norm, with its gain, its scale and its shift. -/
def h (x g sc sh : Fin 1024 → EReal) (k : Fin 1024) : EReal :=
  x k * Ideal.rsqrt (Cert.InProjHand.rms x) * g k * (1 + sc k) + sh k

/-- The row after the first product. -/
def z (x g sc sh : Fin 1024 → EReal) (w1 : Fin 1024 → Fin 4096 → EReal) (q : Fin 4096) : EReal :=
  ∑ k, h x g sc sh k * w1 k q

/-- The square of the positive part. -/
def act (a : EReal) : EReal := max a 0 * max a 0

/-- The row after the second product. -/
def y (x g sc sh : Fin 1024 → EReal) (w1 : Fin 1024 → Fin 4096 → EReal) (w2 : Fin 4096 → Fin 1024 → EReal)
    (j : Fin 1024) : EReal := ∑ q, act (z x g sc sh w1 q) * w2 q j

/-- How far the row is from its target: the skip and the gated norm of `y`, less the target. -/
def err (x tg y g2 post : Fin 1024 → EReal) (j : Fin 1024) : EReal :=
  x j + g2 j * (y j * Ideal.rsqrt (Cert.InProjHand.rms y) * post j) - tg j

/-- The loss's gradient with respect to the row's result. -/
def cot (e : Fin 1024 → EReal) (j : Fin 1024) : EReal := e j * Ideal.ofBits .f32 981467136#32

/-- The gradient of `y`, of the gradient `d` of the row's result. -/
def dy (y d g2 post : Fin 1024 → EReal) (j : Fin 1024) : EReal :=
  let a := fun k => g2 k * d k * post k
  a j * Ideal.rsqrt (Cert.InProjHand.rms y) + y j * Cert.InProjHand.corr y a + Cert.InProjHand.corr y a * y j

/-- The gradient of `z`, of the gradient `b` of `y`. -/
def dz (z : Fin 4096 → EReal) (b : Fin 1024 → EReal) (w2 : Fin 4096 → Fin 1024 → EReal) (q : Fin 4096) : EReal :=
  (∑ k, b k * w2 q k) * (Ideal.ofBits .f32 1073741824#32 * max (z q) 0)

/-- The gradient of `h`, of the gradient `e` of `z`. -/
def dh (e : Fin 4096 → EReal) (w1 : Fin 1024 → Fin 4096 → EReal) (j : Fin 1024) : EReal := ∑ q, e q * w1 j q

section Rows

variable (x tg : Fin 4096 → Fin 1024 → EReal) (w1 : Fin 1024 → Fin 4096 → EReal) (w2 : Fin 4096 → Fin 1024 → EReal)
  (pre sc sh g2 post : Fin 1024 → EReal)

def H (R : Fin 4096) : Fin 1024 → EReal := h (x R) pre sc sh
def Z (R : Fin 4096) : Fin 4096 → EReal := z (x R) pre sc sh w1
def Act (R q : Fin 4096) : EReal := act (Z x w1 pre sc sh R q)
def Y (R : Fin 4096) : Fin 1024 → EReal := y (x R) pre sc sh w1 w2
def Err (R : Fin 4096) : Fin 1024 → EReal := err (x R) (tg R) (Y x w1 w2 pre sc sh R) g2 post
def Cot (R : Fin 4096) : Fin 1024 → EReal := cot (Err x tg w1 w2 pre sc sh g2 post R)
def Dy (R : Fin 4096) : Fin 1024 → EReal := dy (Y x w1 w2 pre sc sh R) (Cot x tg w1 w2 pre sc sh g2 post R) g2 post
def Dz (R : Fin 4096) : Fin 4096 → EReal := dz (Z x w1 pre sc sh R) (Dy x tg w1 w2 pre sc sh g2 post R) w2
def Dh (R : Fin 4096) : Fin 1024 → EReal := dh (Dz x tg w1 w2 pre sc sh g2 post R) w1
/-- The gradient of the rows. -/
def Dx (R : Fin 4096) (j : Fin 1024) : EReal :=
  Cert.InProjHand.gxRow (x R) (fun k => Dh x tg w1 w2 pre sc sh g2 post R k * (1 + sc k) * pre k)
    (Cot x tg w1 w2 pre sc sh g2 post R) j

/-- One row's share of the eight accumulated rows: the gradients of the first norm's gain, of the second's, of the scale,
    of the shift, of the gate, the loss, and nothing in two. -/
def accTerm (r : Fin 8) (R : Fin 4096) (j : Fin 1024) : EReal :=
  if r.val = 4 then Cot x tg w1 w2 pre sc sh g2 post R j
      * (Y x w1 w2 pre sc sh R j * Ideal.rsqrt (Cert.InProjHand.rms (Y x w1 w2 pre sc sh R)) * post j)
  else if r.val = 3 then Dh x tg w1 w2 pre sc sh g2 post R j
  else if r.val = 2 then x R j * Ideal.rsqrt (Cert.InProjHand.rms (x R)) * pre j * Dh x tg w1 w2 pre sc sh g2 post R j
  else if r.val = 1 then Y x w1 w2 pre sc sh R j * Ideal.rsqrt (Cert.InProjHand.rms (Y x w1 w2 pre sc sh R))
      * (g2 j * Cot x tg w1 w2 pre sc sh g2 post R j)
  else if r.val = 0 then x R j * Ideal.rsqrt (Cert.InProjHand.rms (x R)) * (Dh x tg w1 w2 pre sc sh g2 post R j * (1 + sc j))
  else if r.val = 5 then Ideal.ofBits .f32 1056964608#32
      * Ideal.div (∑ k, Err x tg w1 w2 pre sc sh g2 post R k * Err x tg w1 w2 pre sc sh g2 post R k) (Ideal.ofBits .f32 1149239296#32)
  else 0

def Acc (r : Fin 8) (j : Fin 1024) : EReal := ∑ R, accTerm x tg w1 w2 pre sc sh g2 post r R j

end Rows

/-- A sum over 4096 columns, taken by eight blocks of 512. -/
theorem sum_blocks (f : Fin 4096 → EReal) :
    (∑ k : Fin 512, f ⟨k.val, by omega⟩) + (∑ k : Fin 512, f ⟨512 + k.val, by omega⟩)
        + (∑ k : Fin 512, f ⟨1024 + k.val, by omega⟩) + (∑ k : Fin 512, f ⟨1536 + k.val, by omega⟩)
        + (∑ k : Fin 512, f ⟨2048 + k.val, by omega⟩) + (∑ k : Fin 512, f ⟨2560 + k.val, by omega⟩)
        + (∑ k : Fin 512, f ⟨3072 + k.val, by omega⟩) + (∑ k : Fin 512, f ⟨3584 + k.val, by omega⟩)
      = ∑ q, f q := by
  have h : ∑ s : Fin 8, ∑ k : Fin 512, f ⟨s.val * 512 + k.val, by omega⟩ = ∑ q, f q := by
    exact Fin.sum_mul_add_congr (F := fun (s : Fin 8) (k : Fin 512) => f ⟨s.val * 512 + k.val, by omega⟩) (f := f)
      fun s k hl => rfl
  rw [← h, Fin.sum_univ_eight]
  simp only [Fin.val_zero, Fin.val_one, Fin.val_two, show ((3 : Fin 8) : ℕ) = 3 from rfl,
    show ((4 : Fin 8) : ℕ) = 4 from rfl, show ((5 : Fin 8) : ℕ) = 5 from rfl, show ((6 : Fin 8) : ℕ) = 6 from rfl,
    show ((7 : Fin 8) : ℕ) = 7 from rfl, Nat.zero_mul, Nat.zero_add, Nat.one_mul, Nat.reduceMul]

/-- Twice a positive part, kept where the number is positive, is twice the positive part. -/
theorem select_relu (a b t : EReal) : (if 0 < a then b * (t * max a 0) else 0) = b * (t * max a 0) := by
  by_cases h : 0 < a
  · rw [if_pos h]
  · rw [if_neg h, max_eq_right (not_lt.mp h), mul_zero, mul_zero]

/-- The constants 1/2, 1/1024, 2 and 1024. -/
theorem ofBits_half : Ideal.ofBits .f32 1056964608#32 = ((1 / 2 : ℝ) : EReal) := by
  simp [Ideal.ofBits, Ideal.ieee, -EReal.coe_mul]; norm_num
theorem ofBits_thousandth : Ideal.ofBits .f32 981467136#32 = ((1 / 1024 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_1024 : Ideal.ofBits .f32 1149239296#32 = ((1024 : ℝ) : EReal) := by
  simp [Ideal.ofBits, Ideal.ieee, -EReal.coe_mul]; norm_num

/-- A positive real factor goes into a sum. -/
theorem mul_sum_of_pos {n : ℕ} {a : ℝ} (ha : 0 ≤ a) (f : Fin n → EReal) : (a : EReal) * ∑ k, f k = ∑ k, (a : EReal) * f k := by
  induction n with
  | zero => simp
  | succ n ih =>
    rw [Fin.sum_univ_succ, Fin.sum_univ_succ, EReal.left_distrib_of_nonneg_of_ne_top (by exact_mod_cast ha) (EReal.coe_ne_top a), ih]

/-- Twice half a thousandth is a thousandth. -/
theorem cot_const (e : EReal) :
    Ideal.div (Ideal.ofBits .f32 1056964608#32) (Ideal.ofBits .f32 1149239296#32)
      * (Ideal.ofBits .f32 1073741824#32 * e) = e * Ideal.ofBits .f32 981467136#32 := by
  rw [ofBits_half, ofBits_thousandth, ofBits_two, ofBits_1024, ← mul_assoc, mul_comm e]
  congr 1
  rw [show Ideal.div ((1 / 2 : ℝ) : EReal) ((1024 : ℝ) : EReal) = ((1 / 2 / 1024 : ℝ) : EReal) by
    rw [Ideal.div, if_neg (by norm_num), ← EReal.coe_inv, ← EReal.coe_mul]; norm_num, ← EReal.coe_mul]
  norm_num

end Cert.FfnHand

end
-- ==== Proof.FfnBlock.lean ====
module

public import proofs.«01_k».proof.Proof.Gen.FfnIdeal.Value
public import proofs.«01_k».proof.Proof.FfnRow
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.FfnIdeal.Hand

open Cert.FfnIdeal Cert.FfnIdeal.Gen

/-- One of the eight column blocks of the first weights. -/
def w1At (X : FVec Ideal S8x1024x512 .bf16) (n : ℕ)
    (h : ∀ a, (![n, 0, 0] : Fin 3 → ℕ) a + (![1, 1024, 512] : Fin 3 → ℕ) a ≤ S8x1024x512.size a) :
    FVec Ideal S1x1024x512 .bf16 :=
  View.ld (Val := Elt Ideal) (e' := .bf16) X (Rect.unit ![n, 0, 0] ![1, 1024, 512] h)

/-- One of the eight row blocks of the second weights. -/
def w2At (X : FVec Ideal S8x512x1024 .bf16) (n : ℕ)
    (h : ∀ a, (![n, 0, 0] : Fin 3 → ℕ) a + (![1, 512, 1024] : Fin 3 → ℕ) a ≤ S8x512x1024.size a) :
    FVec Ideal S1x512x1024 .bf16 :=
  View.ld (Val := Elt Ideal) (e' := .bf16) X (Rect.unit ![n, 0, 0] ![1, 512, 1024] h)

theorem w1At_apply (X : FVec Ideal S8x1024x512 .bf16) (n : ℕ) (h) (hn : n < 8) (k : Fin 1024) (q : Fin 512) :
    w1At X n h (ix3 0 k q) = X (ix3 ⟨n, hn⟩ k q) := by
  unfold w1At
  refine View.ld_unit_apply_of (Val := Elt Ideal) (e := .bf16) X _ _ _ _ _ fun a => ?_
  match a with
  | 0 => rfl
  | 1 => exact (Nat.zero_add _).symm
  | 2 => exact (Nat.zero_add _).symm

theorem w2At_apply (X : FVec Ideal S8x512x1024 .bf16) (n : ℕ) (h) (hn : n < 8) (q : Fin 512) (k : Fin 1024) :
    w2At X n h (ix3 0 q k) = X (ix3 ⟨n, hn⟩ q k) := by
  unfold w2At
  refine View.ld_unit_apply_of (Val := Elt Ideal) (e := .bf16) X _ _ _ _ _ fun a => ?_
  match a with
  | 0 => rfl
  | 1 => exact (Nat.zero_add _).symm
  | 2 => exact (Nat.zero_add _).symm

section Rows

variable (X0 X1 : FVec Ideal S512x1024 .f32) (X2 : FVec Ideal S8x1024x512 .bf16) (X3 : FVec Ideal S8x512x1024 .bf16)
  (X4 X5 X6 X7 X8 : FVec Ideal S1x1024 .f32)

/-- The rows under the norm in one block. -/
def hB : FVec Ideal S512x1024 .bf16 := k0_pay8 X0 X4 X5 X6

/-- The rows after the second product in one block. -/
def yB : FVec Ideal S512x1024 .f32 :=
  k0_pay37 (hB X0 X4 X5 X6)
    (k0_pay30 (hB X0 X4 X5 X6)
      (k0_pay23 (hB X0 X4 X5 X6)
        (k0_pay16 (hB X0 X4 X5 X6) k0_pay9
          (k0_pay10 X0 X4 X5 X6 (w1At X2 0 inb_S8x1024x512_S1x1024x512_0_0_0))
          (w2At X3 0 inb_S8x512x1024_S1x512x1024_0_0_0) (w1At X2 1 inb_S8x1024x512_S1x1024x512_1_0_0)
          (w2At X3 1 inb_S8x512x1024_S1x512x1024_1_0_0))
        (k0_pay17 (hB X0 X4 X5 X6) (w1At X2 2 inb_S8x1024x512_S1x1024x512_2_0_0))
        (w2At X3 2 inb_S8x512x1024_S1x512x1024_2_0_0) (w1At X2 3 inb_S8x1024x512_S1x1024x512_3_0_0)
        (w2At X3 3 inb_S8x512x1024_S1x512x1024_3_0_0))
      (k0_pay24 (hB X0 X4 X5 X6) (w1At X2 4 inb_S8x1024x512_S1x1024x512_4_0_0))
      (w2At X3 4 inb_S8x512x1024_S1x512x1024_4_0_0) (w1At X2 5 inb_S8x1024x512_S1x1024x512_5_0_0)
      (w2At X3 5 inb_S8x512x1024_S1x512x1024_5_0_0))
    (k0_pay31 (hB X0 X4 X5 X6) (w1At X2 6 inb_S8x1024x512_S1x1024x512_6_0_0))
    (w2At X3 6 inb_S8x512x1024_S1x512x1024_6_0_0) (w1At X2 7 inb_S8x1024x512_S1x1024x512_7_0_0)
    (w2At X3 7 inb_S8x512x1024_S1x512x1024_7_0_0)

/-- Their squares. -/
def y2B : FVec Ideal S512x1024 .f32 := mulf (yB X0 X2 X3 X4 X5 X6) (yB X0 X2 X3 X4 X5 X6)

/-- The gradient of the gated norm's rows in one block. -/
def uB : FVec Ideal S512x1024 .f32 :=
  k0_pay47 X0 (yB X0 X2 X3 X4 X5 X6) X7 X8 (y2B X0 X2 X3 X4 X5 X6) X1

/-- The gradient of the rows after the second product in one block. -/
def dyB : FVec Ideal S512x1024 .bf16 :=
  k0_pay50 (yB X0 X2 X3 X4 X5 X6) X8 (k0_pay40 (y2B X0 X2 X3 X4 X5 X6)) (k0_pay41 (y2B X0 X2 X3 X4 X5 X6))
    (uB X0 X1 X2 X3 X4 X5 X6 X7 X8)

/-- The gradient of the normed rows in one block, but for the last block of columns. -/
def dh61 : FVec Ideal S512x1024 .f32 :=
  k0_pay61 (dyB X0 X1 X2 X3 X4 X5 X6 X7 X8)
    (k0_pay58 (dyB X0 X1 X2 X3 X4 X5 X6 X7 X8)
      (k0_pay55 (dyB X0 X1 X2 X3 X4 X5 X6 X7 X8)
        (k0_pay52 (yB X0 X2 X3 X4 X5 X6) X8 (k0_pay40 (y2B X0 X2 X3 X4 X5 X6)) (k0_pay41 (y2B X0 X2 X3 X4 X5 X6))
          (uB X0 X1 X2 X3 X4 X5 X6 X7 X8) (w2At X3 0 inb_S8x512x1024_S1x512x1024_0_0_0)
          (k0_pay11 (F := Ideal) (k0_pay10 X0 X4 X5 X6 (w1At X2 0 inb_S8x1024x512_S1x1024x512_0_0_0)))
          (w1At X2 0 inb_S8x1024x512_S1x1024x512_0_0_0))
        (w2At X3 1 inb_S8x512x1024_S1x512x1024_1_0_0)
        (k0_pay14 (F := Ideal) (hB X0 X4 X5 X6) (w1At X2 1 inb_S8x1024x512_S1x1024x512_1_0_0))
        (w1At X2 1 inb_S8x1024x512_S1x1024x512_1_0_0) (w2At X3 2 inb_S8x512x1024_S1x512x1024_2_0_0)
        (k0_pay18 (F := Ideal) (k0_pay17 (hB X0 X4 X5 X6) (w1At X2 2 inb_S8x1024x512_S1x1024x512_2_0_0)))
        (w1At X2 2 inb_S8x1024x512_S1x1024x512_2_0_0))
      (w2At X3 3 inb_S8x512x1024_S1x512x1024_3_0_0)
      (k0_pay21 (F := Ideal) (hB X0 X4 X5 X6) (w1At X2 3 inb_S8x1024x512_S1x1024x512_3_0_0))
      (w1At X2 3 inb_S8x1024x512_S1x1024x512_3_0_0) (w2At X3 4 inb_S8x512x1024_S1x512x1024_4_0_0)
      (k0_pay25 (F := Ideal) (k0_pay24 (hB X0 X4 X5 X6) (w1At X2 4 inb_S8x1024x512_S1x1024x512_4_0_0)))
      (w1At X2 4 inb_S8x1024x512_S1x1024x512_4_0_0))
    (w2At X3 5 inb_S8x512x1024_S1x512x1024_5_0_0)
    (k0_pay28 (F := Ideal) (hB X0 X4 X5 X6) (w1At X2 5 inb_S8x1024x512_S1x1024x512_5_0_0))
    (w1At X2 5 inb_S8x1024x512_S1x1024x512_5_0_0) (w2At X3 6 inb_S8x512x1024_S1x512x1024_6_0_0)
    (k0_pay32 (F := Ideal) (k0_pay31 (hB X0 X4 X5 X6) (w1At X2 6 inb_S8x1024x512_S1x1024x512_6_0_0)))
    (w1At X2 6 inb_S8x1024x512_S1x1024x512_6_0_0)

/-- The gradient of the normed rows in one block. -/
def dhB : FVec Ideal S512x1024 .f32 :=
  k0_pay63 (dyB X0 X1 X2 X3 X4 X5 X6 X7 X8) (dh61 X0 X1 X2 X3 X4 X5 X6 X7 X8)
    (w2At X3 7 inb_S8x512x1024_S1x512x1024_7_0_0)
    (k0_pay35 (F := Ideal) (hB X0 X4 X5 X6) (w1At X2 7 inb_S8x1024x512_S1x1024x512_7_0_0))
    (w1At X2 7 inb_S8x1024x512_S1x1024x512_7_0_0)

/-- A block of columns after the first product is the normed rows against that block of the weights: all of the forms it
    takes in the kernel. -/
theorem z_forms (h : FVec Ideal S512x1024 .bf16) (w : FVec Ideal S1x1024x512 .bf16) (r q : Fin 512) :
    k0_pay13 h w (ix2 r q) = ∑ k, h (ix2 r k) * w (ix3 0 k q) := by
  unfold_payloads
  pointwise

theorem hB_apply (r : Fin 512) (k : Fin 1024) :
    hB X0 X4 X5 X6 (ix2 r k) = Cert.FfnHand.h (fun k => X0 (ix2 r k)) (fun k => X4 (ix2 0 k)) (fun k => X5 (ix2 0 k))
      (fun k => X6 (ix2 0 k)) k := by
  unfold hB
  unfold_payloads
  pointwise [Cert.FfnHand.h, Cert.InProjHand.rms]

variable (W1 : Fin 1024 → Fin 4096 → EReal) (W2 : Fin 4096 → Fin 1024 → EReal)
  (h2 : ∀ (n : Fin 8) (k : Fin 1024) (q : Fin 512) (h : n.val * 512 + q.val < 4096), X2 (ix3 n k q) = W1 k ⟨n.val * 512 + q.val, h⟩)
  (h3 : ∀ (n : Fin 8) (q : Fin 512) (j : Fin 1024) (h : n.val * 512 + q.val < 4096), X3 (ix3 n q j) = W2 ⟨n.val * 512 + q.val, h⟩ j)

include h2 in
/-- A block of columns after the first product, in the row's own terms. -/
theorem z_apply (n : ℕ) (inb) (hn : n < 8) (r q : Fin 512) (hq : n * 512 + q.val < 4096) :
    k0_pay13 (hB X0 X4 X5 X6) (w1At X2 n inb) (ix2 r q)
      = Cert.FfnHand.z (fun k => X0 (ix2 r k)) (fun k => X4 (ix2 0 k)) (fun k => X5 (ix2 0 k)) (fun k => X6 (ix2 0 k)) W1
        ⟨n * 512 + q.val, hq⟩ := by
  rw [z_forms, Cert.FfnHand.z]
  refine Finset.sum_congr rfl fun k _ => ?_
  rw [hB_apply, w1At_apply X2 n inb hn, h2 ⟨n, hn⟩ k q hq]

/-- The two products of two neighbouring blocks of columns, over the sum so far. -/
theorem y_step (h : FVec Ideal S512x1024 .bf16) (a : FVec Ideal S512x1024 .f32) (wa wc : FVec Ideal S1x1024x512 .bf16)
    (wb wd : FVec Ideal S1x512x1024 .bf16) (r : Fin 512) (j : Fin 1024) :
    k0_pay16 h a (k0_pay13 h wa) wb wc wd (ix2 r j)
      = a (ix2 r j) + (∑ q : Fin 512, Cert.FfnHand.act (k0_pay13 h wa (ix2 r q)) * wb (ix3 0 q j))
        + (∑ q : Fin 512, Cert.FfnHand.act (k0_pay13 h wc (ix2 r q)) * wd (ix3 0 q j)) := by
  generalize hz : k0_pay13 h wa = za
  generalize hz' : k0_pay13 h wc = zc
  unfold k0_pay16 k0_pay15 k0_pay12
  rw [hz']
  pointwise [Cert.FfnHand.act]

include h2 h3 in
/-- The rows after the second product, in the row's own terms. -/
theorem yB_apply (r : Fin 512) (j : Fin 1024) :
    yB X0 X2 X3 X4 X5 X6 (ix2 r j)
      = Cert.FfnHand.y (fun k => X0 (ix2 r k)) (fun k => X4 (ix2 0 k)) (fun k => X5 (ix2 0 k)) (fun k => X6 (ix2 0 k)) W1 W2 j := by
  have hs : yB X0 X2 X3 X4 X5 X6 = k0_pay16 (hB X0 X4 X5 X6)
      (k0_pay16 (hB X0 X4 X5 X6)
        (k0_pay16 (hB X0 X4 X5 X6)
          (k0_pay16 (hB X0 X4 X5 X6) k0_pay9
            (k0_pay13 (hB X0 X4 X5 X6) (w1At X2 0 inb_S8x1024x512_S1x1024x512_0_0_0))
            (w2At X3 0 inb_S8x512x1024_S1x512x1024_0_0_0) (w1At X2 1 inb_S8x1024x512_S1x1024x512_1_0_0)
            (w2At X3 1 inb_S8x512x1024_S1x512x1024_1_0_0))
          (k0_pay13 (hB X0 X4 X5 X6) (w1At X2 2 inb_S8x1024x512_S1x1024x512_2_0_0))
          (w2At X3 2 inb_S8x512x1024_S1x512x1024_2_0_0) (w1At X2 3 inb_S8x1024x512_S1x1024x512_3_0_0)
          (w2At X3 3 inb_S8x512x1024_S1x512x1024_3_0_0))
        (k0_pay13 (hB X0 X4 X5 X6) (w1At X2 4 inb_S8x1024x512_S1x1024x512_4_0_0))
        (w2At X3 4 inb_S8x512x1024_S1x512x1024_4_0_0) (w1At X2 5 inb_S8x1024x512_S1x1024x512_5_0_0)
        (w2At X3 5 inb_S8x512x1024_S1x512x1024_5_0_0))
      (k0_pay13 (hB X0 X4 X5 X6) (w1At X2 6 inb_S8x1024x512_S1x1024x512_6_0_0))
      (w2At X3 6 inb_S8x512x1024_S1x512x1024_6_0_0) (w1At X2 7 inb_S8x1024x512_S1x1024x512_7_0_0)
      (w2At X3 7 inb_S8x512x1024_S1x512x1024_7_0_0) := rfl
  have hz := fun (n : ℕ) (inb) (hn : n < 8) (q : Fin 512) => z_apply X0 X2 X4 X5 X6 W1 h2 n inb hn r q (by omega)
  have hw := fun (n : ℕ) (inb) (hn : n < 8) (q : Fin 512) =>
    (w2At_apply X3 n inb hn q j).trans (h3 ⟨n, hn⟩ q j (by dsimp only; omega))
  have h0 : (k0_pay9 : FVec Ideal S512x1024 .f32) (ix2 r j) = 0 := by
    unfold_payloads
    pointwise
  rw [hs, y_step, y_step, y_step, y_step, h0, zero_add, Cert.FfnHand.y, ← Cert.FfnHand.sum_blocks]
  simp (disch := decide) only [hz, hw, Nat.reduceMul, Nat.zero_add, Nat.one_mul, Nat.zero_mul]

/-- What the second product hands back through the squared positive part. -/
theorem dz_form (d : FVec Ideal S512x1024 .bf16) (w : FVec Ideal S1x512x1024 .bf16) (z : FVec Ideal S512x512 .f32) (r q : Fin 512) :
    k0_pay53 d w z (ix2 r q)
      = (∑ k, d (ix2 r k) * w (ix3 0 q k)) * (Ideal.ofBits .f32 1073741824#32 * max (z (ix2 r q)) 0) := by
  unfold_payloads
  pointwise

/-- One block of columns of the first product handed back, over the sum so far. -/
theorem dh_step (d : FVec Ideal S512x1024 .bf16) (a : FVec Ideal S512x1024 .f32) (wb : FVec Ideal S1x512x1024 .bf16)
    (z : FVec Ideal S512x512 .f32) (wa : FVec Ideal S1x1024x512 .bf16) (r : Fin 512) (j : Fin 1024) :
    k0_pay63 d a wb z wa (ix2 r j) = a (ix2 r j) + ∑ q : Fin 512, k0_pay53 d wb z (ix2 r q) * wa (ix3 0 j q) := by
  have hs : k0_pay62 d wb z = k0_pay53 d wb z := rfl
  unfold k0_pay63
  rw [hs]
  generalize k0_pay53 d wb z = e
  pointwise

/-- A block of columns as it is kept for the way back is the block of columns. -/
theorem kept (z : FVec Ideal S512x512 .f32) : k0_pay11 z = z := by
  funext i
  rw [eq_ix2 i]
  unfold_payloads
  pointwise

/-- The seven blocks of columns computed from the kept rows, as they are kept. -/
theorem kept_forms (h : FVec Ideal S512x1024 .bf16) (w : FVec Ideal S1x1024x512 .bf16) :
    k0_pay14 h w = k0_pay13 h w ∧ k0_pay18 (F := Ideal) (k0_pay17 h w) = k0_pay13 h w ∧ k0_pay21 h w = k0_pay13 h w
      ∧ k0_pay25 (F := Ideal) (k0_pay24 h w) = k0_pay13 h w ∧ k0_pay28 h w = k0_pay13 h w
      ∧ k0_pay32 (F := Ideal) (k0_pay31 h w) = k0_pay13 h w ∧ k0_pay35 h w = k0_pay13 h w :=
  ⟨kept _, kept _, kept _, kept _, kept _, kept _, kept _⟩

/-- Two neighbouring blocks handed back are one and then the other. -/
theorem dh_two (d : FVec Ideal S512x1024 .bf16) (a : FVec Ideal S512x1024 .f32) (wb wb' : FVec Ideal S1x512x1024 .bf16)
    (z z' : FVec Ideal S512x512 .f32) (wa wa' : FVec Ideal S1x1024x512 .bf16) :
    k0_pay55 d a wb z wa wb' z' wa' = k0_pay63 d (k0_pay63 d a wb z wa) wb' z' wa'
      ∧ k0_pay58 d a wb z wa wb' z' wa' = k0_pay63 d (k0_pay63 d a wb z wa) wb' z' wa'
      ∧ k0_pay61 d a wb z wa wb' z' wa' = k0_pay63 d (k0_pay63 d a wb z wa) wb' z' wa' := ⟨rfl, rfl, rfl⟩

/-- The first block handed back. -/
theorem dh_one (y : FVec Ideal S512x1024 .f32) (g : FVec Ideal S1x1024 .f32) (a b : FVec Ideal S512x1 .f32)
    (u : FVec Ideal S512x1024 .f32) (wb : FVec Ideal S1x512x1024 .bf16) (z : FVec Ideal S512x512 .f32)
    (wa : FVec Ideal S1x1024x512 .bf16) :
    k0_pay52 y g a b u wb z wa = k0_pay63 (k0_pay50 y g a b u) k0_pay9 wb z wa := rfl

/-- The first block of columns, from the rows as they come. -/
theorem z_one (w : FVec Ideal S1x1024x512 .bf16) : k0_pay10 X0 X4 X5 X6 w = k0_pay13 (hB X0 X4 X5 X6) w := rfl

/-- The gradient handed back through the squared positive part, one block of columns. -/
def dzB (n : ℕ) (i1 : ∀ a, (![n, 0, 0] : Fin 3 → ℕ) a + (![1, 1024, 512] : Fin 3 → ℕ) a ≤ S8x1024x512.size a)
    (i2 : ∀ a, (![n, 0, 0] : Fin 3 → ℕ) a + (![1, 512, 1024] : Fin 3 → ℕ) a ≤ S8x512x1024.size a) : FVec Ideal S512x512 .bf16 :=
  k0_pay53 (dyB X0 X1 X2 X3 X4 X5 X6 X7 X8) (w2At X3 n i2) (k0_pay13 (hB X0 X4 X5 X6) (w1At X2 n i1))

include h2 h3 in
theorem dzB_apply (n : ℕ) (i1) (i2) (hn : n < 8) (r q : Fin 512) (hq : n * 512 + q.val < 4096) :
    dzB X0 X1 X2 X3 X4 X5 X6 X7 X8 n i1 i2 (ix2 r q)
      = Cert.FfnHand.dz (Cert.FfnHand.z (fun k => X0 (ix2 r k)) (fun k => X4 (ix2 0 k)) (fun k => X5 (ix2 0 k)) (fun k => X6 (ix2 0 k)) W1)
        (fun k => dyB X0 X1 X2 X3 X4 X5 X6 X7 X8 (ix2 r k)) W2 ⟨n * 512 + q.val, hq⟩ := by
  rw [dzB, dz_form, z_apply X0 X2 X4 X5 X6 W1 h2 n i1 hn r q hq, Cert.FfnHand.dz]
  refine congrArg (· * _) (Finset.sum_congr rfl fun k _ => ?_)
  rw [w2At_apply X3 n i2 hn, h3 ⟨n, hn⟩ q k hq]

include h2 h3 in
/-- The gradient of the normed rows, in the row's own terms. -/
theorem dhB_apply (r : Fin 512) (j : Fin 1024) :
    dhB X0 X1 X2 X3 X4 X5 X6 X7 X8 (ix2 r j)
      = Cert.FfnHand.dh (Cert.FfnHand.dz
          (Cert.FfnHand.z (fun k => X0 (ix2 r k)) (fun k => X4 (ix2 0 k)) (fun k => X5 (ix2 0 k)) (fun k => X6 (ix2 0 k)) W1)
          (fun k => dyB X0 X1 X2 X3 X4 X5 X6 X7 X8 (ix2 r k)) W2) W1 j := by
  have hstep : ∀ (n : ℕ) (i1) (i2) (hn : n < 8) (a : FVec Ideal S512x1024 .f32),
      k0_pay63 (dyB X0 X1 X2 X3 X4 X5 X6 X7 X8) a (w2At X3 n i2) (k0_pay13 (hB X0 X4 X5 X6) (w1At X2 n i1)) (w1At X2 n i1) (ix2 r j)
        = a (ix2 r j) + ∑ q : Fin 512, Cert.FfnHand.dz
          (Cert.FfnHand.z (fun k => X0 (ix2 r k)) (fun k => X4 (ix2 0 k)) (fun k => X5 (ix2 0 k)) (fun k => X6 (ix2 0 k)) W1)
          (fun k => dyB X0 X1 X2 X3 X4 X5 X6 X7 X8 (ix2 r k)) W2 ⟨n * 512 + q.val, by omega⟩ * W1 j ⟨n * 512 + q.val, by omega⟩ := by
    intro n i1 i2 hn a
    rw [dh_step]
    refine congrArg (_ + ·) (Finset.sum_congr rfl fun q _ => congrArg₂ (· * ·)
      (dzB_apply X0 X1 X2 X3 X4 X5 X6 X7 X8 W1 W2 h2 h3 n i1 i2 hn r q (by omega)) ?_)
    rw [w1At_apply X2 n i1 hn, h2 ⟨n, hn⟩ j q (by dsimp only; omega)]
  have hs : dhB X0 X1 X2 X3 X4 X5 X6 X7 X8 = (
      let d := dyB X0 X1 X2 X3 X4 X5 X6 X7 X8
      let st := fun (n : ℕ) (i1) (i2) (a : FVec Ideal S512x1024 .f32) =>
        k0_pay63 d a (w2At X3 n i2) (k0_pay13 (hB X0 X4 X5 X6) (w1At X2 n i1)) (w1At X2 n i1)
      st 7 inb_S8x1024x512_S1x1024x512_7_0_0 inb_S8x512x1024_S1x512x1024_7_0_0
        (st 6 inb_S8x1024x512_S1x1024x512_6_0_0 inb_S8x512x1024_S1x512x1024_6_0_0
        (st 5 inb_S8x1024x512_S1x1024x512_5_0_0 inb_S8x512x1024_S1x512x1024_5_0_0
        (st 4 inb_S8x1024x512_S1x1024x512_4_0_0 inb_S8x512x1024_S1x512x1024_4_0_0
        (st 3 inb_S8x1024x512_S1x1024x512_3_0_0 inb_S8x512x1024_S1x512x1024_3_0_0
        (st 2 inb_S8x1024x512_S1x1024x512_2_0_0 inb_S8x512x1024_S1x512x1024_2_0_0
        (st 1 inb_S8x1024x512_S1x1024x512_1_0_0 inb_S8x512x1024_S1x512x1024_1_0_0
        (st 0 inb_S8x1024x512_S1x1024x512_0_0_0 inb_S8x512x1024_S1x512x1024_0_0_0 k0_pay9)))))))) := by
    unfold dhB dh61
    rw [(kept_forms _ _).1, (kept_forms _ _).2.1, (kept_forms _ _).2.2.1, (kept_forms _ _).2.2.2.1, (kept_forms _ _).2.2.2.2.1,
      (kept_forms _ _).2.2.2.2.2.1, (kept_forms _ _).2.2.2.2.2.2, kept, z_one, (dh_two _ _ _ _ _ _ _ _).1,
      (dh_two _ _ _ _ _ _ _ _).2.1, (dh_two _ _ _ _ _ _ _ _).2.2, dh_one]
    rfl
  have h0 : (k0_pay9 : FVec Ideal S512x1024 .f32) (ix2 r j) = 0 := by
    unfold_payloads
    pointwise
  rw [hs]
  dsimp only
  rw [hstep _ _ _ (by decide), hstep _ _ _ (by decide), hstep _ _ _ (by decide), hstep _ _ _ (by decide),
    hstep _ _ _ (by decide), hstep _ _ _ (by decide), hstep _ _ _ (by decide), hstep _ _ _ (by decide), h0, zero_add,
    Cert.FfnHand.dh, ← Cert.FfnHand.sum_blocks]
  simp only [Nat.reduceMul, Nat.zero_add, Nat.one_mul, Nat.zero_mul]

end Rows
end Cert.FfnIdeal.Hand
end
-- ==== Proof.FfnRows.lean ====
module

public import proofs.«01_k».proof.Proof.FfnBlock

@[expose] public section

set_option maxRecDepth 16384

noncomputable section

open Idealize.ShloMosaic Idealize.ShloMosaic.TcCoe Idealize.SL.Sem

namespace Cert.FfnIdeal.Hand

open Cert.FfnIdeal Cert.FfnIdeal.Gen

section Rows

variable (x tg y : FVec Ideal S512x1024 .f32) (g2 post : FVec Ideal S1x1024 .f32)

/-- How far one row of the block is from its target. -/
def errR (r : Fin 512) : Fin 1024 → EReal :=
  Cert.FfnHand.err (fun k => x (ix2 r k)) (fun k => tg (ix2 r k)) (fun k => y (ix2 r k)) (fun k => g2 (ix2 0 k))
    (fun k => post (ix2 0 k))

theorem pay44 (r : Fin 512) (j : Fin 1024) : k0_pay44 x y g2 post (mulf y y) tg (ix2 r j) = errR x tg y g2 post r j := by
  unfold_payloads
  pointwise [errR, Cert.FfnHand.err, Cert.InProjHand.rms]

theorem pay46 (r : Fin 512) (j : Fin 1024) :
    k0_pay46 x y g2 post (mulf y y) tg (ix2 r j) = Cert.FfnHand.cot (errR x tg y g2 post r) j := by
  have h := pay44 x tg y g2 post r j
  unfold k0_pay46
  generalize k0_pay44 x y g2 post (mulf y y) tg = e at h ⊢
  pointwise [Cert.FfnHand.cot]
  rw [h]

theorem pay47 (r : Fin 512) (j : Fin 1024) :
    k0_pay47 x y g2 post (mulf y y) tg (ix2 r j) = g2 (ix2 0 j) * Cert.FfnHand.cot (errR x tg y g2 post r) j := by
  have h := pay46 x tg y g2 post r j
  unfold k0_pay47
  generalize k0_pay46 x y g2 post (mulf y y) tg = e at h ⊢
  pointwise
  rw [h]

theorem pay50 (u : FVec Ideal S512x1024 .f32) (r : Fin 512) (j : Fin 1024) :
    k0_pay50 y post (k0_pay40 (mulf y y)) (k0_pay41 (mulf y y)) u (ix2 r j)
      = u (ix2 r j) * post (ix2 0 j) * Ideal.rsqrt (Cert.InProjHand.rms fun k => y (ix2 r k))
        + y (ix2 r j) * Cert.InProjHand.corr (fun k => y (ix2 r k)) (fun k => u (ix2 r k) * post (ix2 0 k))
        + Cert.InProjHand.corr (fun k => y (ix2 r k)) (fun k => u (ix2 r k) * post (ix2 0 k)) * y (ix2 r j) := by
  unfold_payloads
  pointwise [Cert.InProjHand.corr, Cert.InProjHand.rms]

theorem pay48 (j : Fin 1024) :
    k0_pay48 x y g2 post (mulf y y) tg (ix2 0 j) = ∑ r : Fin 512, Cert.FfnHand.cot (errR x tg y g2 post r) j
      * (y (ix2 r j) * Ideal.rsqrt (Cert.InProjHand.rms fun k => y (ix2 r k)) * post (ix2 0 j)) := by
  have h := fun r => pay46 x tg y g2 post r j
  unfold k0_pay48 k0_pay43 k0_pay42 k0_pay40 k0_pay39
  generalize k0_pay46 x y g2 post (mulf y y) tg = e at h ⊢
  pointwise [Cert.InProjHand.rms]
  simp only [h, Cert.InProjHand.rms]

theorem pay49 (j : Fin 1024) :
    k0_pay49 x y g2 post (mulf y y) tg (ix2 0 j) = ∑ r : Fin 512,
      y (ix2 r j) * Ideal.rsqrt (Cert.InProjHand.rms fun k => y (ix2 r k))
      * (g2 (ix2 0 j) * Cert.FfnHand.cot (errR x tg y g2 post r) j) := by
  have h := fun r => pay47 x tg y g2 post r j
  unfold k0_pay49 k0_pay42 k0_pay40 k0_pay39
  generalize k0_pay47 x y g2 post (mulf y y) tg = e at h ⊢
  pointwise [Cert.InProjHand.rms]
  simp only [h, Cert.InProjHand.rms]

theorem pay45 (a : FVec Ideal S1x1024 .f32) (j : Fin 1024) :
    k0_pay45 x y g2 post (mulf y y) tg a (ix2 0 j) = a (ix2 0 j) + Ideal.ofBits .f32 1056964608#32 * ∑ r : Fin 512,
      Ideal.div (∑ k, errR x tg y g2 post r k * errR x tg y g2 post r k) (Ideal.ofBits .f32 1149239296#32) := by
  have h := fun r k => pay44 x tg y g2 post r k
  unfold k0_pay45
  generalize k0_pay44 x y g2 post (mulf y y) tg = e at h ⊢
  pointwise
  simp only [h]

/-- The rows' gradient of the normed rows' `e`. -/
theorem pay68 (g sc : FVec Ideal S1x1024 .f32) (d : FVec Ideal S512x1024 .bf16) (a : FVec Ideal S512x1024 .f32)
    (wb : FVec Ideal S1x512x1024 .bf16) (z : FVec Ideal S512x512 .f32) (wa : FVec Ideal S1x1024x512 .bf16)
    (c : FVec Ideal S512x1024 .f32) (r : Fin 512) (j : Fin 1024) :
    k0_pay69 c (k0_pay68 x g (k0_pay3 x) (k0_pay4 x) (k0_pay7 sc) d a wb z wa) (ix2 r j)
      = Cert.InProjHand.gxRow (fun k => x (ix2 r k))
          (fun k => k0_pay63 d a wb z wa (ix2 r k) * (1 + sc (ix2 0 k)) * g (ix2 0 k)) (fun k => c (ix2 r k)) j := by
  unfold k0_pay69 k0_pay68 k0_pay66 k0_pay3 k0_pay4 k0_pay3 k0_pay2 k0_pay7
  generalize k0_pay63 d a wb z wa = e
  pointwise [Cert.InProjHand.gxRow, Cert.InProjHand.corr, Cert.InProjHand.rms]

/-- The three accumulated sums of the normed rows' gradient: the shift's, the scale's and the gain's. -/
theorem pay64 (g sc : FVec Ideal S1x1024 .f32) (d : FVec Ideal S512x1024 .bf16) (a : FVec Ideal S512x1024 .f32)
    (wb : FVec Ideal S1x512x1024 .bf16) (z : FVec Ideal S512x512 .f32) (wa : FVec Ideal S1x1024x512 .bf16) (j : Fin 1024) :
    k0_pay64 d a wb z wa (ix2 0 j) = ∑ r : Fin 512, k0_pay63 d a wb z wa (ix2 r j)
      ∧ k0_pay65 (k0_pay6 x g) d a wb z wa (ix2 0 j) = ∑ r : Fin 512, x (ix2 r j)
        * Ideal.rsqrt (Cert.InProjHand.rms fun k => x (ix2 r k)) * g (ix2 0 j) * k0_pay63 d a wb z wa (ix2 r j)
      ∧ k0_pay67 (k0_pay5 x) (k0_pay7 sc) d a wb z wa (ix2 0 j) = ∑ r : Fin 512, x (ix2 r j)
        * Ideal.rsqrt (Cert.InProjHand.rms fun k => x (ix2 r k)) * (k0_pay63 d a wb z wa (ix2 r j) * (1 + sc (ix2 0 j))) := by
  unfold k0_pay64 k0_pay65 k0_pay67 k0_pay66 k0_pay6 k0_pay5 k0_pay3 k0_pay2 k0_pay7
  generalize k0_pay63 d a wb z wa = e
  refine ⟨?_, ?_, ?_⟩ <;> pointwise [Cert.InProjHand.rms]

end Rows
end Cert.FfnIdeal.Hand
end
-- ==== Proof.FfnOut.lean ====
module

public import proofs.«01_k».proof.Proof.FfnRows
public import proofs.«01_k».proof.Proof.RowStore

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

theorem idx : ∀ t : Fin cfg0.N,
    win0_0.index t = ![t.val, 0] ∧ win0_1.index t = ![t.val, 0] ∧ win0_2.index t = ![0, 0, 0] ∧ win0_3.index t = ![0, 0, 0]
      ∧ win0_4.index t = ![0, 0] ∧ win0_5.index t = ![0, 0] ∧ win0_6.index t = ![0, 0] ∧ win0_7.index t = ![0, 0]
      ∧ win0_8.index t = ![0, 0] ∧ win0_9.index t = ![t.val, 0] ∧ win0_10.index t = ![t.val, 0]
      ∧ win0_11.index t = ![t.val, 0] ∧ win0_12.index t = ![t.val, 0] ∧ win0_13.index t = ![t.val, 0]
      ∧ win0_14.index t = ![0, 0] :=
  (by decide +kernel : ∀ t : Fin grid0.N, _)

/-- The arrays handed over. -/
def xA (c : Dev nD) (R : Fin 4096) (j : Fin 1024) : EReal := (m (c.tc.loc main_arg0) : FVec Ideal S4096x1024 .f32) (ix2 R j)
def tgA (c : Dev nD) (R : Fin 4096) (j : Fin 1024) : EReal := (m (c.tc.loc main_arg1) : FVec Ideal S4096x1024 .f32) (ix2 R j)
def w1A (c : Dev nD) (j : Fin 1024) (q : Fin 4096) : EReal := (m (c.tc.loc main_arg2) : FVec Ideal S1024x4096 .f32) (ix2 j q)
def w2A (c : Dev nD) (q : Fin 4096) (j : Fin 1024) : EReal := (m (c.tc.loc main_arg3) : FVec Ideal S4096x1024 .f32) (ix2 q j)
def preA (c : Dev nD) (j : Fin 1024) : EReal := (m (c.tc.loc main_arg4) : FVec Ideal S1x1024 .f32) (ix2 0 j)
def scA (c : Dev nD) (j : Fin 1024) : EReal := (m (c.tc.loc main_arg5) : FVec Ideal S1x1024 .f32) (ix2 0 j)
def shA (c : Dev nD) (j : Fin 1024) : EReal := (m (c.tc.loc main_arg6) : FVec Ideal S1x1024 .f32) (ix2 0 j)
def g2A (c : Dev nD) (j : Fin 1024) : EReal := (m (c.tc.loc main_arg7) : FVec Ideal S1x1024 .f32) (ix2 0 j)
def postA (c : Dev nD) (j : Fin 1024) : EReal := (m (c.tc.loc main_arg8) : FVec Ideal S1x1024 .f32) (ix2 0 j)

theorem w1_host (c : Dev nD) (n : Fin 8) (k : Fin 1024) (q : Fin 512) (h : n.val * 512 + q.val < 4096) :
    (V m c main_v2 : FVec Ideal S8x1024x512 .bf16) (ix3 n k q) = w1A m c k ⟨n.val * 512 + q.val, h⟩ := by
  entry_read
  pointwise
  rfl

theorem w2_host (c : Dev nD) (n : Fin 8) (q : Fin 512) (k : Fin 1024) (h : n.val * 512 + q.val < 4096) :
    (V m c main_v4 : FVec Ideal S8x512x1024 .bf16) (ix3 n q k) = w2A m c ⟨n.val * 512 + q.val, h⟩ k := by
  entry_read
  pointwise
  rfl

theorem blk2 (c : Dev nD) (t : Fin cfg0.N) (n : Fin 8) (k : Fin 1024) (q : Fin 512) (h : n.val * 512 + q.val < 4096) :
    (iblk m c 2 t : FVec Ideal S8x1024x512 .bf16) (ix3 n k q) = w1A m c k ⟨n.val * 512 + q.val, h⟩ := by
  rw [← w1_host m c n k q h]
  generalize hV : (V m c main_v2 : FVec Ideal S8x1024x512 .bf16) = a
  blk_simp [iblk]
  rw [hV]
  blk_ext [idx t]

theorem blk3 (c : Dev nD) (t : Fin cfg0.N) (n : Fin 8) (q : Fin 512) (k : Fin 1024) (h : n.val * 512 + q.val < 4096) :
    (iblk m c 3 t : FVec Ideal S8x512x1024 .bf16) (ix3 n q k) = w2A m c ⟨n.val * 512 + q.val, h⟩ k := by
  rw [← w2_host m c n q k h]
  generalize hV : (V m c main_v4 : FVec Ideal S8x512x1024 .bf16) = a
  blk_simp [iblk]
  rw [hV]
  blk_ext [idx t]

/-- The row-wise blocks and the vectors, in the arrays handed over. -/
theorem blks (c : Dev nD) (t : Fin cfg0.N) (r : Fin 512) (k : Fin 1024) (hR : t.val * 512 + r.val < 4096) :
    (iblk m c 0 t : FVec Ideal S512x1024 .f32) (ix2 r k) = xA m c ⟨t.val * 512 + r.val, hR⟩ k
      ∧ (iblk m c 1 t : FVec Ideal S512x1024 .f32) (ix2 r k) = tgA m c ⟨t.val * 512 + r.val, hR⟩ k
      ∧ (iblk m c 4 t : FVec Ideal S1x1024 .f32) (ix2 0 k) = preA m c k
      ∧ (iblk m c 5 t : FVec Ideal S1x1024 .f32) (ix2 0 k) = scA m c k
      ∧ (iblk m c 6 t : FVec Ideal S1x1024 .f32) (ix2 0 k) = shA m c k
      ∧ (iblk m c 7 t : FVec Ideal S1x1024 .f32) (ix2 0 k) = g2A m c k
      ∧ (iblk m c 8 t : FVec Ideal S1x1024 .f32) (ix2 0 k) = postA m c k := by
  refine ⟨?_, ?_, ?_, ?_, ?_, ?_, ?_⟩ <;> blk_point [iblk, V, idx t] <;> rfl

end Cert.FfnIdeal.Hand
end
-- ==== Proof.FfnPoint.lean ====
module

public import proofs.«01_k».proof.Proof.FfnOut

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- What one point computes of its blocks. -/
def hP (c : Dev nD) (t : Fin cfg0.N) : FVec Ideal S512x1024 .bf16 := hB (iblk m c 0 t) (iblk m c 4 t) (iblk m c 5 t) (iblk m c 6 t)
def yP (c : Dev nD) (t : Fin cfg0.N) : FVec Ideal S512x1024 .f32 :=
  yB (iblk m c 0 t) (iblk m c 2 t) (iblk m c 3 t) (iblk m c 4 t) (iblk m c 5 t) (iblk m c 6 t)
def dyP (c : Dev nD) (t : Fin cfg0.N) : FVec Ideal S512x1024 .bf16 :=
  dyB (iblk m c 0 t) (iblk m c 1 t) (iblk m c 2 t) (iblk m c 3 t) (iblk m c 4 t) (iblk m c 5 t) (iblk m c 6 t) (iblk m c 7 t)
    (iblk m c 8 t)
def dhP (c : Dev nD) (t : Fin cfg0.N) : FVec Ideal S512x1024 .f32 :=
  dhB (iblk m c 0 t) (iblk m c 1 t) (iblk m c 2 t) (iblk m c 3 t) (iblk m c 4 t) (iblk m c 5 t) (iblk m c 6 t) (iblk m c 7 t)
    (iblk m c 8 t)

/-- The rows of the reference, of the arrays handed over. -/
def hK (c : Dev nD) := Cert.FfnHand.H (xA m c) (preA m c) (scA m c) (shA m c)
def actK (c : Dev nD) := Cert.FfnHand.Act (xA m c) (w1A m c) (preA m c) (scA m c) (shA m c)
def yK (c : Dev nD) := Cert.FfnHand.Y (xA m c) (w1A m c) (w2A m c) (preA m c) (scA m c) (shA m c)
def errK (c : Dev nD) :=
  Cert.FfnHand.Err (xA m c) (tgA m c) (w1A m c) (w2A m c) (preA m c) (scA m c) (shA m c) (g2A m c) (postA m c)
def dyK (c : Dev nD) :=
  Cert.FfnHand.Dy (xA m c) (tgA m c) (w1A m c) (w2A m c) (preA m c) (scA m c) (shA m c) (g2A m c) (postA m c)
def dzK (c : Dev nD) :=
  Cert.FfnHand.Dz (xA m c) (tgA m c) (w1A m c) (w2A m c) (preA m c) (scA m c) (shA m c) (g2A m c) (postA m c)
def dhK (c : Dev nD) :=
  Cert.FfnHand.Dh (xA m c) (tgA m c) (w1A m c) (w2A m c) (preA m c) (scA m c) (shA m c) (g2A m c) (postA m c)
def dxK (c : Dev nD) :=
  Cert.FfnHand.Dx (xA m c) (tgA m c) (w1A m c) (w2A m c) (preA m c) (scA m c) (shA m c) (g2A m c) (postA m c)
def rowK (c : Dev nD) :=
  Cert.FfnHand.accTerm (xA m c) (tgA m c) (w1A m c) (w2A m c) (preA m c) (scA m c) (shA m c) (g2A m c) (postA m c)
def accK (c : Dev nD) :=
  Cert.FfnHand.Acc (xA m c) (tgA m c) (w1A m c) (w2A m c) (preA m c) (scA m c) (shA m c) (g2A m c) (postA m c)

variable (c : Dev nD) (t : Fin cfg0.N) (r : Fin 512) (hR : t.val * 512 + r.val < 4096)

theorem b0 (k : Fin 1024) : (iblk m c 0 t : FVec Ideal S512x1024 .f32) (ix2 r k) = xA m c ⟨t.val * 512 + r.val, hR⟩ k :=
  (blks m c t r k hR).1
theorem b1 (k : Fin 1024) : (iblk m c 1 t : FVec Ideal S512x1024 .f32) (ix2 r k) = tgA m c ⟨t.val * 512 + r.val, hR⟩ k :=
  (blks m c t r k hR).2.1

theorem bv (k : Fin 1024) : (iblk m c 4 t : FVec Ideal S1x1024 .f32) (ix2 0 k) = preA m c k
      ∧ (iblk m c 5 t : FVec Ideal S1x1024 .f32) (ix2 0 k) = scA m c k
      ∧ (iblk m c 6 t : FVec Ideal S1x1024 .f32) (ix2 0 k) = shA m c k
      ∧ (iblk m c 7 t : FVec Ideal S1x1024 .f32) (ix2 0 k) = g2A m c k
      ∧ (iblk m c 8 t : FVec Ideal S1x1024 .f32) (ix2 0 k) = postA m c k :=
  (blks m c t 0 k (by have := t.isLt; have := (show cfg0.N = 8 from N_0); dsimp only [Fin.val_zero]; omega)).2.2

theorem hP_apply (k : Fin 1024) : hP m c t (ix2 r k) = hK m c ⟨t.val * 512 + r.val, hR⟩ k := by
  rw [hP, hB_apply]
  simp only [b0 m c t r hR, (bv m c t _).1, (bv m c t _).2.1, (bv m c t _).2.2.1]
  rfl

theorem zP_apply (n : ℕ) (inb) (hn : n < 8) (q : Fin 512) (hq : n * 512 + q.val < 4096) :
    k0_pay13 (hP m c t) (w1At (iblk m c 2 t) n inb) (ix2 r q)
      = Cert.FfnHand.Z (xA m c) (w1A m c) (preA m c) (scA m c) (shA m c) ⟨t.val * 512 + r.val, hR⟩ ⟨n * 512 + q.val, hq⟩ := by
  rw [hP, z_apply _ _ _ _ _ (w1A m c) (blk2 m c t) n inb hn r q hq]
  simp only [b0 m c t r hR, (bv m c t _).1, (bv m c t _).2.1, (bv m c t _).2.2.1]
  rfl

theorem yP_apply (j : Fin 1024) : yP m c t (ix2 r j) = yK m c ⟨t.val * 512 + r.val, hR⟩ j := by
  rw [yP, yB_apply _ _ _ _ _ _ (w1A m c) (w2A m c) (blk2 m c t) (blk3 m c t)]
  simp only [b0 m c t r hR, (bv m c t _).1, (bv m c t _).2.1, (bv m c t _).2.2.1]
  rfl

theorem errP_eq : errR (iblk m c 0 t) (iblk m c 1 t) (yP m c t) (iblk m c 7 t) (iblk m c 8 t) r
    = errK m c ⟨t.val * 512 + r.val, hR⟩ := by
  unfold errR
  simp only [yP_apply m c t r hR, b0 m c t r hR, b1 m c t r hR, (bv m c t _).2.2.2.1, (bv m c t _).2.2.2.2]
  rfl

theorem dyP_apply (j : Fin 1024) : dyP m c t (ix2 r j) = dyK m c ⟨t.val * 512 + r.val, hR⟩ j := by
  have h : dyP m c t = k0_pay50 (yP m c t) (iblk m c 8 t) (k0_pay40 (mulf (yP m c t) (yP m c t)))
      (k0_pay41 (mulf (yP m c t) (yP m c t)))
      (k0_pay47 (iblk m c 0 t) (yP m c t) (iblk m c 7 t) (iblk m c 8 t) (mulf (yP m c t) (yP m c t)) (iblk m c 1 t)) := rfl
  rw [h, pay50]
  simp only [pay47, errP_eq m c t r hR, yP_apply m c t r hR, (bv m c t _).2.2.2.1, (bv m c t _).2.2.2.2]
  rfl

theorem dzP_apply (n : ℕ) (i1) (i2) (hn : n < 8) (q : Fin 512) (hq : n * 512 + q.val < 4096) :
    k0_pay53 (dyP m c t) (w2At (iblk m c 3 t) n i2) (k0_pay13 (hP m c t) (w1At (iblk m c 2 t) n i1)) (ix2 r q)
      = dzK m c ⟨t.val * 512 + r.val, hR⟩ ⟨n * 512 + q.val, hq⟩ := by
  refine (dzB_apply _ _ _ _ _ _ _ _ _ (w1A m c) (w2A m c) (blk2 m c t) (blk3 m c t) n i1 i2 hn r q hq).trans ?_
  have hd := fun k => dyP_apply m c t r hR k
  unfold dyP at hd
  simp only [hd, b0 m c t r hR, (bv m c t _).1, (bv m c t _).2.1, (bv m c t _).2.2.1]
  rfl

theorem dhP_apply (j : Fin 1024) : dhP m c t (ix2 r j) = dhK m c ⟨t.val * 512 + r.val, hR⟩ j := by
  refine (dhB_apply _ _ _ _ _ _ _ _ _ (w1A m c) (w2A m c) (blk2 m c t) (blk3 m c t) r j).trans ?_
  have hd := fun k => dyP_apply m c t r hR k
  unfold dyP at hd
  simp only [hd, b0 m c t r hR, (bv m c t _).1, (bv m c t _).2.1, (bv m c t _).2.2.1]
  rfl

end Cert.FfnIdeal.Hand
end
-- ==== Proof.FfnWide.lean ====
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- A block of columns, where it holds an entry of the wide array. -/
theorem tile_col {e : EltTy} (o : ℕ) (w : S512x512.Idx → Elt Ideal e) (r : Fin 512) (Q : Fin 4096) (v : Elt Ideal e)
    (h : ∀ q : Fin 512, Q.val = o + q.val → w (ix2 r q) = v) :
    View.TileAt (Val := Elt Ideal) (S := S512x4096) (e := e) (ix2 r Q) ![0, o] ![512, 512] w v := by
  intro x hx
  have h0 : r = x 0 := Fin.ext ((hx 0).trans (Nat.zero_add _))
  subst h0
  rw [eq_ix2 x]
  exact h (x 1) (hx 1)

/-- The squared positive part of one block of columns, in all of the forms it takes in the kernel. -/
theorem r_forms (h : FVec Ideal S512x1024 .bf16) (w : FVec Ideal S1x1024x512 .bf16) :
    k0_pay15 h w = k0_pay12 (k0_pay13 h w) ∧ k0_pay19 (F := Ideal) (k0_pay17 h w) = k0_pay12 (k0_pay13 h w)
      ∧ k0_pay22 h w = k0_pay12 (k0_pay13 h w) ∧ k0_pay26 (F := Ideal) (k0_pay24 h w) = k0_pay12 (k0_pay13 h w)
      ∧ k0_pay29 h w = k0_pay12 (k0_pay13 h w) ∧ k0_pay33 (F := Ideal) (k0_pay31 h w) = k0_pay12 (k0_pay13 h w)
      ∧ k0_pay36 h w = k0_pay12 (k0_pay13 h w) := ⟨rfl, rfl, rfl, rfl, rfl, rfl, rfl⟩

theorem pay12 (z : FVec Ideal S512x512 .f32) (r q : Fin 512) : k0_pay12 z (ix2 r q) = Cert.FfnHand.act (z (ix2 r q)) := by
  unfold_payloads
  pointwise [Cert.FfnHand.act]

/-- The gradient handed back through the squared positive part, in all of the forms it takes in the kernel. -/
theorem dz_forms (d : FVec Ideal S512x1024 .bf16) (w : FVec Ideal S1x512x1024 .bf16) (z : FVec Ideal S512x512 .f32) :
    k0_pay54 d w z = k0_pay53 d w z ∧ k0_pay56 d w z = k0_pay53 d w z ∧ k0_pay57 d w z = k0_pay53 d w z
      ∧ k0_pay59 d w z = k0_pay53 d w z ∧ k0_pay60 d w z = k0_pay53 d w z ∧ k0_pay62 d w z = k0_pay53 d w z :=
  ⟨rfl, rfl, rfl, rfl, rfl, rfl⟩

theorem dz_one (y : FVec Ideal S512x1024 .f32) (g : FVec Ideal S1x1024 .f32) (a b : FVec Ideal S512x1 .f32)
    (u : FVec Ideal S512x1024 .f32) (w : FVec Ideal S1x512x1024 .bf16) (z : FVec Ideal S512x512 .f32) :
    k0_pay51 y g a b u w z = k0_pay53 (k0_pay50 y g a b u) w z := rfl

variable (c : Dev nD) (t : Fin cfg0.N)

/-- The eight blocks of columns of the squared positive parts, the last stored first. -/
def rPieces (W : (n : ℕ) → (∀ a, (![n, 0, 0] : Fin 3 → ℕ) a + (![1, 1024, 512] : Fin 3 → ℕ) a ≤ S8x1024x512.size a) →
    (∀ a, (![n, 0, 0] : Fin 3 → ℕ) a + (![1, 512, 1024] : Fin 3 → ℕ) a ≤ S8x512x1024.size a) → FVec Ideal S512x512 .bf16) :
    List (View.Piece (Elt Ideal) S512x4096 .bf16) :=
  [⟨Rect.unit ![0, 3584] ![512, 512] inb_S512x4096_S512x512_0_3584, W 7 inb_S8x1024x512_S1x1024x512_7_0_0 inb_S8x512x1024_S1x512x1024_7_0_0⟩,
    ⟨Rect.unit ![0, 3072] ![512, 512] inb_S512x4096_S512x512_0_3072, W 6 inb_S8x1024x512_S1x1024x512_6_0_0 inb_S8x512x1024_S1x512x1024_6_0_0⟩,
    ⟨Rect.unit ![0, 2560] ![512, 512] inb_S512x4096_S512x512_0_2560, W 5 inb_S8x1024x512_S1x1024x512_5_0_0 inb_S8x512x1024_S1x512x1024_5_0_0⟩,
    ⟨Rect.unit ![0, 2048] ![512, 512] inb_S512x4096_S512x512_0_2048, W 4 inb_S8x1024x512_S1x1024x512_4_0_0 inb_S8x512x1024_S1x512x1024_4_0_0⟩,
    ⟨Rect.unit ![0, 1536] ![512, 512] inb_S512x4096_S512x512_0_1536, W 3 inb_S8x1024x512_S1x1024x512_3_0_0 inb_S8x512x1024_S1x512x1024_3_0_0⟩,
    ⟨Rect.unit ![0, 1024] ![512, 512] inb_S512x4096_S512x512_0_1024, W 2 inb_S8x1024x512_S1x1024x512_2_0_0 inb_S8x512x1024_S1x512x1024_2_0_0⟩,
    ⟨Rect.unit ![0, 512] ![512, 512] inb_S512x4096_S512x512_0_512, W 1 inb_S8x1024x512_S1x1024x512_1_0_0 inb_S8x512x1024_S1x512x1024_1_0_0⟩,
    ⟨Rect.unit ![0, 0] ![512, 512] inb_S512x4096_S512x512_0_0, W 0 inb_S8x1024x512_S1x1024x512_0_0_0 inb_S8x512x1024_S1x512x1024_0_0_0⟩]

/-- Eight blocks of columns read as one wide block. -/
theorem rPieces_apply (W) (r : Fin 512) (Q : Fin 4096) (f : Fin 4096 → EReal)
    (h : ∀ (n : ℕ) (i1) (i2) (hn : n < 8) (q : Fin 512) (hq : n * 512 + q.val < 4096), W n i1 i2 (ix2 r q) = f ⟨n * 512 + q.val, hq⟩) :
    View.canon (rPieces W) (ix2 r Q) = f Q := by
  have key : ∀ (n : ℕ) (i1) (i2), n < 8 → View.TileAt (Val := Elt Ideal) (S := S512x4096) (e := .bf16) (ix2 r Q)
      ![0, n * 512] ![512, 512] (W n i1 i2) (f Q) := fun n i1 i2 hn => tile_col _ _ _ _ _ fun q hq => by
    rw [h n i1 i2 hn q (by omega)]
    exact congrArg f (Fin.ext hq.symm)
  unfold rPieces
  refine View.canon_eq_of_allAt _ _ _ (View.cover_of_tiled_head _ _ _ rfl _) ?_
  exact View.allAt_cons_unit _ _ _ _ _ (key 7 _ _ (by decide)) (View.allAt_cons_unit _ _ _ _ _ (key 6 _ _ (by decide))
    (View.allAt_cons_unit _ _ _ _ _ (key 5 _ _ (by decide)) (View.allAt_cons_unit _ _ _ _ _ (key 4 _ _ (by decide))
    (View.allAt_cons_unit _ _ _ _ _ (key 3 _ _ (by decide)) (View.allAt_cons_unit _ _ _ _ _ (key 2 _ _ (by decide))
    (View.allAt_cons_unit _ _ _ _ _ (key 1 _ _ (by decide)) (View.allAt_cons_unit _ _ _ _ _ (key 0 _ _ (by decide))
    (View.allAt_nil _ _))))))))

theorem out12 : (outsAt0 m c t.val t.isLt).2.2.2.1
    = View.canon (rPieces fun n i1 _ => k0_pay12 (k0_pay13 (hP m c t) (w1At (iblk m c 2 t) n i1))) := by
  by_cases h : t.val % 8 = 0
  · rw [outsAt0_A m c t h]; frame_out; rfl
  · rw [outsAt0_B m c t h]; frame_out; rfl

theorem point12 (r : Fin 512) (Q : Fin 4096) (hR : t.val * 512 + r.val < 4096) :
    (outsAt0 m c t.val t.isLt).2.2.2.1 (ix2 r Q) = actK m c ⟨t.val * 512 + r.val, hR⟩ Q := by
  rw [out12]
  refine rPieces_apply _ r Q (actK m c ⟨t.val * 512 + r.val, hR⟩) fun n i1 i2 hn q hq => ?_
  rw [pay12, zP_apply m c t r hR n i1 hn q hq]
  rfl

theorem out13 : (outsAt0 m c t.val t.isLt).2.2.2.2.1
    = View.canon (rPieces fun n i1 i2 => k0_pay53 (dyP m c t) (w2At (iblk m c 3 t) n i2)
      (k0_pay13 (hP m c t) (w1At (iblk m c 2 t) n i1))) := by
  by_cases h : t.val % 8 = 0
  · rw [outsAt0_A m c t h]
    frame_open
    simp (disch := decide) only [↓ View.readCov_skip, ↓ View.readCov_cons_toLoadRect, ↓ View.readCov_fill]
    frame_out
    rw [(kept_forms _ _).1, (kept_forms _ _).2.1, (kept_forms _ _).2.2.1, (kept_forms _ _).2.2.2.1, (kept_forms _ _).2.2.2.2.1,
      (kept_forms _ _).2.2.2.2.2.1, (kept_forms _ _).2.2.2.2.2.2, kept]
    rfl
  · rw [outsAt0_B m c t h]
    frame_open
    simp (disch := decide) only [↓ View.readCov_skip, ↓ View.readCov_cons_toLoadRect, ↓ View.readCov_fill]
    frame_out
    rw [(kept_forms _ _).1, (kept_forms _ _).2.1, (kept_forms _ _).2.2.1, (kept_forms _ _).2.2.2.1, (kept_forms _ _).2.2.2.2.1,
      (kept_forms _ _).2.2.2.2.2.1, (kept_forms _ _).2.2.2.2.2.2, kept]
    rfl

theorem point13 (r : Fin 512) (Q : Fin 4096) (hR : t.val * 512 + r.val < 4096) :
    (outsAt0 m c t.val t.isLt).2.2.2.2.1 (ix2 r Q) = dzK m c ⟨t.val * 512 + r.val, hR⟩ Q := by
  rw [out13]
  exact rPieces_apply _ r Q (dzK m c ⟨t.val * 512 + r.val, hR⟩) fun n i1 i2 hn q hq => dzP_apply m c t r hR n i1 i2 hn q hq

end Cert.FfnIdeal.Hand
end
-- ==== Proof.FfnFinal.lean ====
module

public import proofs.«01_k».proof.Proof.FfnWide

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ) (c : Dev nD) (t : Fin cfg0.N)

/-- The last step of the normed rows' gradient, as the kernel's later sums take it: at `f`. -/
def lastStep {α : Type} (f : FVec Ideal S512x1024 .bf16 → FVec Ideal S512x1024 .f32 → FVec Ideal S1x512x1024 .bf16 →
    FVec Ideal S512x512 .f32 → FVec Ideal S1x1024x512 .bf16 → α) : α :=
  f (dyP m c t)
    (dh61 (iblk m c 0 t) (iblk m c 1 t) (iblk m c 2 t) (iblk m c 3 t) (iblk m c 4 t) (iblk m c 5 t) (iblk m c 6 t) (iblk m c 7 t)
      (iblk m c 8 t))
    (w2At (iblk m c 3 t) 7 inb_S8x512x1024_S1x512x1024_7_0_0)
    (k0_pay35 (hP m c t) (w1At (iblk m c 2 t) 7 inb_S8x1024x512_S1x1024x512_7_0_0))
    (w1At (iblk m c 2 t) 7 inb_S8x1024x512_S1x1024x512_7_0_0)

theorem lastStep_dh : lastStep m c t (fun d a wb z wa => k0_pay63 d a wb z wa) = dhP m c t := rfl

/-- The rows' gradient in one block. -/
theorem out9 : (outsAt0 m c t.val t.isLt).1 = lastStep m c t fun d a wb z wa =>
    k0_pay69 (k0_pay46 (iblk m c 0 t) (yP m c t) (iblk m c 7 t) (iblk m c 8 t) (mulf (yP m c t) (yP m c t)) (iblk m c 1 t))
      (k0_pay68 (iblk m c 0 t) (iblk m c 4 t) (k0_pay3 (iblk m c 0 t)) (k0_pay4 (iblk m c 0 t)) (k0_pay7 (iblk m c 5 t)) d a wb z wa) := by
  by_cases h : t.val % 8 = 0
  · rw [outsAt0_A m c t h]
    frame_open
    simp (disch := decide) only [↓ View.readCov_skip, ↓ View.readCov_cons_toLoadRect, ↓ View.readCov_fill]
    frame_out
    rfl
  · rw [outsAt0_B m c t h]
    frame_open
    simp (disch := decide) only [↓ View.readCov_skip, ↓ View.readCov_cons_toLoadRect, ↓ View.readCov_fill]
    frame_out
    rfl

theorem out10 : (outsAt0 m c t.val t.isLt).2.1 = hP m c t := by
  by_cases h : t.val % 8 = 0
  · rw [outsAt0_A m c t h]; frame_out; rfl
  · rw [outsAt0_B m c t h]; frame_out; rfl

theorem out11 : (outsAt0 m c t.val t.isLt).2.2.1 = dyP m c t := by
  by_cases h : t.val % 8 = 0
  · rw [outsAt0_A m c t h]; frame_out; rfl
  · rw [outsAt0_B m c t h]; frame_out; rfl

theorem point9 (r : Fin 512) (hR : t.val * 512 + r.val < 4096) (j : Fin 1024) : (outsAt0 m c t.val t.isLt).1 (ix2 r j) = dxK m c ⟨t.val * 512 + r.val, hR⟩ j := by
  have hd := fun k => dhP_apply m c t r hR k
  rw [out9]
  unfold lastStep
  dsimp only
  rw [pay68]
  rw [← lastStep_dh] at hd
  unfold lastStep at hd
  dsimp only at hd
  simp only [hd, pay46, errP_eq m c t r hR, b0 m c t r hR, (bv m c t _).1, (bv m c t _).2.1]
  rfl

/-- What one block of rows adds to the accumulated rows. -/
def accBlk (i : Fin 8) (j : Fin 1024) : EReal :=
  if i.val = 4 then
    k0_pay48 (iblk m c 0 t) (yP m c t) (iblk m c 7 t) (iblk m c 8 t) (mulf (yP m c t) (yP m c t)) (iblk m c 1 t) (ix2 0 j)
  else if i.val = 3 then lastStep m c t (fun d a wb z wa => k0_pay64 d a wb z wa (ix2 0 j))
  else if i.val = 2 then
    lastStep m c t (fun d a wb z wa => k0_pay65 (k0_pay6 (iblk m c 0 t) (iblk m c 4 t)) d a wb z wa (ix2 0 j))
  else if i.val = 1 then
    k0_pay49 (iblk m c 0 t) (yP m c t) (iblk m c 7 t) (iblk m c 8 t) (mulf (yP m c t) (yP m c t)) (iblk m c 1 t) (ix2 0 j)
  else if i.val = 0 then
    lastStep m c t (fun d a wb z wa => k0_pay67 (k0_pay5 (iblk m c 0 t)) (k0_pay7 (iblk m c 5 t)) d a wb z wa (ix2 0 j))
  else if i.val = 5 then
    Ideal.ofBits .f32 1056964608#32 * ∑ r : Fin 512,
      Ideal.div (∑ k, errR (iblk m c 0 t) (iblk m c 1 t) (yP m c t) (iblk m c 7 t) (iblk m c 8 t) r k
        * errR (iblk m c 0 t) (iblk m c 1 t) (yP m c t) (iblk m c 7 t) (iblk m c 8 t) r k) (Ideal.ofBits .f32 1149239296#32)
  else 0

/-- A stored row is the row before plus what is added. -/
theorem pay_rows (a : FVec Ideal S1x1024 .f32) (Z : FVec Ideal S8x1024 .f32) (j : Fin 1024) :
    k0_pay74 a (View.ld (Val := Elt Ideal) (e' := .f32) Z (Rect.unit ![4, 0] ![1, 1024] inb_S8x1024_S1x1024_4_0)) (ix2 0 j)
        = Z (ix2 4 j) + a (ix2 0 j)
      ∧ k0_pay73 a (View.ld (Val := Elt Ideal) (e' := .f32) Z (Rect.unit ![3, 0] ![1, 1024] inb_S8x1024_S1x1024_3_0)) (ix2 0 j)
        = Z (ix2 3 j) + a (ix2 0 j)
      ∧ k0_pay72 a (View.ld (Val := Elt Ideal) (e' := .f32) Z (Rect.unit ![2, 0] ![1, 1024] inb_S8x1024_S1x1024_2_0)) (ix2 0 j)
        = Z (ix2 2 j) + a (ix2 0 j)
      ∧ k0_pay71 a (View.ld (Val := Elt Ideal) (e' := .f32) Z (Rect.unit ![1, 0] ![1, 1024] inb_S8x1024_S1x1024_1_0)) (ix2 0 j)
        = Z (ix2 1 j) + a (ix2 0 j)
      ∧ k0_pay70 a (View.ld (Val := Elt Ideal) (e' := .f32) Z (Rect.unit ![0, 0] ![1, 1024] inb_S8x1024_S1x1024_0_0)) (ix2 0 j)
        = Z (ix2 0 j) + a (ix2 0 j)
      ∧ (View.ld (Val := Elt Ideal) (e' := .f32) Z (Rect.unit ![5, 0] ![1, 1024] inb_S8x1024_S1x1024_5_0)) (ix2 0 j)
        = Z (ix2 5 j) := by
  unfold_payloads
  refine ⟨?_, ?_, ?_, ?_, ?_, ?_⟩ <;> pointwise

theorem rows_ite (a4 a3 a2 a1 a0 : FVec Ideal S1x1024 .f32) (a5 : EReal) (p5 : FVec Ideal S1x1024 .f32)
    (Z : FVec Ideal S8x1024 .f32) (i : Fin 8) (j : Fin 1024)
    (h5 : p5 (ix2 0 j) = (View.ld (Val := Elt Ideal) (e' := .f32) Z (Rect.unit ![5, 0] ![1, 1024] inb_S8x1024_S1x1024_5_0)) (ix2 0 j) + a5) :
    (if i.val = 4 then
        k0_pay74 a4 (View.ld (Val := Elt Ideal) (e' := .f32) Z (Rect.unit ![4, 0] ![1, 1024] inb_S8x1024_S1x1024_4_0)) (ix2 0 j)
      else if i.val = 3 then
        k0_pay73 a3 (View.ld (Val := Elt Ideal) (e' := .f32) Z (Rect.unit ![3, 0] ![1, 1024] inb_S8x1024_S1x1024_3_0)) (ix2 0 j)
      else if i.val = 2 then
        k0_pay72 a2 (View.ld (Val := Elt Ideal) (e' := .f32) Z (Rect.unit ![2, 0] ![1, 1024] inb_S8x1024_S1x1024_2_0)) (ix2 0 j)
      else if i.val = 1 then
        k0_pay71 a1 (View.ld (Val := Elt Ideal) (e' := .f32) Z (Rect.unit ![1, 0] ![1, 1024] inb_S8x1024_S1x1024_1_0)) (ix2 0 j)
      else if i.val = 0 then
        k0_pay70 a0 (View.ld (Val := Elt Ideal) (e' := .f32) Z (Rect.unit ![0, 0] ![1, 1024] inb_S8x1024_S1x1024_0_0)) (ix2 0 j)
      else if i.val = 5 then p5 (ix2 0 j)
      else Z (ix2 i j))
      = Z (ix2 i j) + (if i.val = 4 then a4 (ix2 0 j) else if i.val = 3 then a3 (ix2 0 j) else if i.val = 2 then a2 (ix2 0 j)
        else if i.val = 1 then a1 (ix2 0 j) else if i.val = 0 then a0 (ix2 0 j) else if i.val = 5 then a5 else 0) := by
  rw [h5, (pay_rows a4 Z j).1, (pay_rows a3 Z j).2.1, (pay_rows a2 Z j).2.2.1, (pay_rows a1 Z j).2.2.2.1,
    (pay_rows a0 Z j).2.2.2.2.1, (pay_rows a0 Z j).2.2.2.2.2]
  match i with
  | 0 => rfl
  | 1 => rfl
  | 2 => rfl
  | 3 => rfl
  | 4 => rfl
  | 5 => rfl
  | 6 => exact (add_zero _).symm
  | 7 => exact (add_zero _).symm

theorem out14A (h : t.val % 8 = 0) (i : Fin 8) (j : Fin 1024) :
    (outsAt0 m c t.val t.isLt).2.2.2.2.2 (ix2 i j) = 0 + accBlk m c t i j := by
  rw [outsAt0_A m c t h]
  frame_open
  simp (disch := decide) only [↓ View.readCov_skip, ↓ View.readCov_cons_toLoadRect, ↓ View.readCov_fill]
  frame_out
  rw [← View.read_writes_junk_eq_canon (ms0_14 t).view, RowStore.read_row, RowStore.read_row, RowStore.read_row,
    RowStore.read_row, RowStore.read_row, RowStore.read_row, RowStore.read_fill]
  refine (rows_ite _ _ _ _ _ _ _ _ i j (pay45 (iblk m c 0 t) (iblk m c 1 t) (yP m c t) (iblk m c 7 t) (iblk m c 8 t) _ j)).trans
    (congrArg (· + _) ?_)
  unfold_payloads
  pointwise

theorem out14B (h : ¬ t.val % 8 = 0) (i : Fin 8) (j : Fin 1024) :
    (outsAt0 m c t.val t.isLt).2.2.2.2.2 (ix2 i j)
      = (outsAt0 m c (t.val - 1) (by omega)).2.2.2.2.2 (ix2 i j) + accBlk m c t i j := by
  rw [outsAt0_B m c t h]
  frame_open
  simp (disch := decide) only [↓ View.readCov_skip, ↓ View.readCov_cons_toLoadRect, ↓ View.readCov_fill]
  frame_out
  rw [RowStore.read_row, RowStore.read_row, RowStore.read_row, RowStore.read_row, RowStore.read_row, RowStore.read_row,
    View.writes_nil, Memref.IsWhole.read_unread]
  exact rows_ite _ _ _ _ _ _ _ _ i j (pay45 (iblk m c 0 t) (iblk m c 1 t) (yP m c t) (iblk m c 7 t) (iblk m c 8 t) _ j)

end Cert.FfnIdeal.Hand
end
-- ==== Proof.FfnAcc.lean ====
module

public import proofs.«01_k».proof.Proof.FfnFinal

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ) (c : Dev nD)

/-- A positive half of a sum is the sum of the halves. -/
theorem half_sum (f : Fin 512 → EReal) :
    Ideal.ofBits .f32 1056964608#32 * ∑ k, f k = ∑ k, Ideal.ofBits .f32 1056964608#32 * f k := by
  rw [Cert.FfnHand.ofBits_half]
  exact Cert.FfnHand.mul_sum_of_pos (by norm_num) f

theorem accBlk_eq (t : Fin cfg0.N) (i : Fin 8) (j : Fin 1024) (hN : ∀ k : Fin 512, t.val * 512 + k.val < 4096) :
    accBlk m c t i j = ∑ k : Fin 512, rowK m c i ⟨t.val * 512 + k.val, hN k⟩ j := by
  have hd := fun k => dhP_apply m c t k (hN k)
  rw [← lastStep_dh] at hd
  unfold lastStep at hd
  dsimp only at hd
  have h64 := fun (g sc : FVec Ideal S1x1024 .f32) (x) (d) (a) (wb) (z) (wa) => pay64 x g sc d a wb z wa j
  unfold accBlk lastStep
  dsimp only
  unfold rowK Cert.FfnHand.accTerm
  rw [(h64 (iblk m c 4 t) (iblk m c 5 t) (iblk m c 0 t) _ _ _ _ _).1, (h64 (iblk m c 4 t) (iblk m c 5 t) (iblk m c 0 t) _ _ _ _ _).2.1,
    (h64 (iblk m c 4 t) (iblk m c 5 t) (iblk m c 0 t) _ _ _ _ _).2.2, pay48, pay49, half_sum]
  simp only [hd, errP_eq m c t _ (hN _), yP_apply m c t _ (hN _), b0 m c t _ (hN _), (bv m c t _).1, (bv m c t _).2.1,
    (bv m c t _).2.2.1, (bv m c t _).2.2.2.1, (bv m c t _).2.2.2.2]
  match i with
  | 0 => rfl
  | 1 => rfl
  | 2 => rfl
  | 3 => rfl
  | 4 => rfl
  | 5 => rfl
  | 6 => exact Finset.sum_const_zero.symm
  | 7 => exact Finset.sum_const_zero.symm

theorem final9 : (dats m 0 c).arrAt 9 cfg0.N = fun i : S4096x1024.Idx => dxK m c (i 0) (i 1) := by
  refine (dats m 0 c).arrAt_eq_of_covers 9 _ (by decide +kernel) fun t hf y => ?_
  rw [after0_9]
  blk_simp [idx t]
  have ht : t.val < 8 := t.isLt
  have hy : (y 0).val < 512 := (y 0).isLt
  have hy1 : (y 1).val < 1024 := (y 1).isLt
  refine Eq.trans (congrArg _ ?_) ((point9 m c t ⟨(y 0).val, hy⟩ (by dsimp only; omega) ⟨(y 1).val, hy1⟩).trans ?_)
  · blk_ext
  · refine congrArg₂ (dxK m c) (Fin.ext ?_) (Fin.ext ?_) <;> blk_simp [idx t]

theorem final10 : (dats m 0 c).arrAt 10 cfg0.N = fun i : S4096x1024.Idx => hK m c (i 0) (i 1) := by
  refine (dats m 0 c).arrAt_eq_of_covers 10 _ (by decide +kernel) fun t hf y => ?_
  rw [after0_10]
  blk_simp [idx t]
  have ht : t.val < 8 := t.isLt
  have hy : (y 0).val < 512 := (y 0).isLt
  have hy1 : (y 1).val < 1024 := (y 1).isLt
  rw [out10]
  refine Eq.trans (congrArg _ ?_) ((hP_apply m c t ⟨(y 0).val, hy⟩ (by dsimp only; omega) ⟨(y 1).val, hy1⟩).trans ?_)
  · blk_ext
  · refine congrArg₂ (hK m c) (Fin.ext ?_) (Fin.ext ?_) <;> blk_simp [idx t]

theorem final11 : (dats m 0 c).arrAt 11 cfg0.N = fun i : S4096x1024.Idx => dyK m c (i 0) (i 1) := by
  refine (dats m 0 c).arrAt_eq_of_covers 11 _ (by decide +kernel) fun t hf y => ?_
  rw [after0_11]
  blk_simp [idx t]
  have ht : t.val < 8 := t.isLt
  have hy : (y 0).val < 512 := (y 0).isLt
  have hy1 : (y 1).val < 1024 := (y 1).isLt
  rw [out11]
  refine Eq.trans (congrArg _ ?_) ((dyP_apply m c t ⟨(y 0).val, hy⟩ (by dsimp only; omega) ⟨(y 1).val, hy1⟩).trans ?_)
  · blk_ext
  · refine congrArg₂ (dyK m c) (Fin.ext ?_) (Fin.ext ?_) <;> blk_simp [idx t]

theorem final12 : (dats m 0 c).arrAt 12 cfg0.N = fun i : S4096x4096.Idx => actK m c (i 0) (i 1) := by
  refine (dats m 0 c).arrAt_eq_of_covers 12 _ (by decide +kernel) fun t hf y => ?_
  rw [after0_12]
  blk_simp [idx t]
  have ht : t.val < 8 := t.isLt
  have hy : (y 0).val < 512 := (y 0).isLt
  have hy1 : (y 1).val < 4096 := (y 1).isLt
  refine Eq.trans (congrArg _ ?_) ((point12 m c t ⟨(y 0).val, hy⟩ ⟨(y 1).val, hy1⟩ (by dsimp only; omega)).trans ?_)
  · blk_ext
  · refine congrArg₂ (actK m c) (Fin.ext ?_) (Fin.ext ?_) <;> blk_simp [idx t]

theorem final13 : (dats m 0 c).arrAt 13 cfg0.N = fun i : S4096x4096.Idx => dzK m c (i 0) (i 1) := by
  refine (dats m 0 c).arrAt_eq_of_covers 13 _ (by decide +kernel) fun t hf y => ?_
  rw [after0_13]
  blk_simp [idx t]
  have ht : t.val < 8 := t.isLt
  have hy : (y 0).val < 512 := (y 0).isLt
  have hy1 : (y 1).val < 4096 := (y 1).isLt
  refine Eq.trans (congrArg _ ?_) ((point13 m c t ⟨(y 0).val, hy⟩ ⟨(y 1).val, hy1⟩ (by dsimp only; omega)).trans ?_)
  · blk_ext
  · refine congrArg₂ (dzK m c) (Fin.ext ?_) (Fin.ext ?_) <;> blk_simp [idx t]

theorem final14 : (dats m 0 c).arrAt 14 cfg0.N = fun i : S8x1024.Idx => accK m c (i 0) (i 1) := by
  refine (dats m 0 c).arrAt_eq_of_after_last 14 t0_7 (by decide +kernel) _ fun j => ?_
  blk_simp [idx t0_7]
  rw [after0_14]
  have h := Pipeline.eq_sum_fin_of_reset_step_apply_last
    (fun n h => fun i : Fin 8 × Fin 1024 => (outsAt0 m c n h).2.2.2.2.2 (ix2 i.1 i.2))
    8 (fun _ => 0) (fun t i => accBlk m c t i.1 i.2) (fun t h i => out14A m c t h i.1 i.2) (fun t h i => out14B m c t h i.1 i.2)
    (le_of_eq N_0) t0_7 rfl (j 0, j 1)
  refine Eq.trans (congrArg _ ?_) (h.trans ?_)
  · blk_ext
  · rw [zero_add]
    refine Eq.trans ?_ (Fin.sum_mul_add_congr (F := fun (t : Fin cfg0.N) (k : Fin 512) =>
      rowK m c (j 0) ⟨t.val * 512 + k.val, by have := t.isLt; have := (show cfg0.N = 8 from N_0); omega⟩ (j 1)) fun s k hl => rfl)
    exact Finset.sum_congr rfl fun t _ => accBlk_eq m c t (j 0) (j 1) _

/-- The run, its six results entry by entry, its arguments unchanged. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v5_0) = fun i : S4096x1024.Idx => dxK m c (i 0) (i 1))
      ∧ (r.2.mem ((c.tc : Thread nD τ).loc main_v5_1) = fun i : S4096x1024.Idx => hK m c (i 0) (i 1))
      ∧ (r.2.mem ((c.tc : Thread nD τ).loc main_v5_2) = fun i : S4096x1024.Idx => dyK m c (i 0) (i 1))
      ∧ (r.2.mem ((c.tc : Thread nD τ).loc main_v5_3) = fun i : S4096x4096.Idx => actK m c (i 0) (i 1))
      ∧ (r.2.mem ((c.tc : Thread nD τ).loc main_v5_4) = fun i : S4096x4096.Idx => dzK m c (i 0) (i 1))
      ∧ (r.2.mem ((c.tc : Thread nD τ).loc main_v5_5) = fun i : S8x1024.Idx => accK m c (i 0) (i 1)) :=
  (θ_run defs _ _).mono (fun r h c => ⟨((h c).1 9).trans (final9 m c), ((h c).1 10).trans (final10 m c),
    ((h c).1 11).trans (final11 m c), ((h c).1 12).trans (final12 m c), ((h c).1 13).trans (final13 m c),
    ((h c).1 14).trans (final14 m c)⟩) (Gen.run_main m ρ)

end Cert.FfnIdeal.Hand
end
-- ==== Proof.FfnRef.lean ====
module

public import proofs.«01_k».proof.Proof.FfnRow
public import proofs.«01_k».proof.Proof.Gen.FfnRefIdeal.Run
public import proofs.«01_k».proof.Proof.Gen.FfnRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.FfnHand

namespace Cert.FfnRefIdeal.Hand

open Cert.FfnRefIdeal Cert.FfnRefIdeal.Gen Cert.FfnRefIdeal.Read

variable (x tg : FVec Ideal S4096x1024 .f32) (w1 : FVec Ideal S1024x4096 .f32) (w2 : FVec Ideal S4096x1024 .f32)
  (pre sc sh g2 post : FVec Ideal S1x1024 .f32)

theorem v20 (R : Fin 4096) (j : Fin 1024) :
    val_main_v20 (F := Ideal) x pre sc sh (ix2 R j) = H (fun R j => x (ix2 R j)) (fun j => pre (ix2 0 j)) (fun j => sc (ix2 0 j)) (fun j => sh (ix2 0 j)) R j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, H, h, Cert.InProjHand.rms]

theorem v21 (R q : Fin 4096) :
    val_main_v21 (F := Ideal) x w1 pre sc sh (ix2 R q) = Z (fun R j => x (ix2 R j)) (fun j q => w1 (ix2 j q)) (fun j => pre (ix2 0 j)) (fun j => sc (ix2 0 j)) (fun j => sh (ix2 0 j)) R q := by
  pointwise [val_main_v21]
  simp only [v20]
  rfl

theorem v26 (R q : Fin 4096) :
    val_main_v26 (F := Ideal) x w1 pre sc sh (ix2 R q) = Act (fun R j => x (ix2 R j)) (fun j q => w1 (ix2 j q)) (fun j => pre (ix2 0 j)) (fun j => sc (ix2 0 j)) (fun j => sh (ix2 0 j)) R q := by
  pointwise [val_main_call0_cst, val_main_call0_v0, val_main_v22, val_main_v26]
  simp only [v21]
  rfl

theorem v29 (R : Fin 4096) (j : Fin 1024) :
    val_main_v29 (F := Ideal) x w1 w2 pre sc sh (ix2 R j) = Y (fun R j => x (ix2 R j)) (fun j q => w1 (ix2 j q)) (fun q j => w2 (ix2 q j)) (fun j => pre (ix2 0 j)) (fun j => sc (ix2 0 j)) (fun j => sh (ix2 0 j)) R j := by
  pointwise [val_main_v29]
  simp only [v26]
  rfl

theorem v42 (R : Fin 4096) (j : Fin 1024) :
    val_main_v42 (F := Ideal) x w1 w2 pre sc sh (ix2 R j) = Y (fun R j => x (ix2 R j)) (fun j q => w1 (ix2 j q)) (fun q j => w2 (ix2 q j)) (fun j => pre (ix2 0 j)) (fun j => sc (ix2 0 j)) (fun j => sh (ix2 0 j)) R j * Ideal.rsqrt (Cert.InProjHand.rms (Y (fun R j => x (ix2 R j)) (fun j q => w1 (ix2 j q)) (fun q j => w2 (ix2 q j)) (fun j => pre (ix2 0 j)) (fun j => sc (ix2 0 j)) (fun j => sh (ix2 0 j)) R)) := by
  pointwise [val_main_v30, val_main_cst_7, val_main_v31, val_main_v32, val_main_cst_8, val_main_v33, val_main_v34, val_main_cst_9, val_main_v35, val_main_v36, val_main_v37, val_main_v38, val_main_cst_10, val_main_v39, val_main_v40, val_main_v41, val_main_v42]
  simp only [v29]
  rfl

theorem v48 (R : Fin 4096) (j : Fin 1024) :
    val_main_v48 (F := Ideal) x tg w1 w2 pre sc sh g2 post (ix2 R j) = Err (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R j := by
  pointwise [val_main_v43, val_main_v44, val_main_v45, val_main_v46, val_main_v47, val_main_v48]
  simp only [v42]
  rfl

theorem v62 (R : Fin 4096) (j : Fin 1024) :
    val_main_v62 (F := Ideal) x tg w1 w2 pre sc sh g2 post (ix2 R j) = Cot (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R j := by
  pointwise [val_main_cst_11, val_main_v50, val_main_v51, val_main_cst_16, val_main_cst_17, val_main_v57, val_main_v58, val_main_cst_18, val_main_v59, val_main_v60, val_main_v61, val_main_v62]
  simp only [v48]
  exact cot_const _

theorem v86 (R : Fin 4096) (j : Fin 1024) :
    val_main_v86 (F := Ideal) x tg w1 w2 pre sc sh g2 post (ix2 R j) = Dy (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R j := by
  pointwise [val_main_v63, val_main_v64, val_main_v30, val_main_cst_7, val_main_v31, val_main_v32, val_main_cst_8, val_main_v33, val_main_v34, val_main_cst_9, val_main_v35, val_main_v36, val_main_v37, val_main_v38, val_main_cst_10, val_main_v39, val_main_v40, val_main_v71, val_main_v72, val_main_v73, val_main_cst_21, val_main_v74, val_main_v75, val_main_v76, val_main_v77, val_main_v78, val_main_cst_22, val_main_v79, val_main_v80, val_main_cst_23, val_main_v81, val_main_v82, val_main_v83, val_main_v84, val_main_v85, val_main_v86]
  simp only [v62, v29]
  rfl

theorem v90 (R q : Fin 4096) :
    val_main_v90 (F := Ideal) x tg w1 w2 pre sc sh g2 post (ix2 R q) = Dz (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R q := by
  pointwise [val_main_call0_cst, val_main_call0_v0, val_main_v22, val_main_cst_4, val_main_v23, val_main_v24, val_main_cst_6, val_main_v27, val_main_v28, val_main_v87, val_main_v88, val_main_cst_24, val_main_v89, val_main_v90]
  simp only [v21, v86]
  exact select_relu _ _ _

theorem v91 (R : Fin 4096) (j : Fin 1024) :
    val_main_v91 (F := Ideal) x tg w1 w2 pre sc sh g2 post (ix2 R j) = Dh (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R j := by
  pointwise [val_main_v91]
  simp only [v90]
  rfl

theorem v121 (R : Fin 4096) (j : Fin 1024) :
    val_main_v121 (F := Ideal) x tg w1 w2 pre sc sh g2 post (ix2 R j) = Dx (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) R j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_3, val_main_v15, val_main_v16, val_main_v97, val_main_v98, val_main_v102, val_main_v103, val_main_v104, val_main_cst_28, val_main_v105, val_main_v106, val_main_v107, val_main_v108, val_main_v109, val_main_cst_29, val_main_v110, val_main_v111, val_main_cst_30, val_main_v112, val_main_v113, val_main_v114, val_main_v115, val_main_v116, val_main_v117, val_main_v121, Dx, Cert.InProjHand.gxRow, Cert.InProjHand.rms, Cert.InProjHand.corr]
  simp only [v62, v91, add_assoc]

theorem v120 (r : Fin 8) (j : Fin 1024) :
    val_main_v120 (F := Ideal) x tg w1 w2 pre sc sh g2 post (ix2 r j) = FfnHand.Acc (fun R j => x (ix2 R j)) (fun R j => tg (ix2 R j)) (fun j q => w1 (ix2 j q)) (fun q j => w2 (ix2 q j)) (fun j => pre (ix2 0 j)) (fun j => sc (ix2 0 j)) (fun j => sh (ix2 0 j)) (fun j => g2 (ix2 0 j)) (fun j => post (ix2 0 j)) r j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v43, val_main_v44, val_main_v63, val_main_v64, val_main_v65, val_main_cst_19, val_main_v66, val_main_v67, val_main_v68, val_main_cst_20, val_main_v69, val_main_v70, val_main_cst_12, val_main_v52, val_main_cst_13, val_main_v53, val_main_v54, val_main_cst_14, val_main_v55, val_main_cst_15, val_main_v56, val_main_v49, val_main_cst_25, val_main_v92, val_main_v93, val_main_v94, val_main_cst_26, val_main_v95, val_main_v96, val_main_v97, val_main_v98, val_main_v99, val_main_cst_27, val_main_v100, val_main_v101, val_main_v118, val_main_cst_31, val_main_v119, val_main_v120]
  simp only [v62, v91, v42, v48]
  unfold _root_.Cert.FfnHand.Acc accTerm
  match r with
  | 0 => rfl
  | 1 => rfl
  | 2 => rfl
  | 3 => rfl
  | 4 => rfl
  | 5 => rw [ofBits_half]; exact mul_sum_of_pos (by norm_num) _
  | 6 => exact Finset.sum_const_zero.symm
  | 7 => exact Finset.sum_const_zero.symm

/-- The reference's run, its six results entry by entry. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v121) = fun i : S4096x1024.Idx =>
        Dx (fun a b => m ((c.tc : Thread nD τ).loc main_arg0) (ix2 a b)) (fun a b => m ((c.tc : Thread nD τ).loc main_arg1) (ix2 a b)) (fun a b => m ((c.tc : Thread nD τ).loc main_arg2) (ix2 a b)) (fun a b => m ((c.tc : Thread nD τ).loc main_arg3) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (fun b => m ((c.tc : Thread nD τ).loc main_arg7) (ix2 0 b)) (fun b => m ((c.tc : Thread nD τ).loc main_arg8) (ix2 0 b)) (i 0) (i 1)) ∧
      (r.2.mem ((c.tc : Thread nD τ).loc main_v122) = fun i : S4096x1024.Idx =>
        H (fun a b => m ((c.tc : Thread nD τ).loc main_arg0) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (i 0) (i 1)) ∧
      (r.2.mem ((c.tc : Thread nD τ).loc main_v123) = fun i : S4096x1024.Idx =>
        Dy (fun a b => m ((c.tc : Thread nD τ).loc main_arg0) (ix2 a b)) (fun a b => m ((c.tc : Thread nD τ).loc main_arg1) (ix2 a b)) (fun a b => m ((c.tc : Thread nD τ).loc main_arg2) (ix2 a b)) (fun a b => m ((c.tc : Thread nD τ).loc main_arg3) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (fun b => m ((c.tc : Thread nD τ).loc main_arg7) (ix2 0 b)) (fun b => m ((c.tc : Thread nD τ).loc main_arg8) (ix2 0 b)) (i 0) (i 1)) ∧
      (r.2.mem ((c.tc : Thread nD τ).loc main_v124) = fun i : S4096x4096.Idx =>
        Act (fun a b => m ((c.tc : Thread nD τ).loc main_arg0) (ix2 a b)) (fun a b => m ((c.tc : Thread nD τ).loc main_arg2) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (i 0) (i 1)) ∧
      (r.2.mem ((c.tc : Thread nD τ).loc main_v125) = fun i : S4096x4096.Idx =>
        Dz (fun a b => m ((c.tc : Thread nD τ).loc main_arg0) (ix2 a b)) (fun a b => m ((c.tc : Thread nD τ).loc main_arg1) (ix2 a b)) (fun a b => m ((c.tc : Thread nD τ).loc main_arg2) (ix2 a b)) (fun a b => m ((c.tc : Thread nD τ).loc main_arg3) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (fun b => m ((c.tc : Thread nD τ).loc main_arg7) (ix2 0 b)) (fun b => m ((c.tc : Thread nD τ).loc main_arg8) (ix2 0 b)) (i 0) (i 1)) ∧
      (r.2.mem ((c.tc : Thread nD τ).loc main_v120) = fun i : S8x1024.Idx =>
        _root_.Cert.FfnHand.Acc (fun a b => m ((c.tc : Thread nD τ).loc main_arg0) (ix2 a b)) (fun a b => m ((c.tc : Thread nD τ).loc main_arg1) (ix2 a b)) (fun a b => m ((c.tc : Thread nD τ).loc main_arg2) (ix2 a b)) (fun a b => m ((c.tc : Thread nD τ).loc main_arg3) (ix2 a b)) (fun b => m ((c.tc : Thread nD τ).loc main_arg4) (ix2 0 b)) (fun b => m ((c.tc : Thread nD τ).loc main_arg5) (ix2 0 b)) (fun b => m ((c.tc : Thread nD τ).loc main_arg6) (ix2 0 b)) (fun b => m ((c.tc : Thread nD τ).loc main_arg7) (ix2 0 b)) (fun b => m ((c.tc : Thread nD τ).loc main_arg8) (ix2 0 b)) (i 0) (i 1)) :=
  (θ_run defs _ _).mono (fun r h c => by
    obtain ⟨h1, h2, h3, h4, h5, h6, -⟩ := h c
    refine ⟨h1.trans ?_, h2.trans ?_, h3.trans ?_, h4.trans ?_, h5.trans ?_, h6.trans ?_⟩
    · refine (val_main_v121_eq _).trans ?_
      funext i
      rw [eq_ix2 i]
      exact v121 ..
    · refine (val_main_v122_eq _).trans ?_
      funext i
      rw [eq_ix2 i]
      exact v20 ..
    · refine (val_main_v123_eq _).trans ?_
      funext i
      rw [eq_ix2 i]
      exact v86 ..
    · refine (val_main_v124_eq _).trans ?_
      funext i
      rw [eq_ix2 i]
      exact v26 ..
    · refine (val_main_v125_eq _).trans ?_
      funext i
      rw [eq_ix2 i]
      exact v90 ..
    · refine (val_main_v120_eq _).trans ?_
      funext i
      rw [eq_ix2 i]
      exact v120 ..
    ) (Cert.FfnRefIdeal.Value.run (F := Ideal) m ρ)

end Cert.FfnRefIdeal.Hand
end
-- ==== Proof.MixRow.lean ====
module

public import Idealize.ShloMosaic.Lib.Pipeline.ValueKit
public import Idealize.ShloMosaic.Lib.Claim

@[expose] public section

set_option maxRecDepth 16384

noncomputable section

open Idealize.ShloMosaic

namespace Cert.MixHand

/-! The mixing step's backward pass, row by row, over arrays whose rows are numbered by any type. -/

/-- Column `k` of head `h`. -/
def col (h : Fin 8) (k : Fin 128) : Fin 1024 := ⟨h.val * 128 + k.val, by omega⟩
/-- The head a column belongs to. -/
def hd (j : Fin 1024) : Fin 8 := ⟨j.val / 128, by omega⟩
/-- A column's place inside its head. -/
def pl (j : Fin 1024) : Fin 128 := ⟨j.val % 128, by omega⟩

theorem col_hd_pl (j : Fin 1024) : col (hd j) (pl j) = j := by
  apply Fin.ext; show j.val / 128 * 128 + j.val % 128 = j.val; omega
theorem hd_col (h : Fin 8) (k : Fin 128) : hd (col h k) = h := by
  apply Fin.ext; show (h.val * 128 + k.val) / 128 = h.val; omega
theorem pl_col (h : Fin 8) (k : Fin 128) : pl (col h k) = k := by
  apply Fin.ext; show (h.val * 128 + k.val) % 128 = k.val; omega

theorem col_mk (j : Fin 1024) (h : j.val / 128 < 8) (h' : j.val % 128 < 128) : col ⟨j.val / 128, h⟩ ⟨j.val % 128, h'⟩ = j :=
  col_hd_pl j

theorem col_zero (k : Fin 128) : col 0 k = ⟨k.val, by omega⟩ := Fin.ext (by show 0 * 128 + k.val = k.val; omega)

/-- Eight heads side by side. -/
theorem heads8 (F : Fin 1024 → EReal) (j : Fin 1024) :
    (if h0 : j.val < 128 then F (col 0 ⟨j.val, h0⟩) else
      if h1 : j.val - 128 < 128 then F (col 1 ⟨j.val - 128, h1⟩) else
      if h2 : j.val - 128 - 128 < 128 then F (col 2 ⟨j.val - 128 - 128, h2⟩) else
      if h3 : j.val - 128 - 128 - 128 < 128 then F (col 3 ⟨j.val - 128 - 128 - 128, h3⟩) else
      if h4 : j.val - 128 - 128 - 128 - 128 < 128 then F (col 4 ⟨j.val - 128 - 128 - 128 - 128, h4⟩) else
      if h5 : j.val - 128 - 128 - 128 - 128 - 128 < 128 then F (col 5 ⟨j.val - 128 - 128 - 128 - 128 - 128, h5⟩) else
      if h6 : j.val - 128 - 128 - 128 - 128 - 128 - 128 < 128 then F (col 6 ⟨j.val - 128 - 128 - 128 - 128 - 128 - 128, h6⟩) else
      F (col 7 ⟨j.val - 128 - 128 - 128 - 128 - 128 - 128 - 128, by omega⟩)) = F j := by
  split_ifs <;> exact congrArg F (Fin.ext (by simp only [col, Fin.val_zero, Fin.val_one, Fin.reduceFinMk, Fin.isValue]; omega))

/-- What the step reads, by rows: the queries, the inner result, the state each row meets, the convolution branch, the three
    gates, the cotangent; and the weights. -/
structure Rows (R : Type) where
  qe : R → Fin 1024 → EReal
  inner : R → Fin 1024 → EReal
  st : R → Fin 128 → Fin 1024 → EReal
  act : R → Fin 1024 → EReal
  og : R → Fin 1024 → EReal
  ga : R → Fin 1024 → EReal
  gb : R → Fin 1024 → EReal
  dx : R → Fin 1024 → EReal
  wa : Fin 1024 → Fin 1024 → EReal
  wb : Fin 1024 → Fin 1024 → EReal
  wo : Fin 1024 → Fin 1024 → EReal
  hg : Fin 1024 → EReal
  g1 : Fin 1024 → EReal
  post : Fin 1024 → EReal

/-- Some of the rows. -/
def Rows.take {R S : Type} (X : Rows R) (f : S → R) : Rows S :=
  ⟨fun r => X.qe (f r), fun r => X.inner (f r), fun r => X.st (f r), fun r => X.act (f r), fun r => X.og (f r),
   fun r => X.ga (f r), fun r => X.gb (f r), fun r => X.dx (f r), X.wa, X.wb, X.wo, X.hg, X.g1, X.post⟩

def eps : EReal := Ideal.ofBits .f32 897988541#32
def sg (x : EReal) : EReal := Ideal.div 1 (1 + Ideal.exp (-x))
def dsg (x : EReal) : EReal := sg x * (1 - sg x)

variable {R : Type} (X : Rows R) (r : R)

/-- The recurrence's result. -/
def O (j : Fin 1024) : EReal := (∑ k : Fin 128, X.qe r (col (hd j) k) * X.st r (pl j) (col (hd j) k)) + X.inner r j
def ovar (h : Fin 8) : EReal := Ideal.div (∑ v : Fin 128, O X r (col h v) * O X r (col h v)) (Ideal.ofBits .f32 1124073472#32) + eps
def ors (h : Fin 8) : EReal := Ideal.rsqrt (ovar X r h)
def xh (j : Fin 1024) : EReal := O X r j * ors X r (hd j)
def silu (j : Fin 1024) : EReal := X.og r j * sg (X.og r j)
def A (j : Fin 1024) : EReal := xh X r j * X.hg j * silu X r j
def Ya (c : Fin 1024) : EReal := ∑ j, A X r j * X.wa j c
def Yb (c : Fin 1024) : EReal := ∑ j, X.act r j * X.wb j c
def Mg (j : Fin 1024) : EReal := sg (X.ga r j) * Ya X r j + sg (X.gb r j) * Yb X r j
def Y (c : Fin 1024) : EReal := ∑ j, Mg X r j * X.wo j c
def yvar : EReal := Ideal.div (∑ j, Y X r j * Y X r j) (Ideal.ofBits .f32 1149239296#32) + eps
def yrs : EReal := Ideal.rsqrt (yvar X r)
def yh (j : Fin 1024) : EReal := Y X r j * yrs X r
def gd (j : Fin 1024) : EReal := X.g1 j * X.dx r j
def ycorr : EReal := ∑ _k : Fin 1,
  Ideal.div ((∑ j, Y X r j * (gd X r j * X.post j)) * (Ideal.ofBits .f32 3204448256#32 * Ideal.div (yrs X r) (yvar X r))) (Ideal.ofBits .f32 1149239296#32)
def dY (j : Fin 1024) : EReal := gd X r j * X.post j * yrs X r + Y X r j * ycorr X r + ycorr X r * Y X r j
def dM (j : Fin 1024) : EReal := ∑ c, dY X r c * X.wo j c
def dYa (j : Fin 1024) : EReal := sg (X.ga r j) * dM X r j
def dYb (j : Fin 1024) : EReal := sg (X.gb r j) * dM X r j
def dGa (j : Fin 1024) : EReal := dM X r j * Ya X r j * dsg (X.ga r j)
def dGb (j : Fin 1024) : EReal := dM X r j * Yb X r j * dsg (X.gb r j)
def dAct (j : Fin 1024) : EReal := ∑ c, dYb X r c * X.wb j c
def dA (j : Fin 1024) : EReal := ∑ c, dYa X r c * X.wa j c
def dOg (j : Fin 1024) : EReal :=
  xh X r j * X.hg j * dA X r j * sg (X.og r j) + X.og r j * (xh X r j * X.hg j * dA X r j) * dsg (X.og r j)
def w (j : Fin 1024) : EReal := dA X r j * silu X r j
def q (j : Fin 1024) : EReal := w X r j * X.hg j
def ocorr (h : Fin 8) : EReal := ∑ _k : Fin 1,
  Ideal.div ((∑ v : Fin 128, O X r (col h v) * q X r (col h v)) * (Ideal.ofBits .f32 3204448256#32 * Ideal.div (ors X r h) (ovar X r h))) (Ideal.ofBits .f32 1124073472#32)
def dO (j : Fin 1024) : EReal := q X r j * ors X r (hd j) + O X r j * ocorr X r (hd j) + ocorr X r (hd j) * O X r j
def dQe (j : Fin 1024) : EReal := ∑ v : Fin 128, dO X r (col (hd j) v) * X.st r v j

/-- The terms a row adds to the eight rows of column sums. -/
def term (a : Fin 8) (j : Fin 1024) : EReal :=
  match a with
  | 0 => X.dx r j * (yh X r j * X.post j)
  | 1 => yh X r j * gd X r j
  | 2 => xh X r j * w X r j
  | 3 => dOg X r j
  | 4 => dGa X r j
  | 5 => dGb X r j
  | 6 => 0
  | 7 => 0

/-- The three projection gradients side by side. -/
def dP (c : Fin 3072) : EReal :=
  if h : c.val < 1024 then dOg X r ⟨c.val, h⟩
  else if h' : c.val - 1024 < 1024 then dGa X r ⟨c.val - 1024, h'⟩ else dGb X r ⟨c.val - 1024 - 1024, by omega⟩

/-- The eight rows of column sums. -/
def acc {R : Type} [Fintype R] (X : Rows R) (a : Fin 8) (j : Fin 1024) : EReal := ∑ r, term X r a j

/-- Row `i` of chunk `n`. -/
def chunkRow (n : Fin 32) (i : Fin 128) : Fin 4096 := ⟨n.val * 128 + i.val, by omega⟩

/-- The chunk of a row. -/
def ch (r : Fin 4096) : Fin 32 := ⟨r.val / 128, by omega⟩
/-- A row's place inside its chunk. -/
def inCh (r : Fin 4096) : Fin 128 := ⟨r.val % 128, by omega⟩

theorem ch_row (n : Fin 32) (i : Fin 128) : ch (chunkRow n i) = n := by
  apply Fin.ext; show (n.val * 128 + i.val) / 128 = n.val; omega
theorem inCh_row (n : Fin 32) (i : Fin 128) : inCh (chunkRow n i) = i := by
  apply Fin.ext; show (n.val * 128 + i.val) % 128 = i.val; omega
theorem row_ch_inCh (r : Fin 4096) : chunkRow (ch r) (inCh r) = r := by
  apply Fin.ext; show r.val / 128 * 128 + r.val % 128 = r.val; omega

/-- What a chunk adds to the gradient of the state before it. -/
def Vt (X : Rows (Fin 4096)) (n : Fin 32) (v : Fin 128) (j : Fin 1024) : EReal :=
  ∑ i : Fin 128, dO X (chunkRow n i) (col (hd j) v) * X.qe (chunkRow n i) j

/-- The gradient of the state after `k` chunks from the end. -/
def G (X : Rows (Fin 4096)) (dec : Fin 32 → Fin 1024 → EReal) : ℕ → Fin 128 → Fin 1024 → EReal
  | 0, _, _ => 0
  | k + 1, v, j =>
      if h : k < 32 then dec ⟨31 - k, by omega⟩ j * G X dec k v j + Vt X ⟨31 - k, by omega⟩ v j else 0

theorem G_step {X : Rows (Fin 4096)} {dec : Fin 32 → Fin 1024 → EReal} {k : ℕ} {n : Fin 32} (h : n.val + k = 31)
    (v : Fin 128) (j : Fin 1024) : Vt X n v j + dec n j * G X dec k v j = G X dec (k + 1) v j := by
  have e : (⟨31 - k, by omega⟩ : Fin 32) = n := Fin.ext (by show 31 - k = n.val; omega)
  rw [G, dif_pos (by omega), e, add_comm]

theorem G_step_zero {X : Rows (Fin 4096)} {dec : Fin 32 → Fin 1024 → EReal} {n : Fin 32} (h : n.val = 31)
    (v : Fin 128) (j : Fin 1024) : Vt X n v j = G X dec 1 v j := by
  rw [← G_step (k := 0) (n := n) (by omega), G, mul_zero, add_zero]

end Cert.MixHand

end
-- ==== Proof.MixStage.lean ====
module

public import proofs.«01_k».proof.Proof.MixRow
public import proofs.«01_k».proof.Proof.Gen.MixIdeal.Skeleton
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.MixHand

namespace Cert.MixIdeal.Hand

open Cert.MixIdeal Cert.MixIdeal.Gen

/-- The blocks one tile reads. -/
structure Blocks where
  qe : FVec Ideal S256x1024 .bf16
  s0 : FVec Ideal S1x128x1024 .f32
  s1 : FVec Ideal S1x128x1024 .f32
  inner : FVec Ideal S256x1024 .f32
  act : FVec Ideal S256x1024 .bf16
  og : FVec Ideal S256x1024 .f32
  ga : FVec Ideal S256x1024 .f32
  gb : FVec Ideal S256x1024 .f32
  dx : FVec Ideal S256x1024 .f32
  wa : FVec Ideal S1024x1024 .bf16
  wb : FVec Ideal S1024x1024 .bf16
  wo : FVec Ideal S1024x1024 .bf16
  hg : FVec Ideal S1x1024 .f32
  g1 : FVec Ideal S1x1024 .f32
  post : FVec Ideal S1x1024 .f32

/-- The rows of the tile. -/
def Blocks.rows (b : Blocks) : Rows (Fin 256) where
  qe r j := b.qe (ix2 r j)
  inner r j := b.inner (ix2 r j)
  st r v j := if r.val < 128 then b.s0 (ix3 0 v j) else b.s1 (ix3 0 v j)
  act r j := b.act (ix2 r j)
  og r j := b.og (ix2 r j)
  ga r j := b.ga (ix2 r j)
  gb r j := b.gb (ix2 r j)
  dx r j := b.dx (ix2 r j)
  wa k c := b.wa (ix2 k c)
  wb k c := b.wb (ix2 k c)
  wo k c := b.wo (ix2 k c)
  hg j := b.hg (ix2 0 j)
  g1 j := b.g1 (ix2 0 j)
  post j := b.post (ix2 0 j)

variable (b : Blocks)

/-! The values of one tile's computation, each under its number in the kernel's text. -/

def v4 : FVec Ideal S256x1024 .bf16 := k0_pay4 (F := Ideal) b.qe
def v32 : FVec Ideal S128x1024 .f32 := k0_pay5 (F := Ideal) b.qe b.s0
def v35 : FVec Ideal S128x1024 .bf16 := k0_pay6 (F := Ideal) b.s1
def v38 : FVec Ideal S128x128 .f32 := k0_pay7 (F := Ideal) b.qe b.s1
def v64 : FVec Ideal S256x1024 .f32 := k0_pay8 (F := Ideal) (v4 b) (v32 b) (v35 b) (v38 b) b.inner
def v77 : FVec Ideal S256x128 .f32 := k0_pay9 (F := Ideal) (v4 b) (v32 b) (v35 b) (v38 b) b.inner
def v78 : FVec Ideal S256x128 .f32 := k0_pay10 (F := Ideal) (v4 b) (v32 b) (v35 b) (v38 b) b.inner
def v81 : FVec Ideal S256x1 .f32 := k0_pay11 (F := Ideal) (v4 b) (v32 b) (v35 b) (v38 b) b.inner
def v88 : FVec Ideal S256x128 .f32 := k0_pay12 (F := Ideal) (v78 b) (v81 b)
def v99 : FVec Ideal S256x128 .f32 := k0_pay13 (F := Ideal) (v64 b)
def v110 : FVec Ideal S256x128 .f32 := k0_pay14 (F := Ideal) (v64 b)
def v121 : FVec Ideal S256x128 .f32 := k0_pay15 (F := Ideal) (v64 b)
def v122 : FVec Ideal S256x128 .f32 := k0_pay16 (F := Ideal) (v64 b)
def v127 : FVec Ideal S256x1 .f32 := k0_pay17 (F := Ideal) (v64 b)
def v160 : FVec Ideal S256x1024 .f32 := k0_pay18 (F := Ideal) (v64 b) b.og b.hg (v77 b) (v88 b) (v99 b) (v110 b) (v121 b) (v122
  b) (v127 b) (Ideal.ofBits .f32 0x358637BD#32)
def v164 : FVec Ideal S256x1024 .f32 := k0_pay19 (F := Ideal) (v64 b) b.og b.hg (v77 b) (v88 b) (v99 b) (v110 b) (v121 b) (v122
  b) (v127 b) (Ideal.ofBits .f32 0x358637BD#32) b.wa
def v169 : FVec Ideal S256x1024 .f32 := k0_pay20 (F := Ideal) b.act b.wb
def v176 : FVec Ideal S256x1024 .f32 := k0_pay21 (F := Ideal) (v164 b) (v169 b) b.ga b.gb
def v180 : FVec Ideal S256x1024 .f32 := k0_pay22 (F := Ideal) (v164 b) (v169 b) b.ga b.gb b.wo
def v181 : FVec Ideal S256x1024 .bf16 := k0_pay23 (F := Ideal) (v160 b)
def v183 : FVec Ideal S256x1024 .bf16 := k0_pay24 (F := Ideal) (v164 b) (v169 b) b.ga b.gb
def v193 : FVec Ideal S256x1 .f32 := k0_pay25 (F := Ideal) (v164 b) (v169 b) b.ga b.gb b.wo
def v194 : FVec Ideal S256x1 .f32 := k0_pay26 (F := Ideal) (v164 b) (v169 b) b.ga b.gb b.wo
def v197 : FVec Ideal S256x1 .f32 := k0_pay27 (F := Ideal) (v164 b) (v169 b) b.ga b.gb b.wo
def v199 : FVec Ideal S256x1024 .f32 := k0_pay28 (F := Ideal) (v164 b) (v169 b) b.ga b.gb b.wo
def v203 : FVec Ideal S256x1024 .f32 := k0_pay29 (F := Ideal) b.dx
def v205 : FVec Ideal S256x1024 .f32 := k0_pay30 (F := Ideal) b.g1 b.dx
def v208 : FVec Ideal S1x1024 .f32 := k0_pay31 (F := Ideal) (v164 b) (v169 b) b.ga b.gb b.wo b.post b.dx
def v209 : FVec Ideal S256x1024 .f32 := k0_pay32 (F := Ideal) (v164 b) (v169 b) b.ga b.gb b.wo b.g1 b.dx
def v211 : FVec Ideal S1x1024 .f32 := k0_pay33 (F := Ideal) (v209 b)
def v229 : FVec Ideal S256x1024 .bf16 := k0_pay34 (F := Ideal) (v180 b) b.post (v194 b) (v197 b) (v205 b)
def v233 : FVec Ideal S256x1024 .f32 := k0_pay35 (F := Ideal) (v180 b) b.post (v194 b) (v197 b) (v205 b) b.wo
def v236 : FVec Ideal S256x1024 .f32 := k0_pay36 (F := Ideal) b.ga
def v240 : FVec Ideal S256x1024 .f32 := k0_pay37 (F := Ideal) b.gb
def v244 : FVec Ideal S256x1024 .f32 := k0_pay38 (F := Ideal) (v180 b) b.post (v194 b) (v197 b) (v205 b) b.wo b.gb
def v246 : FVec Ideal S256x1024 .f32 := k0_pay39 (F := Ideal) (v169 b) (v180 b) b.post (v194 b) (v197 b) (v205 b) b.wo b.gb
def v247 : FVec Ideal S256x1024 .f32 := k0_pay40 (F := Ideal) (v180 b) b.post (v194 b) (v197 b) (v205 b) b.wo b.ga
def v249 : FVec Ideal S256x1024 .f32 := k0_pay41 (F := Ideal) (v164 b) (v180 b) b.post (v194 b) (v197 b) (v205 b) b.wo b.ga
def v250 : FVec Ideal S256x1024 .bf16 := k0_pay42 (F := Ideal) (v164 b) (v180 b) b.post (v194 b) (v197 b) (v205 b) b.wo b.ga
def v252 : FVec Ideal S256x1024 .bf16 := k0_pay43 (F := Ideal) (v246 b)
def v254 : FVec Ideal S256x1024 .bf16 := k0_pay44 (F := Ideal) (v247 b)
def v255 : FVec Ideal S256x1024 .bf16 := k0_pay45 (F := Ideal) (v244 b)
def v260 : FVec Ideal S256x1024 .f32 := k0_pay46 (F := Ideal) (v247 b) b.wa
def v263 : FVec Ideal S256x1024 .f32 := k0_pay47 (F := Ideal) (v244 b) b.wb
def v267 : FVec Ideal S256x128 .f32 := k0_pay48 (F := Ideal) (v64 b)
def v274 : FVec Ideal S256x1 .f32 := k0_pay49 (F := Ideal) (v64 b)
def v275 : FVec Ideal S256x1 .f32 := k0_pay50 (F := Ideal) (v64 b)
def v278 : FVec Ideal S256x1 .f32 := k0_pay51 (F := Ideal) (v64 b)
def v280 : FVec Ideal S256x128 .f32 := k0_pay52 (F := Ideal) (v64 b)
def v281 : FVec Ideal S256x128 .f32 := k0_pay53 (F := Ideal) (v64 b)
def v283 : FVec Ideal S256 .f32 := k0_pay54 (F := Ideal) (v64 b)
def v288 : FVec Ideal S256x1 .f32 := k0_pay55 (F := Ideal) (v283 b)
def v289 : FVec Ideal S256x1 .f32 := k0_pay56 (F := Ideal) (v283 b)
def v292 : FVec Ideal S256x1 .f32 := k0_pay57 (F := Ideal) (v283 b)
def v294 : FVec Ideal S256x128 .f32 := k0_pay58 (F := Ideal) (v281 b) (v283 b)
def v295 : FVec Ideal S256x128 .f32 := k0_pay59 (F := Ideal) (v64 b)
def v302 : FVec Ideal S256x1 .f32 := k0_pay60 (F := Ideal) (v64 b)
def v303 : FVec Ideal S256x1 .f32 := k0_pay61 (F := Ideal) (v64 b)
def v306 : FVec Ideal S256x1 .f32 := k0_pay62 (F := Ideal) (v64 b)
def v308 : FVec Ideal S256x128 .f32 := k0_pay63 (F := Ideal) (v64 b)
def v309 : FVec Ideal S256x128 .f32 := k0_pay64 (F := Ideal) (v64 b)
def v316 : FVec Ideal S256x1 .f32 := k0_pay65 (F := Ideal) (v64 b)
def v317 : FVec Ideal S256x1 .f32 := k0_pay66 (F := Ideal) (v64 b)
def v320 : FVec Ideal S256x1 .f32 := k0_pay67 (F := Ideal) (v64 b)
def v322 : FVec Ideal S256x128 .f32 := k0_pay68 (F := Ideal) (v64 b)
def v323 : FVec Ideal S256x128 .f32 := k0_pay69 (F := Ideal) (v64 b)
def v328 : FVec Ideal S256x1 .f32 := k0_pay70 (F := Ideal) (v64 b)
def v329 : FVec Ideal S256x1 .f32 := k0_pay71 (F := Ideal)
def v330 : FVec Ideal S256x1 .f32 := k0_pay72 (F := Ideal) (v328 b) v329
def v331 : FVec Ideal S256x1 .f32 := k0_pay73 (F := Ideal) (v328 b) v329
def v334 : FVec Ideal S256x1 .f32 := k0_pay74 (F := Ideal) (v328 b) v329
def v336 : FVec Ideal S256x128 .f32 := k0_pay75 (F := Ideal) (v323 b) (v328 b) v329
def v337 : FVec Ideal S256x128 .f32 := k0_pay76 (F := Ideal) (v64 b)
def v344 : FVec Ideal S256x1 .f32 := k0_pay77 (F := Ideal) (v64 b)
def v345 : FVec Ideal S256x1 .f32 := k0_pay78 (F := Ideal) (v64 b)
def v348 : FVec Ideal S256x1 .f32 := k0_pay79 (F := Ideal) (v64 b)
def v350 : FVec Ideal S256x128 .f32 := k0_pay80 (F := Ideal) (v64 b)
def v351 : FVec Ideal S256x128 .f32 := k0_pay81 (F := Ideal) (v64 b)
def v358 : FVec Ideal S256x1 .f32 := k0_pay82 (F := Ideal) (v64 b)
def v359 : FVec Ideal S256x1 .f32 := k0_pay83 (F := Ideal) (v64 b)
def v362 : FVec Ideal S256x1 .f32 := k0_pay84 (F := Ideal) (v64 b)
def v364 : FVec Ideal S256x128 .f32 := k0_pay85 (F := Ideal) (v64 b)
def v365 : FVec Ideal S256x128 .f32 := k0_pay86 (F := Ideal) (v64 b)
def v372 : FVec Ideal S256x1 .f32 := k0_pay87 (F := Ideal) (v64 b)
def v373 : FVec Ideal S256x1 .f32 := k0_pay88 (F := Ideal) (v64 b)
def v376 : FVec Ideal S256x1 .f32 := k0_pay89 (F := Ideal) (v64 b)
def v379 : FVec Ideal S256x1024 .f32 := k0_pay90 (F := Ideal) (v280 b) (v294 b) (v308 b) (v322 b) (v336 b) (v350 b) (v364 b)
  (v365 b) (v373 b)
def v382 : FVec Ideal S256x1024 .f32 := k0_pay91 (F := Ideal) b.og
def v388 : FVec Ideal S256x1024 .f32 := k0_pay92 (F := Ideal) (v260 b) b.og
def v392 : FVec Ideal S256x1024 .f32 := k0_pay93 (F := Ideal) (v260 b) b.og b.hg (v280 b) (v294 b) (v308 b) (v322 b) (v336 b)
  (v350 b) (v364 b) (v365 b) (v373 b)
def v395 : FVec Ideal S1x1024 .f32 := k0_pay94 (F := Ideal) (v260 b) b.og (v280 b) (v294 b) (v308 b) (v322 b) (v336 b) (v350 b)
  (v364 b) (v365 b) (v373 b)
def v397 : FVec Ideal S256x1024 .f32 := k0_pay95 (F := Ideal) (v260 b) b.og b.hg
def v398 : FVec Ideal S256x128 .f32 := k0_pay96 (F := Ideal) (v260 b) b.og b.hg
def v399 : FVec Ideal S256x128 .f32 := k0_pay97 (F := Ideal) (v260 b) b.og b.hg
def v400 : FVec Ideal S256x128 .f32 := k0_pay98 (F := Ideal) (v260 b) b.og b.hg
def v401 : FVec Ideal S256x128 .f32 := k0_pay99 (F := Ideal) (v260 b) b.og b.hg
def v402 : FVec Ideal S256x128 .f32 := k0_pay100 (F := Ideal) (v260 b) b.og b.hg
def v403 : FVec Ideal S256x128 .f32 := k0_pay101 (F := Ideal) (v260 b) b.og b.hg
def v404 : FVec Ideal S256x128 .f32 := k0_pay102 (F := Ideal) (v260 b) b.og b.hg
def v422 : FVec Ideal S256x1024 .f32 := k0_pay103 (F := Ideal) (v260 b) b.og b.hg (v365 b) (v373 b) (v376 b)
def v427 : FVec Ideal S256x128 .f32 := k0_pay104 (F := Ideal) (v260 b) b.og b.hg (v359 b)
def v428 : FVec Ideal S256x1 .f32 := k0_pay105 (F := Ideal) (v260 b) b.og b.hg (v351 b) (v362 b)
def v462 : FVec Ideal S256x1024 .f32 := k0_pay106 (F := Ideal) (v337 b) (v345 b) (v348 b) (v351 b) (v403 b) (v422 b) (v427 b)
  (v428 b) (Ideal.ofBits .f32 0x43000000#32)
def v477 : FVec Ideal S256x128 .f32 := k0_pay107 (F := Ideal) (v323 b) (v331 b) (v334 b) (v402 b)
def v478 : FVec Ideal S256x512 .f32 := k0_pay108 (F := Ideal)
def v522 : FVec Ideal S256x1024 .f32 := k0_pay109 (F := Ideal) (v295 b) (v303 b) (v306 b) (v309 b) (v317 b) (v320 b) (v400 b)
  (v401 b) (v462 b) (v477 b) (Ideal.ofBits .f32 0x00000000#32) v478
def v527 : FVec Ideal S256x128 .f32 := k0_pay110 (F := Ideal) (v289 b) (v399 b)
def v528 : FVec Ideal S256x1 .f32 := k0_pay111 (F := Ideal) (v281 b) (v292 b) (v399 b)
def v560 : FVec Ideal S256x1024 .f32 := k0_pay112 (F := Ideal) (v267 b) (v275 b) (v278 b) (v281 b) (v398 b) (v522 b) (v527 b)
  (v528 b) (Ideal.ofBits .f32 0x43000000#32)
def v561 : FVec Ideal S256x1024 .bf16 := k0_pay113 (F := Ideal) (v392 b)
def v564 : FVec Ideal S256x1024 .bf16 := k0_pay114 (F := Ideal) (v267 b) (v275 b) (v278 b) (v281 b) (v398 b) (v522 b) (v527 b)
  (v528 b) (Ideal.ofBits .f32 0x43000000#32)
def v566 : FVec Ideal S256x1024 .bf16 := k0_pay115 (F := Ideal) b.qe
def v569 : FVec Ideal S128x1024 .bf16 := k0_pay116 (F := Ideal) b.s1
def v570 : FVec Ideal S128x128 .bf16 := k0_pay117 (F := Ideal) (v267 b) (v275 b) (v278 b) (v281 b) (v398 b) (v522 b) (v527 b)
  (v528 b) (Ideal.ofBits .f32 0x43000000#32)
def v571 : FVec Ideal S128x128 .bf16 := k0_pay118 (F := Ideal) b.s1
def v572 : FVec Ideal S128x128 .f32 := k0_pay119 (F := Ideal) (v570 b) (v571 b)
def v575 : FVec Ideal S128x128 .f32 := k0_pay120 (F := Ideal) (v564 b) (v566 b)
def v578 : FVec Ideal S128x128 .f32 := k0_pay121 (F := Ideal) (v564 b) (v569 b)
def v581 : FVec Ideal S128x128 .f32 := k0_pay122 (F := Ideal) (v564 b) (v566 b)
def v584 : FVec Ideal S128x128 .f32 := k0_pay123 (F := Ideal) (v564 b) (v569 b)
def v587 : FVec Ideal S128x128 .f32 := k0_pay124 (F := Ideal) (v564 b) (v566 b)
def v590 : FVec Ideal S128x128 .f32 := k0_pay125 (F := Ideal) (v564 b) (v569 b)
def v593 : FVec Ideal S128x128 .f32 := k0_pay126 (F := Ideal) (v564 b) (v566 b)
def v596 : FVec Ideal S128x128 .f32 := k0_pay127 (F := Ideal) (v564 b) (v569 b)
def v599 : FVec Ideal S128x128 .f32 := k0_pay128 (F := Ideal) (v564 b) (v566 b)
def v602 : FVec Ideal S128x128 .f32 := k0_pay129 (F := Ideal) (v564 b) (v569 b)
def v605 : FVec Ideal S128x128 .f32 := k0_pay130 (F := Ideal) (v564 b) (v566 b)
def v608 : FVec Ideal S128x128 .f32 := k0_pay131 (F := Ideal) (v564 b) (v569 b)
def v611 : FVec Ideal S128x128 .f32 := k0_pay132 (F := Ideal) (v564 b) (v566 b)
def v614 : FVec Ideal S128x128 .f32 := k0_pay133 (F := Ideal) (v564 b) (v569 b)
def v615 : FVec Ideal S128x128 .bf16 := k0_pay134 (F := Ideal) (v564 b)
def v616 : FVec Ideal S128x128 .bf16 := k0_pay135 (F := Ideal) (v566 b)
def v618 : FVec Ideal S128x1024 .f32 := k0_pay136 (F := Ideal) (v572 b) (v578 b) (v584 b) (v590 b) (v596 b) (v602 b) (v608 b)
  (v614 b)
def v635 : FVec Ideal S128x1024 .bf16 := k0_pay139 (F := Ideal) b.s0
def v638 : FVec Ideal S128x128 .f32 := k0_pay140 (F := Ideal) (v564 b) b.s0
def v641 : FVec Ideal S128x128 .f32 := k0_pay141 (F := Ideal) (v564 b) (v566 b)
def v644 : FVec Ideal S128x128 .f32 := k0_pay142 (F := Ideal) (v564 b) b.s0
def v647 : FVec Ideal S128x128 .f32 := k0_pay143 (F := Ideal) (v564 b) (v566 b)
def v650 : FVec Ideal S128x128 .f32 := k0_pay144 (F := Ideal) (v564 b) b.s0
def v651 : FVec Ideal S128x128 .bf16 := k0_pay145 (F := Ideal) (v564 b)
def v652 : FVec Ideal S128x128 .bf16 := k0_pay146 (F := Ideal) (v566 b)
def v653 : FVec Ideal S128x128 .f32 := k0_pay147 (F := Ideal) (v651 b) (v652 b)
def v659 : FVec Ideal S128x128 .f32 := k0_pay148 (F := Ideal) (v564 b) (v566 b)
def v665 : FVec Ideal S128x128 .f32 := k0_pay149 (F := Ideal) (v564 b) (v566 b)
def v671 : FVec Ideal S128x128 .f32 := k0_pay150 (F := Ideal) (v564 b) (v566 b)
def v677 : FVec Ideal S128x128 .f32 := k0_pay151 (F := Ideal) (v564 b) (v566 b)
def v683 : FVec Ideal S128x128 .f32 := k0_pay152 (F := Ideal) (v564 b) (v566 b)
def v684 : FVec Ideal S128x1024 .f32 := k0_pay153 (F := Ideal) (v564 b) (v635 b) (v638 b) (v644 b) (v650 b)

/-- The carried gradient after the tile's second chunk, from the one before it. -/
def next1 (g : FVec Ideal S128x1024 .f32) (dec : FVec Ideal S1x1x1024 .f32) : FVec Ideal S128x1024 .f32 :=
  k0_pay138 (F := Ideal) (v575 b) (v581 b) (v587 b) (v593 b) (v599 b) (v605 b) (v611 b) (v615 b) (v616 b) g dec

/-- The carried gradient after the tile's first chunk, from the one before it. -/
def next0 (g : FVec Ideal S128x1024 .f32) (dec : FVec Ideal S1x1x1024 .f32) : FVec Ideal S128x1024 .f32 :=
  k0_pay155 (F := Ideal) (v641 b) (v647 b) (v653 b) (v659 b) (v665 b) (v671 b) (v677 b) (v683 b) g dec

end Cert.MixIdeal.Hand

end
-- ==== Proof.MixBlock.lean ====
module

public import proofs.«01_k».proof.Proof.MixStage

@[expose] public section

set_option maxRecDepth 16384
set_option maxHeartbeats 2000000

noncomputable section

open Idealize.ShloMosaic Idealize.ShloMosaic.TcCoe Idealize.SL.Sem
open Cert.MixHand

namespace Cert.MixIdeal.Hand

open Cert.MixIdeal Cert.MixIdeal.Gen

variable (b : Blocks)

/-! What the stages of one tile compute, up to the gradient at the recurrence's result. -/

theorem second_half (r : Fin 256) (h : ¬ r.val < 128) (h' : 128 + (r.val - 128) < 256) :
    (⟨128 + (r.val - 128), h'⟩ : Fin 256) = r := Fin.ext (by show 128 + (r.val - 128) = r.val; omega)

theorem v64_apply (r : Fin 256) (j : Fin 1024) : v64 b (ix2 r j) = O b.rows r j := by
  have e : O b.rows r j = (if r.val < 128 then ∑ k : Fin 128, b.qe (ix2 r (col (hd j) k)) * b.s0 (ix3 0 (pl j) (col (hd j) k))
      else ∑ k : Fin 128, b.qe (ix2 r (col (hd j) k)) * b.s1 (ix3 0 (pl j) (col (hd j) k))) + b.inner (ix2 r j) := by
    unfold O
    split_ifs with h
    all_goals
      refine congrArg (· + _) (Finset.sum_congr rfl fun k _ => ?_)
      show _ * (if r.val < 128 then _ else _) = _
    · rw [if_pos h]; rfl
    · rw [if_neg h]; rfl
  rw [e]
  unfold v64 v38 v35 v32 v4
  unfold_payloads
  pointwise
  congr 1
  by_cases h : r.val < 128
  · rw [dif_pos h, if_pos h]
    rw [← heads8 (fun j => ∑ k : Fin 128, b.qe (ix2 r (col (hd j) k)) * b.s0 (ix3 0 (pl j) (col (hd j) k))) j]
    simp only [hd_col, pl_col]
    simp only [col_zero]
    rfl
  · rw [dif_neg h, if_neg h]
    rw [← heads8 (fun j => ∑ k : Fin 128, b.qe (ix2 r (col (hd j) k)) * b.s1 (ix3 0 (pl j) (col (hd j) k))) j]
    simp only [hd_col, pl_col]
    simp only [col_zero, second_half r h]
    rfl

/-- One head's normalised column. -/
theorem head_xh (X : Rows (Fin 256)) (r : Fin 256) (h : Fin 8) (v : Fin 128) :
    O X r (col h v) * Ideal.rsqrt (Ideal.div (∑ x : Fin 128, O X r (col h x) * O X r (col h x)) (Ideal.ofBits .f32 1124073472#32)
      + Ideal.ofBits .f32 897988541#32) = xh X r (col h v) := by
  unfold xh
  rw [hd_col]
  rfl

theorem fold_v64 : k0_pay8 (F := Ideal) (v4 b) (v32 b) (v35 b) (v38 b) b.inner = v64 b := rfl

theorem v160_apply (r : Fin 256) (j : Fin 1024) : v160 b (ix2 r j) = A b.rows r j := by
  unfold v160 v127 v122 v121 v110 v99 v88 v81 v78 v77
  unfold k0_pay18 k0_pay17 k0_pay16 k0_pay15 k0_pay14 k0_pay13 k0_pay12 k0_pay11 k0_pay10 k0_pay9
  simp only [fold_v64]
  change _ = xh b.rows r j * _ * _
  rw [← heads8 (xh b.rows r) j]
  simp only [← head_xh]
  simp only [col_zero]
  pointwise
  simp only [v64_apply]
  rfl

theorem v379_apply (r : Fin 256) (j : Fin 1024) : v379 b (ix2 r j) = xh b.rows r j := by
  unfold v379 v280 v294 v308 v322 v336 v350 v364 v365 v373 v323 v328 v281 v283 v329
  unfold_payloads
  rw [← heads8 (xh b.rows r) j]
  simp only [← head_xh]
  simp only [col_zero]
  pointwise
  simp only [v64_apply]
  rfl

theorem v164_apply (r : Fin 256) (j : Fin 1024) : v164 b (ix2 r j) = Ya b.rows r j := by
  unfold v164 k0_pay19
  pointwise
  change (∑ k, v160 b (ix2 r k) * b.wa (ix2 k j)) = _
  simp only [v160_apply]
  rfl

theorem v169_apply (r : Fin 256) (j : Fin 1024) : v169 b (ix2 r j) = Yb b.rows r j := by
  unfold v169 k0_pay20
  pointwise
  rfl

theorem v176_apply (r : Fin 256) (j : Fin 1024) : v176 b (ix2 r j) = Mg b.rows r j := by
  unfold v176 k0_pay21
  pointwise
  simp only [v164_apply, v169_apply]
  rfl

theorem v180_apply (r : Fin 256) (j : Fin 1024) : v180 b (ix2 r j) = Y b.rows r j := by
  unfold v180 k0_pay22
  pointwise
  change (∑ k, v176 b (ix2 r k) * b.wo (ix2 k j)) = _
  simp only [v176_apply]
  rfl

theorem fold_v180 : k0_pay22 (F := Ideal) (v164 b) (v169 b) b.ga b.gb b.wo = v180 b := rfl
theorem fold_v193 : k0_pay25 (F := Ideal) (v164 b) (v169 b) b.ga b.gb b.wo = v193 b := rfl
theorem fold_v194 : k0_pay26 (F := Ideal) (v164 b) (v169 b) b.ga b.gb b.wo = v194 b := rfl
theorem fold_v199 : k0_pay28 (F := Ideal) (v164 b) (v169 b) b.ga b.gb b.wo = v199 b := rfl
theorem fold_v203 : k0_pay29 (F := Ideal) b.dx = v203 b := rfl
theorem fold_v205 : k0_pay30 (F := Ideal) b.g1 b.dx = v205 b := rfl

theorem v193_apply (r : Fin 256) (z : Fin 1) : v193 b (ix2 r z) = yvar b.rows r := by
  unfold v193 k0_pay25
  simp only [fold_v180]
  pointwise
  simp only [v180_apply]
  rfl

theorem v194_apply (r : Fin 256) (z : Fin 1) : v194 b (ix2 r z) = yrs b.rows r := by
  unfold v194 k0_pay26
  simp only [fold_v193]
  pointwise
  simp only [v193_apply]
  rfl

theorem v197_apply (r : Fin 256) (z : Fin 1) : v197 b (ix2 r z) =
    Ideal.ofBits .f32 3204448256#32 * Ideal.div (yrs b.rows r) (yvar b.rows r) := by
  unfold v197 k0_pay27
  simp only [fold_v193, fold_v194]
  pointwise
  simp only [v193_apply, v194_apply]

theorem v199_apply (r : Fin 256) (j : Fin 1024) : v199 b (ix2 r j) = yh b.rows r j := by
  unfold v199 k0_pay28
  simp only [fold_v180, fold_v194]
  pointwise
  simp only [v180_apply, v194_apply]
  rfl

theorem v203_apply (r : Fin 256) (j : Fin 1024) : v203 b (ix2 r j) = b.rows.dx r j := by
  unfold v203 k0_pay29
  pointwise
  rfl

theorem v205_apply (r : Fin 256) (j : Fin 1024) : v205 b (ix2 r j) = gd b.rows r j := by
  unfold v205 k0_pay30
  simp only [fold_v203]
  pointwise
  simp only [v203_apply]
  rfl

theorem v208_apply (z : Fin 1) (j : Fin 1024) : v208 b (ix2 z j) = ∑ r, term b.rows r 0 j := by
  unfold v208 k0_pay31
  simp only [fold_v203, fold_v199]
  pointwise
  simp only [v203_apply, v199_apply]
  rfl

theorem v209_apply (r : Fin 256) (j : Fin 1024) : v209 b (ix2 r j) = term b.rows r 1 j := by
  unfold v209 k0_pay32
  simp only [fold_v205, fold_v199]
  pointwise
  simp only [v205_apply, v199_apply]
  rfl

theorem v211_apply (z : Fin 1) (j : Fin 1024) : v211 b (ix2 z j) = ∑ r, term b.rows r 1 j := by
  unfold v211 k0_pay33
  pointwise
  simp only [v209_apply]

theorem v229_apply (r : Fin 256) (j : Fin 1024) : v229 b (ix2 r j) = dY b.rows r j := by
  unfold v229 k0_pay34
  pointwise
  simp only [v205_apply, v180_apply, v194_apply, v197_apply]
  rfl

theorem v233_apply (r : Fin 256) (j : Fin 1024) : v233 b (ix2 r j) = dM b.rows r j := by
  unfold v233 k0_pay35
  pointwise
  change (∑ k, v229 b (ix2 r k) * b.wo (ix2 j k)) = _
  simp only [v229_apply]
  rfl

theorem fold_v233 : k0_pay35 (F := Ideal) (v180 b) b.post (v194 b) (v197 b) (v205 b) b.wo = v233 b := rfl

theorem v244_apply (r : Fin 256) (j : Fin 1024) : v244 b (ix2 r j) = dYb b.rows r j := by
  unfold v244 k0_pay38 k0_pay37
  simp only [fold_v233]
  pointwise
  simp only [v233_apply]
  rfl

theorem v246_apply (r : Fin 256) (j : Fin 1024) : v246 b (ix2 r j) = dGb b.rows r j := by
  unfold v246 k0_pay39 k0_pay37
  simp only [fold_v233]
  pointwise
  simp only [v233_apply, v169_apply]
  rfl

theorem v247_apply (r : Fin 256) (j : Fin 1024) : v247 b (ix2 r j) = dYa b.rows r j := by
  unfold v247 k0_pay40 k0_pay36
  simp only [fold_v233]
  pointwise
  simp only [v233_apply]
  rfl

theorem v249_apply (r : Fin 256) (j : Fin 1024) : v249 b (ix2 r j) = dGa b.rows r j := by
  unfold v249 k0_pay41 k0_pay36
  simp only [fold_v233]
  pointwise
  simp only [v233_apply, v164_apply]
  rfl

theorem v260_apply (r : Fin 256) (j : Fin 1024) : v260 b (ix2 r j) = dA b.rows r j := by
  unfold v260 k0_pay46 k0_pay44
  pointwise
  simp only [v247_apply]
  rfl

theorem v263_apply (r : Fin 256) (j : Fin 1024) : v263 b (ix2 r j) = dAct b.rows r j := by
  unfold v263 k0_pay47 k0_pay45
  pointwise
  simp only [v244_apply]
  rfl

theorem fold_v379 : k0_pay90 (F := Ideal) (v280 b) (v294 b) (v308 b) (v322 b) (v336 b) (v350 b) (v364 b) (v365 b) (v373 b) = v379 b := rfl
theorem fold_v388 : k0_pay92 (F := Ideal) (v260 b) b.og = v388 b := rfl
theorem fold_v397 : k0_pay95 (F := Ideal) (v260 b) b.og b.hg = v397 b := rfl

theorem v392_apply (r : Fin 256) (j : Fin 1024) : v392 b (ix2 r j) = dOg b.rows r j := by
  unfold v392 k0_pay93 k0_pay91
  simp only [fold_v379]
  pointwise
  simp only [v379_apply, v260_apply]
  rfl

theorem v388_apply (r : Fin 256) (j : Fin 1024) : v388 b (ix2 r j) = w b.rows r j := by
  unfold v388 k0_pay92 k0_pay91
  pointwise
  simp only [v260_apply]
  rfl

theorem v395_apply (z : Fin 1) (j : Fin 1024) : v395 b (ix2 z j) = ∑ r, term b.rows r 2 j := by
  unfold v395 k0_pay94
  simp only [fold_v379, fold_v388]
  pointwise
  simp only [v379_apply, v388_apply]
  rfl

theorem v397_apply (r : Fin 256) (j : Fin 1024) : v397 b (ix2 r j) = q b.rows r j := by
  unfold v397 k0_pay95
  simp only [fold_v388]
  pointwise
  simp only [v388_apply]
  rfl

end Cert.MixIdeal.Hand

end
-- ==== Proof.MixHead.lean ====
module

public import proofs.«01_k».proof.Proof.MixBlock

@[expose] public section

set_option maxRecDepth 16384
set_option maxHeartbeats 2000000

noncomputable section

open Idealize.ShloMosaic Idealize.ShloMosaic.TcCoe Idealize.SL.Sem
open Cert.MixHand

namespace Cert.MixIdeal.Hand

open Cert.MixIdeal Cert.MixIdeal.Gen

variable (b : Blocks)

/-! The gradient at the recurrence's result, one head after another, the last head first. -/

/-- One head's gradient column. -/
theorem head_dO (X : Rows (Fin 256)) (r : Fin 256) (h : Fin 8) (v : Fin 128) :
    q X r (col h v) * ors X r h +
      O X r (col h v) * (∑ _k : Fin 1, Ideal.div ((∑ x : Fin 128, O X r (col h x) * q X r (col h x)) *
        (Ideal.ofBits .f32 3204448256#32 * Ideal.div (ors X r h) (ovar X r h))) (Ideal.ofBits .f32 1124073472#32)) +
      (∑ _k : Fin 1, Ideal.div ((∑ x : Fin 128, O X r (col h x) * q X r (col h x)) *
        (Ideal.ofBits .f32 3204448256#32 * Ideal.div (ors X r h) (ovar X r h))) (Ideal.ofBits .f32 1124073472#32)) * O X r (col h v)
      = dO X r (col h v) := by
  unfold dO ocorr
  rw [hd_col]

theorem at_head (j : Fin 1024) (h : Fin 8) (v : Fin 128) (e : j.val = h.val * 128 + v.val) : j = col h v := Fin.ext e

theorem v422_apply (r : Fin 256) (j : Fin 1024) : v422 b (ix2 r j) = if j.val < 896 then 0 else dO b.rows r j := by
  unfold v422 k0_pay103 v365 v373 v376
  simp only [fold_v397]
  unfold_payloads
  pointwise
  simp only [v64_apply, v397_apply]
  have c : j.val < 896 ∨ 896 ≤ j.val := by omega
  rcases c with c | c
  · simp (disch := omega) only [dif_pos, if_pos]
  · simp (disch := omega) only [dif_neg, if_neg]
    refine Eq.trans ?_ (congrArg (dO b.rows r) (at_head j 7 ⟨j.val - 896, by omega⟩ (by show j.val = 7 * 128 + (j.val - 896); omega)).symm)
    rw [← head_dO]
    rfl

theorem v462_apply (r : Fin 256) (j : Fin 1024) : v462 b (ix2 r j) = if j.val < 640 then 0 else dO b.rows r j := by
  unfold v462 k0_pay106 v427 v428 v337 v345 v348 v351 v403 v359 v362
  unfold k0_pay104 k0_pay105 k0_pay101 k0_pay102
  simp only [fold_v397]
  unfold_payloads
  pointwise
  simp only [v422_apply, v64_apply, v397_apply]
  have c : j.val < 640 ∨ (640 ≤ j.val ∧ j.val < 768) ∨ (768 ≤ j.val ∧ j.val < 896) ∨ 896 ≤ j.val := by omega
  rcases c with c | c | c | c
  · simp (disch := omega) only [dif_pos, dif_neg, if_pos, if_neg, add_zero, zero_add]
  · simp (disch := omega) only [dif_pos, dif_neg, if_pos, if_neg, add_zero, zero_add]
    refine Eq.trans ?_ (congrArg (dO b.rows r) (at_head j 5 ⟨j.val - 640, by omega⟩ (by show j.val = 5 * 128 + (j.val - 640); omega)).symm)
    rw [← head_dO]
    rfl
  · simp (disch := omega) only [dif_pos, dif_neg, if_pos, if_neg, add_zero, zero_add]
    refine Eq.trans ?_ (congrArg (dO b.rows r) (at_head j 6 ⟨j.val - 768, by omega⟩ (by show j.val = 6 * 128 + (j.val - 768); omega)).symm)
    rw [← head_dO]
    rfl
  · simp (disch := omega) only [dif_pos, dif_neg, if_pos, if_neg, add_zero, zero_add]

theorem v477_apply (r : Fin 256) (v : Fin 128) : v477 b (ix2 r v) = dO b.rows r (col 4 v) := by
  unfold v477 v323 v331 v334 v402 v328 v329
  unfold k0_pay100
  simp only [fold_v397]
  unfold_payloads
  pointwise
  simp only [v64_apply, v397_apply]
  rw [← head_dO]
  rfl

theorem v522_apply (r : Fin 256) (j : Fin 1024) : v522 b (ix2 r j) = if j.val < 256 then 0 else dO b.rows r j := by
  unfold v522 k0_pay109 v295 v303 v306 v309 v317 v320 v400 v401 v478
  unfold k0_pay98 k0_pay99
  simp only [fold_v397]
  unfold_payloads
  pointwise
  simp only [v462_apply, v64_apply, v397_apply, v477_apply]
  have c : j.val < 256 ∨ (256 ≤ j.val ∧ j.val < 384) ∨ (384 ≤ j.val ∧ j.val < 512) ∨ (512 ≤ j.val ∧ j.val < 640) ∨ 640 ≤ j.val := by omega
  rcases c with c | c | c | c | c
  · simp (disch := omega) only [dif_pos, dif_neg, if_pos, if_neg, add_zero, zero_add]
  · simp (disch := omega) only [dif_pos, dif_neg, if_pos, if_neg, add_zero, zero_add]
    refine Eq.trans ?_ (congrArg (dO b.rows r) (at_head j 2 ⟨j.val - 256, by omega⟩ (by show j.val = 2 * 128 + (j.val - 256); omega)).symm)
    rw [← head_dO]
    rfl
  · simp (disch := omega) only [dif_pos, dif_neg, if_pos, if_neg, add_zero, zero_add]
    refine Eq.trans ?_ (congrArg (dO b.rows r) (at_head j 3 ⟨j.val - 384, by omega⟩ (by show j.val = 3 * 128 + (j.val - 384); omega)).symm)
    rw [← head_dO]
    rfl
  · simp (disch := omega) only [dif_pos, dif_neg, if_pos, if_neg, add_zero, zero_add]
    exact congrArg (dO b.rows r) (at_head j 4 ⟨j.val - 512, by omega⟩ (by show j.val = 4 * 128 + (j.val - 512); omega)).symm
  · simp (disch := omega) only [dif_pos, dif_neg, if_pos, if_neg, add_zero, zero_add]

theorem v560_apply (r : Fin 256) (j : Fin 1024) : v560 b (ix2 r j) = dO b.rows r j := by
  unfold v560 k0_pay112 v267 v275 v278 v281 v398 v527 v528 v289 v292 v281 v399 v283
  unfold k0_pay110 k0_pay111 k0_pay96 k0_pay97
  simp only [fold_v397]
  unfold_payloads
  pointwise
  simp only [v522_apply, v64_apply, v397_apply]
  have c : j.val < 128 ∨ (128 ≤ j.val ∧ j.val < 256) ∨ 256 ≤ j.val := by omega
  rcases c with c | c | c
  · simp (disch := omega) only [dif_pos, dif_neg, if_pos, if_neg, add_zero, zero_add]
    refine Eq.trans ?_ (congrArg (dO b.rows r) (at_head j 0 ⟨j.val, by omega⟩ (by show j.val = 0 * 128 + j.val; omega)).symm)
    rw [← head_dO]
    unfold ors ovar
    simp only [col_zero]
    rfl
  · simp (disch := omega) only [dif_pos, dif_neg, if_pos, if_neg, add_zero, zero_add]
    refine Eq.trans ?_ (congrArg (dO b.rows r) (at_head j 1 ⟨j.val - 128, by omega⟩ (by show j.val = 1 * 128 + (j.val - 128); omega)).symm)
    rw [← head_dO]
    rfl
  · simp (disch := omega) only [dif_pos, dif_neg, if_pos, if_neg, add_zero, zero_add]

/-! The gradient at the queries and the carried gradient, one chunk at a time. -/

theorem v564_apply (r : Fin 256) (j : Fin 1024) : v564 b (ix2 r j) = dO b.rows r j := v560_apply b r j

/-- Row `i` of the tile's chunk `h`. -/
def half (h : Fin 2) (i : Fin 128) : Fin 256 := ⟨h.val * 128 + i.val, by omega⟩

theorem half_zero (i : Fin 128) : half 0 i = ⟨i.val, by omega⟩ := Fin.ext (by show 0 * 128 + i.val = i.val; omega)

theorem v618_apply (i : Fin 128) (j : Fin 1024) : v618 b (ix2 i j) = dQe b.rows (half 1 i) j := by
  have e : dQe b.rows (half 1 i) j = ∑ v : Fin 128, dO b.rows (half 1 i) (col (hd j) v) * b.s1 (ix3 0 v j) := by
    unfold dQe
    refine Finset.sum_congr rfl fun v _ => congrArg _ (if_neg ?_)
    show ¬ 1 * 128 + i.val < 128
    omega
  rw [e, ← heads8 (fun j => ∑ v : Fin 128, dO b.rows (half 1 i) (col (hd j) v) * b.s1 (ix3 0 v j)) j]
  simp only [hd_col]
  simp only [col_zero]
  unfold v618 v572 v578 v584 v590 v596 v602 v608 v614 v570 v571 v569
  have f : k0_pay114 (F := Ideal) (v267 b) (v275 b) (v278 b) (v281 b) (v398 b) (v522 b) (v527 b) (v528 b)
    (Ideal.ofBits .f32 0x43000000#32) = v564 b := rfl
  unfold k0_pay117
  simp only [f]
  unfold_payloads
  pointwise
  simp only [v564_apply]
  rfl

theorem v684_apply (i : Fin 128) (j : Fin 1024) : v684 b (ix2 i j) = dQe b.rows (half 0 i) j := by
  have e : dQe b.rows (half 0 i) j = ∑ v : Fin 128, dO b.rows (half 0 i) (col (hd j) v) * b.s0 (ix3 0 v j) := by
    unfold dQe
    refine Finset.sum_congr rfl fun v _ => congrArg _ (if_pos ?_)
    show 0 * 128 + i.val < 128
    omega
  rw [e, ← heads8 (fun j => ∑ v : Fin 128, dO b.rows (half 0 i) (col (hd j) v) * b.s0 (ix3 0 v j)) j]
  simp only [hd_col]
  simp only [col_zero, half_zero]
  unfold v684 v635 v638 v644 v650
  unfold_payloads
  pointwise
  simp only [v564_apply]
  rfl

/-- What a chunk of the tile adds to the carried gradient. -/
def tileVt (h : Fin 2) (v : Fin 128) (j : Fin 1024) : EReal :=
  ∑ i : Fin 128, dO b.rows (half h i) (col (hd j) v) * b.rows.qe (half h i) j

theorem next1_apply (g : FVec Ideal S128x1024 .f32) (dec : FVec Ideal S1x1x1024 .f32) (v : Fin 128) (j : Fin 1024) :
    next1 b g dec (ix2 v j) = dec (ix3 0 0 j) * g (ix2 v j) + tileVt b 1 v j := by
  unfold tileVt
  rw [← heads8 (fun j => ∑ i : Fin 128, dO b.rows (half 1 i) (col (hd j) v) * b.rows.qe (half 1 i) j) j]
  simp only [hd_col]
  simp only [col_zero]
  unfold next1 v575 v581 v587 v593 v599 v605 v611 v615 v616 v566
  unfold_payloads
  pointwise
  simp only [v564_apply]
  rfl

theorem next0_apply (g : FVec Ideal S128x1024 .f32) (dec : FVec Ideal S1x1x1024 .f32) (v : Fin 128) (j : Fin 1024) :
    next0 b g dec (ix2 v j) = dec (ix3 0 0 j) * g (ix2 v j) + tileVt b 0 v j := by
  unfold tileVt
  rw [← heads8 (fun j => ∑ i : Fin 128, dO b.rows (half 0 i) (col (hd j) v) * b.rows.qe (half 0 i) j) j]
  simp only [hd_col]
  simp only [col_zero, half_zero]
  unfold next0 v641 v647 v653 v659 v665 v671 v677 v683 v651 v652 v566
  unfold_payloads
  pointwise
  simp only [v564_apply]
  rfl

end Cert.MixIdeal.Hand

end
-- ==== Proof.MixStore.lean ====
module

public import proofs.«01_k».proof.Proof.RowStore

@[expose] public section

set_option maxRecDepth 16384

noncomputable section

open Idealize.ShloMosaic

namespace Cert.BlockStore

variable {sig : RefSig} {κ : Kind} {sp : Space} {e : EltTy} {Val : EltTy → Type}

/-- A rectangle stored over a matrix, at an entry inside it and at one outside. -/
theorem read_in {n q a b p s : ℕ} (v : View sig κ sp (⟨2, ![n, q]⟩ : Shape) e) (f : v.ty.Contents Val)
    (inb : ∀ d, (![a, b] : Fin 2 → ℕ) d + (![p, s] : Fin 2 → ℕ) d ≤ (⟨2, ![n, q]⟩ : Shape).size d)
    (w : (⟨2, ![p, s]⟩ : Shape).Idx → Val e) (L : List (View.Piece Val (⟨2, ![n, q]⟩ : Shape) e))
    (r : Fin n) (j : Fin q) (r' : Fin p) (j' : Fin s) (hr : r.val = a + r'.val) (hj : j.val = b + j'.val) :
    v.read Val (v.writes Val f (⟨Rect.unit ![a, b] ![p, s] inb, w⟩ :: L)) (ix2 r j) = w (ix2 r' j') :=
  View.read_writes_cons_unit_of_mem v f inb w L (ix2 r j) (ix2 r' j') rfl (Fin.forall_fin_two.mpr ⟨hr, hj⟩)

theorem read_out {n q a b p s : ℕ} (v : View sig κ sp (⟨2, ![n, q]⟩ : Shape) e) (f : v.ty.Contents Val)
    (inb : ∀ d, (![a, b] : Fin 2 → ℕ) d + (![p, s] : Fin 2 → ℕ) d ≤ (⟨2, ![n, q]⟩ : Shape).size d)
    (w : (⟨2, ![p, s]⟩ : Shape).Idx → Val e) (L : List (View.Piece Val (⟨2, ![n, q]⟩ : Shape) e))
    (r : Fin n) (j : Fin q) (h : (r.val < a ∨ a + p ≤ r.val) ∨ (j.val < b ∨ b + s ≤ j.val)) :
    v.read Val (v.writes Val f (⟨Rect.unit ![a, b] ![p, s] inb, w⟩ :: L)) (ix2 r j) = v.read Val (v.writes Val f L) (ix2 r j) := by
  rcases h with h | h
  · exact View.read_writes_cons_unit_of_not_mem v f inb w L (ix2 r j) rfl 0 h
  · exact View.read_writes_cons_unit_of_not_mem v f inb w L (ix2 r j) rfl 1 h

/-- One plane stored over a pile of two. -/
theorem read_plane {n p q a : ℕ} (v : View sig κ sp (⟨3, ![n, p, q]⟩ : Shape) e) (f : v.ty.Contents Val)
    (inb : ∀ d, (![a, 0, 0] : Fin 3 → ℕ) d + (![1, p, q] : Fin 3 → ℕ) d ≤ (⟨3, ![n, p, q]⟩ : Shape).size d)
    (w : (⟨3, ![1, p, q]⟩ : Shape).Idx → Val e) (L : List (View.Piece Val (⟨3, ![n, p, q]⟩ : Shape) e))
    (k : Fin n) (r : Fin p) (j : Fin q) :
    v.read Val (v.writes Val f (⟨Rect.unit ![a, 0, 0] ![1, p, q] inb, w⟩ :: L)) (ix3 k r j)
      = if k.val = a then w (ix3 0 r j) else v.read Val (v.writes Val f L) (ix3 k r j) := by
  by_cases h : k.val = a
  · rw [if_pos h]
    refine View.read_writes_cons_unit_of_mem v f inb w L (ix3 k r j) (ix3 0 r j) rfl fun d => ?_
    match d with
    | 0 => exact h
    | 1 => exact (Nat.zero_add _).symm
    | 2 => exact (Nat.zero_add _).symm
  · rw [if_neg h]
    refine View.read_writes_cons_unit_of_not_mem v f inb w L (ix3 k r j) rfl 0 ?_
    show k.val < a ∨ a + 1 ≤ k.val
    omega

end Cert.BlockStore

end
-- ==== Proof.MixTile.lean ====
module

public import proofs.«01_k».proof.Proof.MixHead
public import proofs.«01_k».proof.Proof.Gen.MixIdeal.Frame
public import proofs.«01_k».proof.Proof.MixStore

@[expose] public section

set_option maxRecDepth 16384
set_option maxHeartbeats 2000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-- The blocks the tile of point `t` reads. -/
def blk (t : Fin cfg0.N) : Blocks where
  qe := iblk m c 3 t
  s0 := View.ld (Val := Elt Ideal) (S := S2x128x1024) (e' := .f32) (iblk m c 5 t) (Rect.unit ![0, 0, 0] ![1, 128, 1024] inb_S2x128x1024_S1x128x1024_0_0_0)
  s1 := View.ld (Val := Elt Ideal) (S := S2x128x1024) (e' := .f32) (iblk m c 5 t) (Rect.unit ![1, 0, 0] ![1, 128, 1024] inb_S2x128x1024_S1x128x1024_1_0_0)
  inner := iblk m c 4 t
  act := iblk m c 6 t
  og := iblk m c 0 t
  ga := iblk m c 1 t
  gb := iblk m c 2 t
  dx := iblk m c 13 t
  wa := iblk m c 7 t
  wb := iblk m c 8 t
  wo := iblk m c 9 t
  hg := iblk m c 10 t
  g1 := iblk m c 11 t
  post := iblk m c 12 t

theorem leaf_qe (t : Fin cfg0.N) : iblk m c 3 t = (blk m c t).qe := by dsimp only [blk]
theorem leaf_inner (t : Fin cfg0.N) : iblk m c 4 t = (blk m c t).inner := by dsimp only [blk]
theorem leaf_act (t : Fin cfg0.N) : iblk m c 6 t = (blk m c t).act := by dsimp only [blk]
theorem leaf_og (t : Fin cfg0.N) : iblk m c 0 t = (blk m c t).og := by dsimp only [blk]
theorem leaf_ga (t : Fin cfg0.N) : iblk m c 1 t = (blk m c t).ga := by dsimp only [blk]
theorem leaf_gb (t : Fin cfg0.N) : iblk m c 2 t = (blk m c t).gb := by dsimp only [blk]
theorem leaf_dx (t : Fin cfg0.N) : iblk m c 13 t = (blk m c t).dx := by dsimp only [blk]
theorem leaf_wa (t : Fin cfg0.N) : iblk m c 7 t = (blk m c t).wa := by dsimp only [blk]
theorem leaf_wb (t : Fin cfg0.N) : iblk m c 8 t = (blk m c t).wb := by dsimp only [blk]
theorem leaf_wo (t : Fin cfg0.N) : iblk m c 9 t = (blk m c t).wo := by dsimp only [blk]
theorem leaf_hg (t : Fin cfg0.N) : iblk m c 10 t = (blk m c t).hg := by dsimp only [blk]
theorem leaf_g1 (t : Fin cfg0.N) : iblk m c 11 t = (blk m c t).g1 := by dsimp only [blk]
theorem leaf_post (t : Fin cfg0.N) : iblk m c 12 t = (blk m c t).post := by dsimp only [blk]
theorem leaf_s0 (t : Fin cfg0.N) : View.ld (Val := Elt Ideal) (S := S2x128x1024) (e' := .f32) (iblk m c 5 t)
    (Rect.unit ![0, 0, 0] ![1, 128, 1024] inb_S2x128x1024_S1x128x1024_0_0_0) = (blk m c t).s0 := by dsimp only [blk]
theorem leaf_s1 (t : Fin cfg0.N) : View.ld (Val := Elt Ideal) (S := S2x128x1024) (e' := .f32) (iblk m c 5 t)
    (Rect.unit ![1, 0, 0] ![1, 128, 1024] inb_S2x128x1024_S1x128x1024_1_0_0) = (blk m c t).s1 := by dsimp only [blk]
theorem ideal_ofBits (b : BitVec 32) : (FloatOps.ofBits (F := Ideal) FTy.f32 b) = Ideal.ofBits .f32 b := rfl

/-- The decay of the tile's chunk 0. -/
def dec0 (t : Fin cfg0.N) : FVec Ideal S1x1x1024 .f32 := View.ld (Val := Elt Ideal) (S := S2x1x1024) (e' := .f32) (iblk m c 14 t)
    (Rect.unit ![0, 0, 0] ![1, 1, 1024] inb_S2x1x1024_S1x1x1024_0_0_0)
theorem leaf_dec0 (t : Fin cfg0.N) : View.ld (Val := Elt Ideal) (S := S2x1x1024) (e' := .f32) (iblk m c 14 t)
    (Rect.unit ![0, 0, 0] ![1, 1, 1024] inb_S2x1x1024_S1x1x1024_0_0_0) = dec0 m c t := by dsimp only [dec0]
/-- The decay of the tile's chunk 1. -/
def dec1 (t : Fin cfg0.N) : FVec Ideal S1x1x1024 .f32 := View.ld (Val := Elt Ideal) (S := S2x1x1024) (e' := .f32) (iblk m c 14 t)
    (Rect.unit ![1, 0, 0] ![1, 1, 1024] inb_S2x1x1024_S1x1x1024_1_0_0)
theorem leaf_dec1 (t : Fin cfg0.N) : View.ld (Val := Elt Ideal) (S := S2x1x1024) (e' := .f32) (iblk m c 14 t)
    (Rect.unit ![1, 0, 0] ![1, 1, 1024] inb_S2x1x1024_S1x1x1024_1_0_0) = dec1 m c t := by dsimp only [dec1]

/-- A stored row of the column sums is the row before and the tile's sum. -/
theorem pay_rows (b : Blocks) (Z : FVec Ideal S8x1024 .f32) (j : Fin 1024) :
    k0_pay1 (F := Ideal) (v246 b)
      (View.ld (Val := Elt Ideal) (S := S8x1024) (e' := .f32) Z (Rect.unit ![5, 0] ![1, 1024] inb_S8x1024_S1x1024_5_0)) (ix2 0 j) = Z (ix2 5 j) + ∑ r, term b.rows r 5 j
    ∧ k0_pay160 (F := Ideal) (v249 b)
      (View.ld (Val := Elt Ideal) (S := S8x1024) (e' := .f32) Z (Rect.unit ![4, 0] ![1, 1024] inb_S8x1024_S1x1024_4_0)) (ix2 0 j) = Z (ix2 4 j) + ∑ r, term b.rows r 4 j
    ∧ k0_pay159 (F := Ideal) (v392 b)
      (View.ld (Val := Elt Ideal) (S := S8x1024) (e' := .f32) Z (Rect.unit ![3, 0] ![1, 1024] inb_S8x1024_S1x1024_3_0)) (ix2 0 j) = Z (ix2 3 j) + ∑ r, term b.rows r 3 j
    ∧ k0_pay158 (F := Ideal) (v395 b)
      (View.ld (Val := Elt Ideal) (S := S8x1024) (e' := .f32) Z (Rect.unit ![2, 0] ![1, 1024] inb_S8x1024_S1x1024_2_0)) (ix2 0 j) = Z (ix2 2 j) + ∑ r, term b.rows r 2 j
    ∧ k0_pay157 (F := Ideal) (v211 b)
      (View.ld (Val := Elt Ideal) (S := S8x1024) (e' := .f32) Z (Rect.unit ![1, 0] ![1, 1024] inb_S8x1024_S1x1024_1_0)) (ix2 0 j) = Z (ix2 1 j) + ∑ r, term b.rows r 1 j
    ∧ k0_pay156 (F := Ideal) (v208 b)
      (View.ld (Val := Elt Ideal) (S := S8x1024) (e' := .f32) Z (Rect.unit ![0, 0] ![1, 1024] inb_S8x1024_S1x1024_0_0)) (ix2 0 j) = Z (ix2 0 j) + ∑ r, term b.rows r 0 j := by
  unfold_payloads
  refine ⟨?_, ?_, ?_, ?_, ?_, ?_⟩ <;> pointwise
  · simp only [v246_apply]; rfl
  · simp only [v249_apply]; rfl
  · simp only [v392_apply]; rfl
  · simp only [v395_apply]
  · simp only [v211_apply]
  · simp only [v208_apply]

/-- All eight rows of the column sums after a tile. -/
theorem rows_ite (b : Blocks) (Z : FVec Ideal S8x1024 .f32) (a : Fin 8) (j : Fin 1024) :
    (if a.val = 5 then k0_pay1 (F := Ideal) (v246 b)
      (View.ld (Val := Elt Ideal) (S := S8x1024) (e' := .f32) Z (Rect.unit ![5, 0] ![1, 1024] inb_S8x1024_S1x1024_5_0)) (ix2 0 j)
     else if a.val = 4 then k0_pay160 (F := Ideal) (v249 b)
      (View.ld (Val := Elt Ideal) (S := S8x1024) (e' := .f32) Z (Rect.unit ![4, 0] ![1, 1024] inb_S8x1024_S1x1024_4_0)) (ix2 0 j)
     else if a.val = 3 then k0_pay159 (F := Ideal) (v392 b)
      (View.ld (Val := Elt Ideal) (S := S8x1024) (e' := .f32) Z (Rect.unit ![3, 0] ![1, 1024] inb_S8x1024_S1x1024_3_0)) (ix2 0 j)
     else if a.val = 2 then k0_pay158 (F := Ideal) (v395 b)
      (View.ld (Val := Elt Ideal) (S := S8x1024) (e' := .f32) Z (Rect.unit ![2, 0] ![1, 1024] inb_S8x1024_S1x1024_2_0)) (ix2 0 j)
     else if a.val = 1 then k0_pay157 (F := Ideal) (v211 b)
      (View.ld (Val := Elt Ideal) (S := S8x1024) (e' := .f32) Z (Rect.unit ![1, 0] ![1, 1024] inb_S8x1024_S1x1024_1_0)) (ix2 0 j)
     else if a.val = 0 then k0_pay156 (F := Ideal) (v208 b)
      (View.ld (Val := Elt Ideal) (S := S8x1024) (e' := .f32) Z (Rect.unit ![0, 0] ![1, 1024] inb_S8x1024_S1x1024_0_0)) (ix2 0 j)
      else Z (ix2 a j)) = Z (ix2 a j) + ∑ r, term b.rows r a j := by
  obtain ⟨h5, h4, h3, h2, h1, h0⟩ := pay_rows b Z j
  rw [h5, h4, h3, h2, h1, h0]
  match a with
  | 0 => rfl
  | 1 => rfl
  | 2 => rfl
  | 3 => rfl
  | 4 => rfl
  | 5 => rfl
  | 6 => exact ((congrArg _ Finset.sum_const_zero).trans (add_zero _)).symm
  | 7 => exact ((congrArg _ Finset.sum_const_zero).trans (add_zero _)).symm

/-- The gradients of the states before a tile's two chunks. -/
theorem planes (g0 g1 : FVec Ideal S128x1024 .f32) (x : EReal) (h : Fin 2) (v : Fin 128) (j : Fin 1024) :
    (if h.val = 0 then k0_pay154 (F := Ideal) g0 (ix3 0 v j) else if h.val = 1 then k0_pay137 (F := Ideal) g1 (ix3 0 v j) else x)
      = if h.val = 0 then g0 (ix2 v j) else g1 (ix2 v j) := by
  unfold_payloads
  match h with
  | 0 => pointwise
  | 1 => pointwise

section

variable {κ : Kind} {sp : Space} (b : Blocks)

/-- The projection gradients, from the three blocks of columns stored. -/
theorem pieces15 (V : View sig κ sp S256x3072 .bf16) (f : V.ty.Contents (Elt Ideal)) (r : Fin 256) (j : Fin 3072) :
    V.read (Elt Ideal) (V.writes (Elt Ideal) f
      [⟨Rect.unit ![0, 0] ![256, 1024] inb_S256x3072_S256x1024_0_0, v561 b⟩,
        ⟨Rect.unit ![0, 2048] ![256, 1024] inb_S256x3072_S256x1024_0_2048, v252 b⟩,
        ⟨Rect.unit ![0, 1024] ![256, 1024] inb_S256x3072_S256x1024_0_1024, v250 b⟩]) (ix2 r j) = dP b.rows r j := by
  have hj := j.isLt
  have hr := r.isLt
  unfold dP
  by_cases h0 : j.val < 1024
  · rw [dif_pos h0]
    refine (BlockStore.read_in V _ _ _ _ r j r ⟨j.val, h0⟩ (by omega) (by dsimp only; omega)).trans ?_
    exact (show v561 b (ix2 r ⟨j.val, h0⟩) = v392 b (ix2 r ⟨j.val, h0⟩) from by unfold v561; unfold_payloads; pointwise).trans
      (v392_apply b _ _)
  · rw [dif_neg h0]
    refine (BlockStore.read_out V _ _ _ _ r j (by omega)).trans ?_
    by_cases h1 : j.val - 1024 < 1024
    · rw [dif_pos h1]
      refine (BlockStore.read_out V _ _ _ _ r j (by omega)).trans ?_
      refine (BlockStore.read_in V _ _ _ _ r j r ⟨j.val - 1024, h1⟩ (by omega) (by dsimp only; omega)).trans ?_
      refine Eq.trans ?_ (v249_apply b r ⟨j.val - 1024, h1⟩)
      unfold v250 v249; unfold_payloads; pointwise
    · rw [dif_neg h1]
      refine (BlockStore.read_in V _ _ _ _ r j r ⟨j.val - 1024 - 1024, by omega⟩ (by omega) (by dsimp only; omega)).trans ?_
      refine Eq.trans ?_ (v246_apply b r ⟨j.val - 1024 - 1024, by omega⟩)
      unfold v252; unfold_payloads; pointwise

/-- The queries' gradient, from the two blocks of rows stored. -/
theorem pieces17 (V : View sig κ sp S256x1024 .f32) (f : V.ty.Contents (Elt Ideal)) (r : Fin 256) (j : Fin 1024) :
    V.read (Elt Ideal) (V.writes (Elt Ideal) f
      [⟨Rect.unit ![0, 0] ![128, 1024] inb_S256x1024_S128x1024_0_0, v684 b⟩,
        ⟨Rect.unit ![128, 0] ![128, 1024] inb_S256x1024_S128x1024_128_0, v618 b⟩]) (ix2 r j) = dQe b.rows r j := by
  have hr := r.isLt
  have hj := j.isLt
  by_cases h0 : r.val < 128
  · refine (BlockStore.read_in V _ _ _ _ r j ⟨r.val, h0⟩ j (by dsimp only; omega) (by omega)).trans ((v684_apply b _ _).trans ?_)
    exact congrArg (dQe b.rows · j) (Fin.ext (by show 0 * 128 + r.val = r.val; omega))
  · refine (BlockStore.read_out V _ _ _ _ r j (by omega)).trans ?_
    refine (BlockStore.read_in V _ _ _ _ r j ⟨r.val - 128, by omega⟩ j (by dsimp only; omega) (by omega)).trans ((v618_apply b _ _).trans ?_)
    exact congrArg (dQe b.rows · j) (Fin.ext (by show 1 * 128 + (r.val - 128) = r.val; omega))

end

theorem tileA (t : Fin cfg0.N) (h : t.val % 16 = 0) :
    (∀ (r : Fin 256) (j : Fin 3072), (outsAt0 m c t.val t.isLt).1 (ix2 r j) = dP (blk m c t).rows r j)
    ∧ (outsAt0 m c t.val t.isLt).2.1 = v560 (blk m c t)
    ∧ (∀ (r : Fin 256) (j : Fin 1024), (outsAt0 m c t.val t.isLt).2.2.1 (ix2 r j) = dQe (blk m c t).rows r j)
    ∧ (∀ (h : Fin 2) (v : Fin 128) (j : Fin 1024), (outsAt0 m c t.val t.isLt).2.2.2.1 (ix3 h v j)
        = if h.val = 0 then next1 (blk m c t) (k0_pay3 (F := Ideal)) (dec1 m c t) (ix2 v j) else (k0_pay3 (F := Ideal)) (ix2 v j))
    ∧ (outsAt0 m c t.val t.isLt).2.2.2.2.1 = v263 (blk m c t)
    ∧ (outsAt0 m c t.val t.isLt).2.2.2.2.2.1 = v181 (blk m c t)
    ∧ (outsAt0 m c t.val t.isLt).2.2.2.2.2.2.1 = v183 (blk m c t)
    ∧ (outsAt0 m c t.val t.isLt).2.2.2.2.2.2.2.1 = v254 (blk m c t)
    ∧ (outsAt0 m c t.val t.isLt).2.2.2.2.2.2.2.2.1 = v255 (blk m c t)
    ∧ (outsAt0 m c t.val t.isLt).2.2.2.2.2.2.2.2.2.1 = v229 (blk m c t)
    ∧ (∀ (a : Fin 8) (j : Fin 1024), (outsAt0 m c t.val t.isLt).2.2.2.2.2.2.2.2.2.2.1 (ix2 a j) = 0 + ∑ r, term (blk m c t).rows r a j)
    ∧ (∀ (v : Fin 128) (j : Fin 1024), (outsAt0 m c t.val t.isLt).2.2.2.2.2.2.2.2.2.2.2 (ix2 v j)
        = next0 (blk m c t) (next1 (blk m c t) (k0_pay3 (F := Ideal)) (dec1 m c t)) (dec0 m c t) (ix2 v j)) := by
  rw [outsAt0_A m c t h]
  refine ⟨fun r j => ?_, ?_, fun r j => ?_, fun h v j => ?_, ?_, ?_, ?_, ?_, ?_, ?_, fun a j => ?_, fun v j => ?_⟩
  all_goals
    frame_open
    simp (disch := decide) only [↓ View.readCov_skip, ↓ View.readCov_cons_toLoadRect, ↓ View.readCov_fill]
    frame_out
    simp only [leaf_qe, leaf_inner, leaf_act, leaf_og, leaf_ga, leaf_gb, leaf_dx, leaf_wa, leaf_wb, leaf_wo, leaf_hg, leaf_g1, leaf_post, leaf_s0, leaf_s1, leaf_dec0, leaf_dec1]
    simp only [ideal_ofBits, Memref.IsWhole.read_unread,
      ← v4.eq_1, ← v32.eq_1, ← v35.eq_1, ← v38.eq_1, ← v64.eq_1, ← v77.eq_1, ← v78.eq_1, ← v81.eq_1, ← v88.eq_1, ← v99.eq_1, ←
      v110.eq_1, ← v121.eq_1, ← v122.eq_1, ← v127.eq_1, ← v160.eq_1, ← v164.eq_1, ← v169.eq_1, ← v176.eq_1, ← v180.eq_1, ←
      v181.eq_1, ← v183.eq_1, ← v193.eq_1, ← v194.eq_1, ← v197.eq_1, ← v199.eq_1, ← v203.eq_1, ← v205.eq_1, ← v208.eq_1, ←
      v209.eq_1, ← v211.eq_1, ← v229.eq_1, ← v233.eq_1, ← v236.eq_1, ← v240.eq_1, ← v244.eq_1, ← v246.eq_1, ← v247.eq_1, ←
      v249.eq_1, ← v250.eq_1, ← v252.eq_1, ← v254.eq_1, ← v255.eq_1, ← v260.eq_1, ← v263.eq_1, ← v267.eq_1, ← v274.eq_1, ←
      v275.eq_1, ← v278.eq_1, ← v280.eq_1, ← v281.eq_1, ← v283.eq_1, ← v288.eq_1, ← v289.eq_1, ← v292.eq_1, ← v294.eq_1, ←
      v295.eq_1, ← v302.eq_1, ← v303.eq_1, ← v306.eq_1, ← v308.eq_1, ← v309.eq_1, ← v316.eq_1, ← v317.eq_1, ← v320.eq_1, ←
      v322.eq_1, ← v323.eq_1, ← v328.eq_1, ← v329.eq_1, ← v330.eq_1, ← v331.eq_1, ← v334.eq_1, ← v336.eq_1, ← v337.eq_1, ←
      v344.eq_1, ← v345.eq_1, ← v348.eq_1, ← v350.eq_1, ← v351.eq_1, ← v358.eq_1, ← v359.eq_1, ← v362.eq_1, ← v364.eq_1, ←
      v365.eq_1, ← v372.eq_1, ← v373.eq_1, ← v376.eq_1, ← v379.eq_1, ← v382.eq_1, ← v388.eq_1, ← v392.eq_1, ← v395.eq_1, ←
      v397.eq_1, ← v398.eq_1, ← v399.eq_1, ← v400.eq_1, ← v401.eq_1, ← v402.eq_1, ← v403.eq_1, ← v404.eq_1, ← v422.eq_1, ←
      v427.eq_1, ← v428.eq_1, ← v462.eq_1, ← v477.eq_1, ← v478.eq_1, ← v522.eq_1, ← v527.eq_1, ← v528.eq_1, ← v560.eq_1, ←
      v561.eq_1, ← v564.eq_1, ← v566.eq_1, ← v569.eq_1, ← v570.eq_1, ← v571.eq_1, ← v572.eq_1, ← v575.eq_1, ← v578.eq_1, ←
      v581.eq_1, ← v584.eq_1, ← v587.eq_1, ← v590.eq_1, ← v593.eq_1, ← v596.eq_1, ← v599.eq_1, ← v602.eq_1, ← v605.eq_1, ←
      v608.eq_1, ← v611.eq_1, ← v614.eq_1, ← v615.eq_1, ← v616.eq_1, ← v618.eq_1, ← v635.eq_1, ← v638.eq_1, ← v641.eq_1, ←
      v644.eq_1, ← v647.eq_1, ← v650.eq_1, ← v651.eq_1, ← v652.eq_1, ← v653.eq_1, ← v659.eq_1, ← v665.eq_1, ← v671.eq_1, ←
      v677.eq_1, ← v683.eq_1, ← v684.eq_1, ← next1.eq_1, ← next0.eq_1]
  · rw [← View.read_writes_junk_eq_canon (ms0_15 t).view]
    exact pieces15 _ _ _ r j
  · rw [← View.read_writes_junk_eq_canon (ms0_17 t).view]
    exact pieces17 _ _ _ r j
  · rw [← View.read_writes_junk_eq_canon (ms0_18 t).view, BlockStore.read_plane, BlockStore.read_plane]
    exact planes _ _ _ h v j
  · rw [← View.read_writes_junk_eq_canon (ms0_25 t).view, RowStore.read_row, RowStore.read_row, RowStore.read_row,
      RowStore.read_row, RowStore.read_row, RowStore.read_row, RowStore.read_fill]
    refine (rows_ite _ _ a j).trans (congrArg (· + _) ?_)
    unfold_payloads
    pointwise

theorem tileB (t : Fin cfg0.N) (h : ¬ t.val % 16 = 0) :
    (∀ (r : Fin 256) (j : Fin 3072), (outsAt0 m c t.val t.isLt).1 (ix2 r j) = dP (blk m c t).rows r j)
    ∧ (outsAt0 m c t.val t.isLt).2.1 = v560 (blk m c t)
    ∧ (∀ (r : Fin 256) (j : Fin 1024), (outsAt0 m c t.val t.isLt).2.2.1 (ix2 r j) = dQe (blk m c t).rows r j)
    ∧ (∀ (h : Fin 2) (v : Fin 128) (j : Fin 1024), (outsAt0 m c t.val t.isLt).2.2.2.1 (ix3 h v j)
        = if h.val = 0 then next1 (blk m c t) (outsAt0 m c (t.val - 1) (by omega)).2.2.2.2.2.2.2.2.2.2.2 (dec1 m c t) (ix2 v j) else (outsAt0 m c (t.val - 1) (by omega)).2.2.2.2.2.2.2.2.2.2.2 (ix2 v j))
    ∧ (outsAt0 m c t.val t.isLt).2.2.2.2.1 = v263 (blk m c t)
    ∧ (outsAt0 m c t.val t.isLt).2.2.2.2.2.1 = v181 (blk m c t)
    ∧ (outsAt0 m c t.val t.isLt).2.2.2.2.2.2.1 = v183 (blk m c t)
    ∧ (outsAt0 m c t.val t.isLt).2.2.2.2.2.2.2.1 = v254 (blk m c t)
    ∧ (outsAt0 m c t.val t.isLt).2.2.2.2.2.2.2.2.1 = v255 (blk m c t)
    ∧ (outsAt0 m c t.val t.isLt).2.2.2.2.2.2.2.2.2.1 = v229 (blk m c t)
    ∧ (∀ (a : Fin 8) (j : Fin 1024), (outsAt0 m c t.val t.isLt).2.2.2.2.2.2.2.2.2.2.1 (ix2 a j) = (outsAt0 m c (t.val - 1) (by omega)).2.2.2.2.2.2.2.2.2.2.1 (ix2 a j) + ∑ r, term (blk m c t).rows r a j)
    ∧ (∀ (v : Fin 128) (j : Fin 1024), (outsAt0 m c t.val t.isLt).2.2.2.2.2.2.2.2.2.2.2 (ix2 v j)
        = next0 (blk m c t) (next1 (blk m c t) (outsAt0 m c (t.val - 1) (by omega)).2.2.2.2.2.2.2.2.2.2.2 (dec1 m c t)) (dec0 m c t) (ix2 v j)) := by
  rw [outsAt0_B m c t h]
  refine ⟨fun r j => ?_, ?_, fun r j => ?_, fun h v j => ?_, ?_, ?_, ?_, ?_, ?_, ?_, fun a j => ?_, fun v j => ?_⟩
  all_goals
    frame_open
    simp (disch := decide) only [↓ View.readCov_skip, ↓ View.readCov_cons_toLoadRect, ↓ View.readCov_fill]
    frame_out
    simp only [leaf_qe, leaf_inner, leaf_act, leaf_og, leaf_ga, leaf_gb, leaf_dx, leaf_wa, leaf_wb, leaf_wo, leaf_hg, leaf_g1, leaf_post, leaf_s0, leaf_s1, leaf_dec0, leaf_dec1]
    simp only [ideal_ofBits, Memref.IsWhole.read_unread,
      ← v4.eq_1, ← v32.eq_1, ← v35.eq_1, ← v38.eq_1, ← v64.eq_1, ← v77.eq_1, ← v78.eq_1, ← v81.eq_1, ← v88.eq_1, ← v99.eq_1, ←
      v110.eq_1, ← v121.eq_1, ← v122.eq_1, ← v127.eq_1, ← v160.eq_1, ← v164.eq_1, ← v169.eq_1, ← v176.eq_1, ← v180.eq_1, ←
      v181.eq_1, ← v183.eq_1, ← v193.eq_1, ← v194.eq_1, ← v197.eq_1, ← v199.eq_1, ← v203.eq_1, ← v205.eq_1, ← v208.eq_1, ←
      v209.eq_1, ← v211.eq_1, ← v229.eq_1, ← v233.eq_1, ← v236.eq_1, ← v240.eq_1, ← v244.eq_1, ← v246.eq_1, ← v247.eq_1, ←
      v249.eq_1, ← v250.eq_1, ← v252.eq_1, ← v254.eq_1, ← v255.eq_1, ← v260.eq_1, ← v263.eq_1, ← v267.eq_1, ← v274.eq_1, ←
      v275.eq_1, ← v278.eq_1, ← v280.eq_1, ← v281.eq_1, ← v283.eq_1, ← v288.eq_1, ← v289.eq_1, ← v292.eq_1, ← v294.eq_1, ←
      v295.eq_1, ← v302.eq_1, ← v303.eq_1, ← v306.eq_1, ← v308.eq_1, ← v309.eq_1, ← v316.eq_1, ← v317.eq_1, ← v320.eq_1, ←
      v322.eq_1, ← v323.eq_1, ← v328.eq_1, ← v329.eq_1, ← v330.eq_1, ← v331.eq_1, ← v334.eq_1, ← v336.eq_1, ← v337.eq_1, ←
      v344.eq_1, ← v345.eq_1, ← v348.eq_1, ← v350.eq_1, ← v351.eq_1, ← v358.eq_1, ← v359.eq_1, ← v362.eq_1, ← v364.eq_1, ←
      v365.eq_1, ← v372.eq_1, ← v373.eq_1, ← v376.eq_1, ← v379.eq_1, ← v382.eq_1, ← v388.eq_1, ← v392.eq_1, ← v395.eq_1, ←
      v397.eq_1, ← v398.eq_1, ← v399.eq_1, ← v400.eq_1, ← v401.eq_1, ← v402.eq_1, ← v403.eq_1, ← v404.eq_1, ← v422.eq_1, ←
      v427.eq_1, ← v428.eq_1, ← v462.eq_1, ← v477.eq_1, ← v478.eq_1, ← v522.eq_1, ← v527.eq_1, ← v528.eq_1, ← v560.eq_1, ←
      v561.eq_1, ← v564.eq_1, ← v566.eq_1, ← v569.eq_1, ← v570.eq_1, ← v571.eq_1, ← v572.eq_1, ← v575.eq_1, ← v578.eq_1, ←
      v581.eq_1, ← v584.eq_1, ← v587.eq_1, ← v590.eq_1, ← v593.eq_1, ← v596.eq_1, ← v599.eq_1, ← v602.eq_1, ← v605.eq_1, ←
      v608.eq_1, ← v611.eq_1, ← v614.eq_1, ← v615.eq_1, ← v616.eq_1, ← v618.eq_1, ← v635.eq_1, ← v638.eq_1, ← v641.eq_1, ←
      v644.eq_1, ← v647.eq_1, ← v650.eq_1, ← v651.eq_1, ← v652.eq_1, ← v653.eq_1, ← v659.eq_1, ← v665.eq_1, ← v671.eq_1, ←
      v677.eq_1, ← v683.eq_1, ← v684.eq_1, ← next1.eq_1, ← next0.eq_1]
  · rw [← View.read_writes_junk_eq_canon (ms0_15 t).view]
    exact pieces15 _ _ _ r j
  · rw [← View.read_writes_junk_eq_canon (ms0_17 t).view]
    exact pieces17 _ _ _ r j
  · rw [← View.read_writes_junk_eq_canon (ms0_18 t).view, BlockStore.read_plane, BlockStore.read_plane]
    exact (planes _ _ _ h v j).trans (congrArg (fun g : FVec Ideal S128x1024 .f32 =>
      if h.val = 0 then next1 _ g _ (ix2 v j) else g (ix2 v j)) (Memref.IsWhole.read_unread _ _))
  · rw [RowStore.read_row, RowStore.read_row, RowStore.read_row, RowStore.read_row, RowStore.read_row, RowStore.read_row,
      View.writes_nil, Memref.IsWhole.read_unread]
    exact rows_ite _ _ a j
  · exact congrArg (fun g => next0 _ (next1 _ g _) _ (ix2 v j)) (Memref.IsWhole.read_unread _ _)

end Cert.MixIdeal.Hand

end
-- ==== Proof.MixRef.lean ====
module

public import proofs.«01_k».proof.Proof.MixRow
public import proofs.«01_k».proof.Proof.Gen.MixRefIdeal.Run
public import proofs.«01_k».proof.Proof.Gen.MixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.MixHand

namespace Cert.MixRefIdeal.Hand

open Cert.MixRefIdeal Cert.MixRefIdeal.Gen Cert.MixRefIdeal.Read

/-! What the reference computes, stage by stage. -/

variable (x1 : FVec Ideal S4096x8192 .f32) (x2 : FVec Ideal S2x1024 .f32) (x3 : FVec Ideal S31x1024 .f32)
  (x4 x5 x6 : FVec Ideal S1x1024 .f32) (x7 x8 x9 : FVec Ideal S1024x1024 .f32) (x10 x11 x12 : FVec Ideal S1x1024 .f32)
  (x13 : FVec Ideal S4096x1024 .f32)

/-- The rows the backward pass reads, with the saved values the reference's forward lines give. -/
def refRows : Rows (Fin 4096) where
  qe R j := val_main_v143 (F := Ideal) x1 x2 (ix4 (ch R) (hd j) (inCh R) (pl j))
  inner R j := val_main_v135 (F := Ideal) x1 x2 (ix4 (ch R) (hd j) (inCh R) (pl j))
  st R v j := val_main_v275 (F := Ideal) x1 x2 (ix4 (ch R) (hd j) (pl j) v)
  act R j := val_main_v74 (F := Ideal) x1 x3 x4 x5 x6 (ix2 R j)
  og R j := x1 (ix2 R ⟨3072 + j.val, by omega⟩)
  ga R j := x1 (ix2 R ⟨6144 + j.val, by omega⟩)
  gb R j := x1 (ix2 R ⟨7168 + j.val, by omega⟩)
  dx R j := x13 (ix2 R j)
  wa k c := x7 (ix2 k c)
  wb k c := x8 (ix2 k c)
  wo k c := x9 (ix2 k c)
  hg j := x10 (ix2 0 j)
  g1 j := x11 (ix2 0 j)
  post j := x12 (ix2 0 j)

/-- The decay of each chunk. -/
def refDec (n : Fin 32) (j : Fin 1024) : EReal := val_main_v145 (F := Ideal) x1 x2 (ix3 n (hd j) (pl j))

/-- The gradient of the state after some chunks from the end. -/
def refG (k : ℕ) (v : Fin 128) (j : Fin 1024) : EReal :=
  G (refRows x1 x2 x3 x4 x5 x6 x7 x8 x9 x10 x11 x12 x13) (refDec x1 x2) k v j

theorem v282 (R : Fin 4096) (h : Fin 8) (v : Fin 128) :
    val_main_v282 (F := Ideal) x1 x2 (ix3 R h v) = O (refRows x1 x2 x3 x4 x5 x6 x7 x8 x9 x10 x11 x12 x13) R (col h v) := by
  pointwise [val_main_v282, val_main_v281, val_main_v280, val_main_v278, val_main_v277]
  simp only [O, refRows, hd_col, pl_col]
  rfl

theorem v290 (R : Fin 4096) (h : Fin 8) (z : Fin 1) :
    val_main_v290 (F := Ideal) x1 x2 (ix3 R h z) = ovar (refRows x1 x2 x3 x4 x5 x6 x7 x8 x9 x10 x11 x12 x13) R h := by
  obtain rfl : z = 0 := Subsingleton.elim _ _
  pointwise [val_main_v284, val_main_cst_19, val_main_v285, val_main_v286, val_main_cst_20, val_main_v287, val_main_v288, val_main_cst_21, val_main_v289, val_main_v290]
  simp only [v282 x1 x2 x3 x4 x5 x6 x7 x8 x9 x10 x11 x12 x13]
  rfl

theorem v291 (R : Fin 4096) (h : Fin 8) (z : Fin 1) :
    val_main_v291 (F := Ideal) x1 x2 (ix3 R h z) = ors (refRows x1 x2 x3 x4 x5 x6 x7 x8 x9 x10 x11 x12 x13) R h := by
  obtain rfl : z = 0 := Subsingleton.elim _ _
  pointwise [val_main_v291]
  simp only [v290 x1 x2 x3 x4 x5 x6 x7 x8 x9 x10 x11 x12 x13]
  rfl

theorem v294 (R : Fin 4096) (h : Fin 8) (z : Fin 1) :
    val_main_v294 (F := Ideal) x1 x2 (ix3 R h z) = Ideal.ofBits .f32 3204448256#32 * Ideal.div (ors (refRows x1 x2 x3 x4 x5 x6 x7 x8 x9 x10 x11 x12 x13) R h) (ovar (refRows x1 x2 x3 x4 x5 x6 x7 x8 x9 x10 x11 x12 x13) R h) := by
  obtain rfl : z = 0 := Subsingleton.elim _ _
  pointwise [val_main_v292, val_main_cst_22, val_main_v293, val_main_v294]
  simp only [v291 x1 x2 x3 x4 x5 x6 x7 x8 x9 x10 x11 x12 x13, v290 x1 x2 x3 x4 x5 x6 x7 x8 x9 x10 x11 x12 x13]

theorem v296 (R : Fin 4096) (h : Fin 8) (v : Fin 128) :
    val_main_v296 (F := Ideal) x1 x2 (ix3 R h v) = xh (refRows x1 x2 x3 x4 x5 x6 x7 x8 x9 x10 x11 x12 x13) R (col h v) := by
  pointwise [val_main_v295, val_main_v296]
  simp only [v282 x1 x2 x3 x4 x5 x6 x7 x8 x9 x10 x11 x12 x13, v291 x1 x2 x3 x4 x5 x6 x7 x8 x9 x10 x11 x12 x13, xh, hd_col]

theorem v300 (R : Fin 4096) (j : Fin 1024) :
    val_main_v300 (F := Ideal) x1 x2 x10 (ix2 R j) = xh (refRows x1 x2 x3 x4 x5 x6 x7 x8 x9 x10 x11 x12 x13) R j * (refRows x1 x2 x3 x4 x5 x6 x7 x8 x9 x10 x11 x12 x13).hg j := by
  pointwise [val_main_v297, val_main_v298, val_main_v299, val_main_v300, val_main_v283]
  simp only [v296 x1 x2 x3 x4 x5 x6 x7 x8 x9 x10 x11 x12 x13, col_mk]
  rfl

theorem v301_2 (R : Fin 4096) (j : Fin 1024) :
    val_main_v301_2 (F := Ideal) x1 (ix2 R j) = sg ((refRows x1 x2 x3 x4 x5 x6 x7 x8 x9 x10 x11 x12 x13).og R j) := by
  pointwise [val_main_v279, val_main_call5_v0, val_main_call5_v1, val_main_call5_cst, val_main_call5_v2, val_main_call5_v3, val_main_call5_cst_0, val_main_call5_v4, val_main_v301_2]
  rfl

theorem v301_1 (R : Fin 4096) (j : Fin 1024) :
    val_main_v301_1 (F := Ideal) x1 (ix2 R j) = dsg ((refRows x1 x2 x3 x4 x5 x6 x7 x8 x9 x10 x11 x12 x13).og R j) := by
  pointwise [val_main_call5_cst_1, val_main_call5_v6, val_main_call5_v7, val_main_v301_1]
  simp only [v301_2 x1 x2 x3 x4 x5 x6 x7 x8 x9 x10 x11 x12 x13]
  rfl

theorem v301_0 (R : Fin 4096) (j : Fin 1024) :
    val_main_v301_0 (F := Ideal) x1 (ix2 R j) = silu (refRows x1 x2 x3 x4 x5 x6 x7 x8 x9 x10 x11 x12 x13) R j := by
  pointwise [val_main_v279, val_main_v301_0]
  simp only [v301_2 x1 x2 x3 x4 x5 x6 x7 x8 x9 x10 x11 x12 x13]
  rfl

theorem v302 (R : Fin 4096) (j : Fin 1024) :
    val_main_v302 (F := Ideal) x1 x2 x10 (ix2 R j) = A (refRows x1 x2 x3 x4 x5 x6 x7 x8 x9 x10 x11 x12 x13) R j := by
  pointwise [val_main_v302]
  simp only [v300 x1 x2 x3 x4 x5 x6 x7 x8 x9 x10 x11 x12 x13, v301_0 x1 x2 x3 x4 x5 x6 x7 x8 x9 x10 x11 x12 x13]
  rfl

theorem v303 (R : Fin 4096) (j : Fin 1024) :
    val_main_v303 (F := Ideal) x1 x2 x7 x10 (ix2 R j) = Ya (refRows x1 x2 x3 x4 x5 x6 x7 x8 x9 x10 x11 x12 x13) R j := by
  pointwise [val_main_v303]
  simp only [v302 x1 x2 x3 x4 x5 x6 x7 x8 x9 x10 x11 x12 x13]
  rfl

theorem v304 (R : Fin 4096) (j : Fin 1024) :
    val_main_v304 (F := Ideal) x1 x3 x4 x5 x6 x8 (ix2 R j) = Yb (refRows x1 x2 x3 x4 x5 x6 x7 x8 x9 x10 x11 x12 x13) R j := by
  pointwise [val_main_v304]
  rfl

theorem v312 (R : Fin 4096) (j : Fin 1024) :
    val_main_v312 (F := Ideal) x1 (ix2 R j) = sg ((refRows x1 x2 x3 x4 x5 x6 x7 x8 x9 x10 x11 x12 x13).ga R j) := by
  pointwise [val_main_v305, val_main_v307, val_main_v308, val_main_cst_23, val_main_v309, val_main_v310, val_main_cst_24, val_main_v311, val_main_v312]
  rfl

theorem v315 (R : Fin 4096) (j : Fin 1024) :
    val_main_v315 (F := Ideal) x1 (ix2 R j) = dsg ((refRows x1 x2 x3 x4 x5 x6 x7 x8 x9 x10 x11 x12 x13).ga R j) := by
  pointwise [val_main_cst_25, val_main_v313, val_main_v314, val_main_v315]
  simp only [v312 x1 x2 x3 x4 x5 x6 x7 x8 x9 x10 x11 x12 x13]
  rfl

theorem v322 (R : Fin 4096) (j : Fin 1024) :
    val_main_v322 (F := Ideal) x1 (ix2 R j) = sg ((refRows x1 x2 x3 x4 x5 x6 x7 x8 x9 x10 x11 x12 x13).gb R j) := by
  pointwise [val_main_v306, val_main_v317, val_main_v318, val_main_cst_26, val_main_v319, val_main_v320, val_main_cst_27, val_main_v321, val_main_v322]
  rfl

theorem v325 (R : Fin 4096) (j : Fin 1024) :
    val_main_v325 (F := Ideal) x1 (ix2 R j) = dsg ((refRows x1 x2 x3 x4 x5 x6 x7 x8 x9 x10 x11 x12 x13).gb R j) := by
  pointwise [val_main_cst_28, val_main_v323, val_main_v324, val_main_v325]
  simp only [v322 x1 x2 x3 x4 x5 x6 x7 x8 x9 x10 x11 x12 x13]
  rfl

theorem v327 (R : Fin 4096) (j : Fin 1024) :
    val_main_v327 (F := Ideal) x1 x2 x3 x4 x5 x6 x7 x8 x10 (ix2 R j) = Mg (refRows x1 x2 x3 x4 x5 x6 x7 x8 x9 x10 x11 x12 x13) R j := by
  pointwise [val_main_v316, val_main_v326, val_main_v327]
  simp only [v312 x1 x2 x3 x4 x5 x6 x7 x8 x9 x10 x11 x12 x13, v322 x1 x2 x3 x4 x5 x6 x7 x8 x9 x10 x11 x12 x13, v303 x1 x2 x3 x4 x5 x6 x7 x8 x9 x10 x11 x12 x13, v304 x1 x2 x3 x4 x5 x6 x7 x8 x9 x10 x11 x12 x13]
  rfl

theorem v328 (R : Fin 4096) (j : Fin 1024) :
    val_main_v328 (F := Ideal) x1 x2 x3 x4 x5 x6 x7 x8 x9 x10 (ix2 R j) = Y (refRows x1 x2 x3 x4 x5 x6 x7 x8 x9 x10 x11 x12 x13) R j := by
  pointwise [val_main_v328]
  simp only [v327 x1 x2 x3 x4 x5 x6 x7 x8 x9 x10 x11 x12 x13]
  rfl

theorem v335 (R : Fin 4096) (z : Fin 1) :
    val_main_v335 (F := Ideal) x1 x2 x3 x4 x5 x6 x7 x8 x9 x10 (ix2 R z) = yvar (refRows x1 x2 x3 x4 x5 x6 x7 x8 x9 x10 x11 x12 x13) R := by
  obtain rfl : z = 0 := Subsingleton.elim _ _
  pointwise [val_main_v329, val_main_cst_29, val_main_v330, val_main_v331, val_main_cst_30, val_main_v332, val_main_v333, val_main_cst_31, val_main_v334, val_main_v335]
  simp only [v328 x1 x2 x3 x4 x5 x6 x7 x8 x9 x10 x11 x12 x13]
  rfl

theorem v336 (R : Fin 4096) (z : Fin 1) :
    val_main_v336 (F := Ideal) x1 x2 x3 x4 x5 x6 x7 x8 x9 x10 (ix2 R z) = yrs (refRows x1 x2 x3 x4 x5 x6 x7 x8 x9 x10 x11 x12 x13) R := by
  obtain rfl : z = 0 := Subsingleton.elim _ _
  pointwise [val_main_v336]
  simp only [v335 x1 x2 x3 x4 x5 x6 x7 x8 x9 x10 x11 x12 x13]
  rfl

theorem v341 (R : Fin 4096) (j : Fin 1024) :
    val_main_v341 (F := Ideal) x1 x2 x3 x4 x5 x6 x7 x8 x9 x10 (ix2 R j) = yh (refRows x1 x2 x3 x4 x5 x6 x7 x8 x9 x10 x11 x12 x13) R j := by
  pointwise [val_main_v340, val_main_v341]
  simp only [v328 x1 x2 x3 x4 x5 x6 x7 x8 x9 x10 x11 x12 x13, v336 x1 x2 x3 x4 x5 x6 x7 x8 x9 x10 x11 x12 x13]
  rfl

theorem v348 (R : Fin 4096) (j : Fin 1024) :
    val_main_v348 (F := Ideal) x11 x13 (ix2 R j) = gd (refRows x1 x2 x3 x4 x5 x6 x7 x8 x9 x10 x11 x12 x13) R j := by
  pointwise [val_main_v347, val_main_v348]
  rfl

theorem v356 (R : Fin 4096) (j : Fin 1024) :
    val_main_v356 (F := Ideal) x11 x12 x13 (ix2 R j) = gd (refRows x1 x2 x3 x4 x5 x6 x7 x8 x9 x10 x11 x12 x13) R j * (refRows x1 x2 x3 x4 x5 x6 x7 x8 x9 x10 x11 x12 x13).post j := by
  pointwise [val_main_v355, val_main_v356]
  simp only [v348 x1 x2 x3 x4 x5 x6 x7 x8 x9 x10 x11 x12 x13]
  rfl

theorem v365 (R : Fin 4096) :
    val_main_v365 (F := Ideal) x1 x2 x3 x4 x5 x6 x7 x8 x9 x10 x11 x12 x13 (ix1 R) = ycorr (refRows x1 x2 x3 x4 x5 x6 x7 x8 x9 x10 x11 x12 x13) R := by
  pointwise [val_main_v337, val_main_cst_32, val_main_v338, val_main_v339, val_main_v357, val_main_cst_35, val_main_v358, val_main_v359, val_main_v362, val_main_cst_36, val_main_v363, val_main_v364, val_main_cst_37, val_main_v365]
  simp only [v336 x1 x2 x3 x4 x5 x6 x7 x8 x9 x10 x11 x12 x13, v335 x1 x2 x3 x4 x5 x6 x7 x8 x9 x10 x11 x12 x13, v328 x1 x2 x3 x4 x5 x6 x7 x8 x9 x10 x11 x12 x13, v356 x1 x2 x3 x4 x5 x6 x7 x8 x9 x10 x11 x12 x13]
  rfl

theorem v370 (R : Fin 4096) (j : Fin 1024) :
    val_main_v370 (F := Ideal) x1 x2 x3 x4 x5 x6 x7 x8 x9 x10 x11 x12 x13 (ix2 R j) = dY (refRows x1 x2 x3 x4 x5 x6 x7 x8 x9 x10 x11 x12 x13) R j := by
  pointwise [val_main_v360, val_main_v361, val_main_v366, val_main_v367, val_main_v368, val_main_v369, val_main_v370]
  simp only [v336 x1 x2 x3 x4 x5 x6 x7 x8 x9 x10 x11 x12 x13, v328 x1 x2 x3 x4 x5 x6 x7 x8 x9 x10 x11 x12 x13, v356 x1 x2 x3 x4 x5 x6 x7 x8 x9 x10 x11 x12 x13, v365 x1 x2 x3 x4 x5 x6 x7 x8 x9 x10 x11 x12 x13]
  rfl

theorem v371 (R : Fin 4096) (j : Fin 1024) :
    val_main_v371 (F := Ideal) x1 x2 x3 x4 x5 x6 x7 x8 x9 x10 x11 x12 x13 (ix2 R j) = dM (refRows x1 x2 x3 x4 x5 x6 x7 x8 x9 x10 x11 x12 x13) R j := by
  pointwise [val_main_v371]
  simp only [v370 x1 x2 x3 x4 x5 x6 x7 x8 x9 x10 x11 x12 x13]
  rfl

theorem v372 (R : Fin 4096) (j : Fin 1024) :
    val_main_v372 (F := Ideal) x1 x2 x3 x4 x5 x6 x7 x8 x9 x10 x11 x12 x13 (ix2 R j) = dYb (refRows x1 x2 x3 x4 x5 x6 x7 x8 x9 x10 x11 x12 x13) R j := by
  pointwise [val_main_v372]
  simp only [v371 x1 x2 x3 x4 x5 x6 x7 x8 x9 x10 x11 x12 x13, v322 x1 x2 x3 x4 x5 x6 x7 x8 x9 x10 x11 x12 x13]
  rfl

theorem v374 (R : Fin 4096) (j : Fin 1024) :
    val_main_v374 (F := Ideal) x1 x2 x3 x4 x5 x6 x7 x8 x9 x10 x11 x12 x13 (ix2 R j) = dGb (refRows x1 x2 x3 x4 x5 x6 x7 x8 x9 x10 x11 x12 x13) R j := by
  pointwise [val_main_v373, val_main_v374]
  simp only [v371 x1 x2 x3 x4 x5 x6 x7 x8 x9 x10 x11 x12 x13, v304 x1 x2 x3 x4 x5 x6 x7 x8 x9 x10 x11 x12 x13, v325 x1 x2 x3 x4 x5 x6 x7 x8 x9 x10 x11 x12 x13]
  rfl

theorem v375 (R : Fin 4096) (j : Fin 1024) :
    val_main_v375 (F := Ideal) x1 x2 x3 x4 x5 x6 x7 x8 x9 x10 x11 x12 x13 (ix2 R j) = dYa (refRows x1 x2 x3 x4 x5 x6 x7 x8 x9 x10 x11 x12 x13) R j := by
  pointwise [val_main_v375]
  simp only [v371 x1 x2 x3 x4 x5 x6 x7 x8 x9 x10 x11 x12 x13, v312 x1 x2 x3 x4 x5 x6 x7 x8 x9 x10 x11 x12 x13]
  rfl

theorem v377 (R : Fin 4096) (j : Fin 1024) :
    val_main_v377 (F := Ideal) x1 x2 x3 x4 x5 x6 x7 x8 x9 x10 x11 x12 x13 (ix2 R j) = dGa (refRows x1 x2 x3 x4 x5 x6 x7 x8 x9 x10 x11 x12 x13) R j := by
  pointwise [val_main_v376, val_main_v377]
  simp only [v371 x1 x2 x3 x4 x5 x6 x7 x8 x9 x10 x11 x12 x13, v303 x1 x2 x3 x4 x5 x6 x7 x8 x9 x10 x11 x12 x13, v315 x1 x2 x3 x4 x5 x6 x7 x8 x9 x10 x11 x12 x13]
  rfl

theorem v378 (R : Fin 4096) (j : Fin 1024) :
    val_main_v378 (F := Ideal) x1 x2 x3 x4 x5 x6 x7 x8 x9 x10 x11 x12 x13 (ix2 R j) = dAct (refRows x1 x2 x3 x4 x5 x6 x7 x8 x9 x10 x11 x12 x13) R j := by
  pointwise [val_main_v378]
  simp only [v372 x1 x2 x3 x4 x5 x6 x7 x8 x9 x10 x11 x12 x13]
  rfl

theorem v379 (R : Fin 4096) (j : Fin 1024) :
    val_main_v379 (F := Ideal) x1 x2 x3 x4 x5 x6 x7 x8 x9 x10 x11 x12 x13 (ix2 R j) = dA (refRows x1 x2 x3 x4 x5 x6 x7 x8 x9 x10 x11 x12 x13) R j := by
  pointwise [val_main_v379]
  simp only [v375 x1 x2 x3 x4 x5 x6 x7 x8 x9 x10 x11 x12 x13]
  rfl

theorem v381 (R : Fin 4096) (j : Fin 1024) :
    val_main_v381 (F := Ideal) x1 x2 x3 x4 x5 x6 x7 x8 x9 x10 x11 x12 x13 (ix2 R j) = w (refRows x1 x2 x3 x4 x5 x6 x7 x8 x9 x10 x11 x12 x13) R j := by
  pointwise [val_main_v381]
  simp only [v379 x1 x2 x3 x4 x5 x6 x7 x8 x9 x10 x11 x12 x13, v301_0 x1 x2 x3 x4 x5 x6 x7 x8 x9 x10 x11 x12 x13]
  rfl

theorem v382 (R : Fin 4096) (j : Fin 1024) :
    val_main_v382 (F := Ideal) x1 x2 x3 x4 x5 x6 x7 x8 x9 x10 x11 x12 x13 (ix2 R j) = dOg (refRows x1 x2 x3 x4 x5 x6 x7 x8 x9 x10 x11 x12 x13) R j := by
  pointwise [val_main_v380, val_main_v279, val_main_call6_v0, val_main_call6_v1, val_main_call6_v2, val_main_v382]
  simp only [v300 x1 x2 x3 x4 x5 x6 x7 x8 x9 x10 x11 x12 x13, v379 x1 x2 x3 x4 x5 x6 x7 x8 x9 x10 x11 x12 x13, v301_1 x1 x2 x3 x4 x5 x6 x7 x8 x9 x10 x11 x12 x13, v301_2 x1 x2 x3 x4 x5 x6 x7 x8 x9 x10 x11 x12 x13]
  rfl

theorem v388 (R : Fin 4096) (h : Fin 8) (v : Fin 128) :
    val_main_v388 (F := Ideal) x1 x2 x3 x4 x5 x6 x7 x8 x9 x10 x11 x12 x13 (ix3 R h v) = q (refRows x1 x2 x3 x4 x5 x6 x7 x8 x9 x10 x11 x12 x13) R (col h v) := by
  pointwise [val_main_v283, val_main_v297, val_main_v383, val_main_v387, val_main_v388]
  simp only [v381 x1 x2 x3 x4 x5 x6 x7 x8 x9 x10 x11 x12 x13]
  rfl

theorem v398 (R : Fin 4096) (h : Fin 8) :
    val_main_v398 (F := Ideal) x1 x2 x3 x4 x5 x6 x7 x8 x9 x10 x11 x12 x13 (ix2 R h) = ocorr (refRows x1 x2 x3 x4 x5 x6 x7 x8 x9 x10 x11 x12 x13) R h := by
  pointwise [val_main_v390, val_main_cst_40, val_main_v391, val_main_v392, val_main_v395, val_main_cst_41, val_main_v396, val_main_v397, val_main_cst_42, val_main_v398]
  simp only [v282 x1 x2 x3 x4 x5 x6 x7 x8 x9 x10 x11 x12 x13, v388 x1 x2 x3 x4 x5 x6 x7 x8 x9 x10 x11 x12 x13, v294 x1 x2 x3 x4 x5 x6 x7 x8 x9 x10 x11 x12 x13]
  rfl

theorem v403 (R : Fin 4096) (h : Fin 8) (v : Fin 128) :
    val_main_v403 (F := Ideal) x1 x2 x3 x4 x5 x6 x7 x8 x9 x10 x11 x12 x13 (ix3 R h v) = dO (refRows x1 x2 x3 x4 x5 x6 x7 x8 x9 x10 x11 x12 x13) R (col h v) := by
  pointwise [val_main_v393, val_main_v394, val_main_v399, val_main_v400, val_main_v401, val_main_v402, val_main_v403]
  simp only [v282 x1 x2 x3 x4 x5 x6 x7 x8 x9 x10 x11 x12 x13, v388 x1 x2 x3 x4 x5 x6 x7 x8 x9 x10 x11 x12 x13, v291 x1 x2 x3 x4 x5 x6 x7 x8 x9 x10 x11 x12 x13, v398 x1 x2 x3 x4 x5 x6 x7 x8 x9 x10 x11 x12 x13, dO, hd_col]

theorem v407 (n : Fin 32) (h : Fin 8) (i v : Fin 128) :
    val_main_v407 (F := Ideal) x1 x2 x3 x4 x5 x6 x7 x8 x9 x10 x11 x12 x13 (ix4 n h i v) = dO (refRows x1 x2 x3 x4 x5 x6 x7 x8 x9 x10 x11 x12 x13) (chunkRow n i) (col h v) := by
  pointwise [val_main_v405, val_main_v406, val_main_v407]
  simp only [v403 x1 x2 x3 x4 x5 x6 x7 x8 x9 x10 x11 x12 x13]
  rfl

theorem v575 (R : Fin 4096) (j : Fin 1024) :
    val_main_v575 (F := Ideal) x1 x2 x3 x4 x5 x6 x7 x8 x9 x10 x11 x12 x13 (ix2 R j) = dO (refRows x1 x2 x3 x4 x5 x6 x7 x8 x9 x10 x11 x12 x13) R j := by
  pointwise [val_main_v574, val_main_v575]
  simp only [v407 x1 x2 x3 x4 x5 x6 x7 x8 x9 x10 x11 x12 x13, col_mk]
  exact congrArg (fun r => dO (refRows x1 x2 x3 x4 x5 x6 x7 x8 x9 x10 x11 x12 x13) r j) (row_ch_inCh R)

theorem v577 (R : Fin 4096) (j : Fin 1024) :
    val_main_v577 (F := Ideal) x1 x2 x3 x4 x5 x6 x7 x8 x9 x10 x11 x12 x13 (ix2 R j) = dQe (refRows x1 x2 x3 x4 x5 x6 x7 x8 x9 x10 x11 x12 x13) R j := by
  pointwise [val_main_v410, val_main_v576, val_main_v577]
  simp only [v407 x1 x2 x3 x4 x5 x6 x7 x8 x9 x10 x11 x12 x13, dQe]
  exact Finset.sum_congr rfl fun v _ => congrArg₂ (· * ·) (congrArg (fun r => dO (refRows x1 x2 x3 x4 x5 x6 x7 x8 x9 x10 x11 x12 x13) r _) (row_ch_inCh R)) rfl

theorem v409 (n : Fin 32) (h : Fin 8) (k v : Fin 128) :
    val_main_v409 (F := Ideal) x1 x2 x3 x4 x5 x6 x7 x8 x9 x10 x11 x12 x13 (ix4 n h k v) = Vt (refRows x1 x2 x3 x4 x5 x6 x7 x8 x9 x10 x11 x12 x13) n v (col h k) := by
  pointwise [val_main_v408, val_main_v409]
  simp only [v407 x1 x2 x3 x4 x5 x6 x7 x8 x9 x10 x11 x12 x13, Vt, hd_col]
  refine Finset.sum_congr rfl fun i _ => congrArg₂ (· * ·) rfl ?_
  show _ = val_main_v143 (F := Ideal) x1 x2 (ix4 (ch (chunkRow n i)) (hd (col h k)) (inCh (chunkRow n i)) (pl (col h k)))
  rw [ch_row, inCh_row, hd_col, pl_col]

theorem v147 (n : Fin 32) (h : Fin 8) (k v : Fin 128) :
    val_main_v147 (F := Ideal) x1 x2 (ix4 n h k v) = refDec x1 x2 n (col h k) := by
  pointwise [val_main_v146, val_main_v147]
  simp only [refDec, hd_col, pl_col]

theorem v442 (z : Fin 1) (h : Fin 8) (k v : Fin 128) :
    val_main_v442 (F := Ideal) x1 x2 x3 x4 x5 x6 x7 x8 x9 x10 x11 x12 x13 (ix4 z h k v) = refG x1 x2 x3 x4 x5 x6 x7 x8 x9 x10 x11 x12 x13 1 v (col h k) := by
  obtain rfl : z = 0 := Subsingleton.elim _ _
  pointwise [val_main_v442]
  simp only [v409 x1 x2 x3 x4 x5 x6 x7 x8 x9 x10 x11 x12 x13]
  exact G_step_zero (by omega) ..

theorem v445 (z : Fin 1) (h : Fin 8) (k v : Fin 128) :
    val_main_v445 (F := Ideal) x1 x2 x3 x4 x5 x6 x7 x8 x9 x10 x11 x12 x13 (ix4 z h k v) = refG x1 x2 x3 x4 x5 x6 x7 x8 x9 x10 x11 x12 x13 2 v (col h k) := by
  obtain rfl : z = 0 := Subsingleton.elim _ _
  pointwise [val_main_v444, val_main_v445, val_main_v441, val_main_v269]
  simp only [v409 x1 x2 x3 x4 x5 x6 x7 x8 x9 x10 x11 x12 x13, v147 x1 x2, v442 x1 x2 x3 x4 x5 x6 x7 x8 x9 x10 x11 x12 x13]
  exact G_step (by omega) ..

theorem v449 (z : Fin 1) (h : Fin 8) (k v : Fin 128) :
    val_main_v449 (F := Ideal) x1 x2 x3 x4 x5 x6 x7 x8 x9 x10 x11 x12 x13 (ix4 z h k v) = refG x1 x2 x3 x4 x5 x6 x7 x8 x9 x10 x11 x12 x13 3 v (col h k) := by
  obtain rfl : z = 0 := Subsingleton.elim _ _
  pointwise [val_main_v448, val_main_v449, val_main_v440, val_main_v265]
  simp only [v409 x1 x2 x3 x4 x5 x6 x7 x8 x9 x10 x11 x12 x13, v147 x1 x2, v445 x1 x2 x3 x4 x5 x6 x7 x8 x9 x10 x11 x12 x13]
  exact G_step (by omega) ..

theorem v453 (z : Fin 1) (h : Fin 8) (k v : Fin 128) :
    val_main_v453 (F := Ideal) x1 x2 x3 x4 x5 x6 x7 x8 x9 x10 x11 x12 x13 (ix4 z h k v) = refG x1 x2 x3 x4 x5 x6 x7 x8 x9 x10 x11 x12 x13 4 v (col h k) := by
  obtain rfl : z = 0 := Subsingleton.elim _ _
  pointwise [val_main_v452, val_main_v453, val_main_v439, val_main_v261]
  simp only [v409 x1 x2 x3 x4 x5 x6 x7 x8 x9 x10 x11 x12 x13, v147 x1 x2, v449 x1 x2 x3 x4 x5 x6 x7 x8 x9 x10 x11 x12 x13]
  exact G_step (by omega) ..

theorem v457 (z : Fin 1) (h : Fin 8) (k v : Fin 128) :
    val_main_v457 (F := Ideal) x1 x2 x3 x4 x5 x6 x7 x8 x9 x10 x11 x12 x13 (ix4 z h k v) = refG x1 x2 x3 x4 x5 x6 x7 x8 x9 x10 x11 x12 x13 5 v (col h k) := by
  obtain rfl : z = 0 := Subsingleton.elim _ _
  pointwise [val_main_v456, val_main_v457, val_main_v438, val_main_v257]
  simp only [v409 x1 x2 x3 x4 x5 x6 x7 x8 x9 x10 x11 x12 x13, v147 x1 x2, v453 x1 x2 x3 x4 x5 x6 x7 x8 x9 x10 x11 x12 x13]
  exact G_step (by omega) ..

theorem v461 (z : Fin 1) (h : Fin 8) (k v : Fin 128) :
    val_main_v461 (F := Ideal) x1 x2 x3 x4 x5 x6 x7 x8 x9 x10 x11 x12 x13 (ix4 z h k v) = refG x1 x2 x3 x4 x5 x6 x7 x8 x9 x10 x11 x12 x13 6 v (col h k) := by
  obtain rfl : z = 0 := Subsingleton.elim _ _
  pointwise [val_main_v460, val_main_v461, val_main_v437, val_main_v253]
  simp only [v409 x1 x2 x3 x4 x5 x6 x7 x8 x9 x10 x11 x12 x13, v147 x1 x2, v457 x1 x2 x3 x4 x5 x6 x7 x8 x9 x10 x11 x12 x13]
  exact G_step (by omega) ..

theorem v465 (z : Fin 1) (h : Fin 8) (k v : Fin 128) :
    val_main_v465 (F := Ideal) x1 x2 x3 x4 x5 x6 x7 x8 x9 x10 x11 x12 x13 (ix4 z h k v) = refG x1 x2 x3 x4 x5 x6 x7 x8 x9 x10 x11 x12 x13 7 v (col h k) := by
  obtain rfl : z = 0 := Subsingleton.elim _ _
  pointwise [val_main_v464, val_main_v465, val_main_v436, val_main_v249]
  simp only [v409 x1 x2 x3 x4 x5 x6 x7 x8 x9 x10 x11 x12 x13, v147 x1 x2, v461 x1 x2 x3 x4 x5 x6 x7 x8 x9 x10 x11 x12 x13]
  exact G_step (by omega) ..

theorem v469 (z : Fin 1) (h : Fin 8) (k v : Fin 128) :
    val_main_v469 (F := Ideal) x1 x2 x3 x4 x5 x6 x7 x8 x9 x10 x11 x12 x13 (ix4 z h k v) = refG x1 x2 x3 x4 x5 x6 x7 x8 x9 x10 x11 x12 x13 8 v (col h k) := by
  obtain rfl : z = 0 := Subsingleton.elim _ _
  pointwise [val_main_v468, val_main_v469, val_main_v435, val_main_v245]
  simp only [v409 x1 x2 x3 x4 x5 x6 x7 x8 x9 x10 x11 x12 x13, v147 x1 x2, v465 x1 x2 x3 x4 x5 x6 x7 x8 x9 x10 x11 x12 x13]
  exact G_step (by omega) ..

theorem v473 (z : Fin 1) (h : Fin 8) (k v : Fin 128) :
    val_main_v473 (F := Ideal) x1 x2 x3 x4 x5 x6 x7 x8 x9 x10 x11 x12 x13 (ix4 z h k v) = refG x1 x2 x3 x4 x5 x6 x7 x8 x9 x10 x11 x12 x13 9 v (col h k) := by
  obtain rfl : z = 0 := Subsingleton.elim _ _
  pointwise [val_main_v472, val_main_v473, val_main_v434, val_main_v241]
  simp only [v409 x1 x2 x3 x4 x5 x6 x7 x8 x9 x10 x11 x12 x13, v147 x1 x2, v469 x1 x2 x3 x4 x5 x6 x7 x8 x9 x10 x11 x12 x13]
  exact G_step (by omega) ..

theorem v477 (z : Fin 1) (h : Fin 8) (k v : Fin 128) :
    val_main_v477 (F := Ideal) x1 x2 x3 x4 x5 x6 x7 x8 x9 x10 x11 x12 x13 (ix4 z h k v) = refG x1 x2 x3 x4 x5 x6 x7 x8 x9 x10 x11 x12 x13 10 v (col h k) := by
  obtain rfl : z = 0 := Subsingleton.elim _ _
  pointwise [val_main_v476, val_main_v477, val_main_v433, val_main_v237]
  simp only [v409 x1 x2 x3 x4 x5 x6 x7 x8 x9 x10 x11 x12 x13, v147 x1 x2, v473 x1 x2 x3 x4 x5 x6 x7 x8 x9 x10 x11 x12 x13]
  exact G_step (by omega) ..

theorem v481 (z : Fin 1) (h : Fin 8) (k v : Fin 128) :
    val_main_v481 (F := Ideal) x1 x2 x3 x4 x5 x6 x7 x8 x9 x10 x11 x12 x13 (ix4 z h k v) = refG x1 x2 x3 x4 x5 x6 x7 x8 x9 x10 x11 x12 x13 11 v (col h k) := by
  obtain rfl : z = 0 := Subsingleton.elim _ _
  pointwise [val_main_v480, val_main_v481, val_main_v432, val_main_v233]
  simp only [v409 x1 x2 x3 x4 x5 x6 x7 x8 x9 x10 x11 x12 x13, v147 x1 x2, v477 x1 x2 x3 x4 x5 x6 x7 x8 x9 x10 x11 x12 x13]
  exact G_step (by omega) ..

theorem v485 (z : Fin 1) (h : Fin 8) (k v : Fin 128) :
    val_main_v485 (F := Ideal) x1 x2 x3 x4 x5 x6 x7 x8 x9 x10 x11 x12 x13 (ix4 z h k v) = refG x1 x2 x3 x4 x5 x6 x7 x8 x9 x10 x11 x12 x13 12 v (col h k) := by
  obtain rfl : z = 0 := Subsingleton.elim _ _
  pointwise [val_main_v484, val_main_v485, val_main_v431, val_main_v229]
  simp only [v409 x1 x2 x3 x4 x5 x6 x7 x8 x9 x10 x11 x12 x13, v147 x1 x2, v481 x1 x2 x3 x4 x5 x6 x7 x8 x9 x10 x11 x12 x13]
  exact G_step (by omega) ..

theorem v489 (z : Fin 1) (h : Fin 8) (k v : Fin 128) :
    val_main_v489 (F := Ideal) x1 x2 x3 x4 x5 x6 x7 x8 x9 x10 x11 x12 x13 (ix4 z h k v) = refG x1 x2 x3 x4 x5 x6 x7 x8 x9 x10 x11 x12 x13 13 v (col h k) := by
  obtain rfl : z = 0 := Subsingleton.elim _ _
  pointwise [val_main_v488, val_main_v489, val_main_v430, val_main_v225]
  simp only [v409 x1 x2 x3 x4 x5 x6 x7 x8 x9 x10 x11 x12 x13, v147 x1 x2, v485 x1 x2 x3 x4 x5 x6 x7 x8 x9 x10 x11 x12 x13]
  exact G_step (by omega) ..

theorem v493 (z : Fin 1) (h : Fin 8) (k v : Fin 128) :
    val_main_v493 (F := Ideal) x1 x2 x3 x4 x5 x6 x7 x8 x9 x10 x11 x12 x13 (ix4 z h k v) = refG x1 x2 x3 x4 x5 x6 x7 x8 x9 x10 x11 x12 x13 14 v (col h k) := by
  obtain rfl : z = 0 := Subsingleton.elim _ _
  pointwise [val_main_v492, val_main_v493, val_main_v429, val_main_v221]
  simp only [v409 x1 x2 x3 x4 x5 x6 x7 x8 x9 x10 x11 x12 x13, v147 x1 x2, v489 x1 x2 x3 x4 x5 x6 x7 x8 x9 x10 x11 x12 x13]
  exact G_step (by omega) ..

theorem v497 (z : Fin 1) (h : Fin 8) (k v : Fin 128) :
    val_main_v497 (F := Ideal) x1 x2 x3 x4 x5 x6 x7 x8 x9 x10 x11 x12 x13 (ix4 z h k v) = refG x1 x2 x3 x4 x5 x6 x7 x8 x9 x10 x11 x12 x13 15 v (col h k) := by
  obtain rfl : z = 0 := Subsingleton.elim _ _
  pointwise [val_main_v496, val_main_v497, val_main_v428, val_main_v217]
  simp only [v409 x1 x2 x3 x4 x5 x6 x7 x8 x9 x10 x11 x12 x13, v147 x1 x2, v493 x1 x2 x3 x4 x5 x6 x7 x8 x9 x10 x11 x12 x13]
  exact G_step (by omega) ..

theorem v501 (z : Fin 1) (h : Fin 8) (k v : Fin 128) :
    val_main_v501 (F := Ideal) x1 x2 x3 x4 x5 x6 x7 x8 x9 x10 x11 x12 x13 (ix4 z h k v) = refG x1 x2 x3 x4 x5 x6 x7 x8 x9 x10 x11 x12 x13 16 v (col h k) := by
  obtain rfl : z = 0 := Subsingleton.elim _ _
  pointwise [val_main_v500, val_main_v501, val_main_v427, val_main_v213]
  simp only [v409 x1 x2 x3 x4 x5 x6 x7 x8 x9 x10 x11 x12 x13, v147 x1 x2, v497 x1 x2 x3 x4 x5 x6 x7 x8 x9 x10 x11 x12 x13]
  exact G_step (by omega) ..

theorem v505 (z : Fin 1) (h : Fin 8) (k v : Fin 128) :
    val_main_v505 (F := Ideal) x1 x2 x3 x4 x5 x6 x7 x8 x9 x10 x11 x12 x13 (ix4 z h k v) = refG x1 x2 x3 x4 x5 x6 x7 x8 x9 x10 x11 x12 x13 17 v (col h k) := by
  obtain rfl : z = 0 := Subsingleton.elim _ _
  pointwise [val_main_v504, val_main_v505, val_main_v426, val_main_v209]
  simp only [v409 x1 x2 x3 x4 x5 x6 x7 x8 x9 x10 x11 x12 x13, v147 x1 x2, v501 x1 x2 x3 x4 x5 x6 x7 x8 x9 x10 x11 x12 x13]
  exact G_step (by omega) ..

theorem v509 (z : Fin 1) (h : Fin 8) (k v : Fin 128) :
    val_main_v509 (F := Ideal) x1 x2 x3 x4 x5 x6 x7 x8 x9 x10 x11 x12 x13 (ix4 z h k v) = refG x1 x2 x3 x4 x5 x6 x7 x8 x9 x10 x11 x12 x13 18 v (col h k) := by
  obtain rfl : z = 0 := Subsingleton.elim _ _
  pointwise [val_main_v508, val_main_v509, val_main_v425, val_main_v205]
  simp only [v409 x1 x2 x3 x4 x5 x6 x7 x8 x9 x10 x11 x12 x13, v147 x1 x2, v505 x1 x2 x3 x4 x5 x6 x7 x8 x9 x10 x11 x12 x13]
  exact G_step (by omega) ..

theorem v513 (z : Fin 1) (h : Fin 8) (k v : Fin 128) :
    val_main_v513 (F := Ideal) x1 x2 x3 x4 x5 x6 x7 x8 x9 x10 x11 x12 x13 (ix4 z h k v) = refG x1 x2 x3 x4 x5 x6 x7 x8 x9 x10 x11 x12 x13 19 v (col h k) := by
  obtain rfl : z = 0 := Subsingleton.elim _ _
  pointwise [val_main_v512, val_main_v513, val_main_v424, val_main_v201]
  simp only [v409 x1 x2 x3 x4 x5 x6 x7 x8 x9 x10 x11 x12 x13, v147 x1 x2, v509 x1 x2 x3 x4 x5 x6 x7 x8 x9 x10 x11 x12 x13]
  exact G_step (by omega) ..

theorem v517 (z : Fin 1) (h : Fin 8) (k v : Fin 128) :
    val_main_v517 (F := Ideal) x1 x2 x3 x4 x5 x6 x7 x8 x9 x10 x11 x12 x13 (ix4 z h k v) = refG x1 x2 x3 x4 x5 x6 x7 x8 x9 x10 x11 x12 x13 20 v (col h k) := by
  obtain rfl : z = 0 := Subsingleton.elim _ _
  pointwise [val_main_v516, val_main_v517, val_main_v423, val_main_v197]
  simp only [v409 x1 x2 x3 x4 x5 x6 x7 x8 x9 x10 x11 x12 x13, v147 x1 x2, v513 x1 x2 x3 x4 x5 x6 x7 x8 x9 x10 x11 x12 x13]
  exact G_step (by omega) ..

theorem v521 (z : Fin 1) (h : Fin 8) (k v : Fin 128) :
    val_main_v521 (F := Ideal) x1 x2 x3 x4 x5 x6 x7 x8 x9 x10 x11 x12 x13 (ix4 z h k v) = refG x1 x2 x3 x4 x5 x6 x7 x8 x9 x10 x11 x12 x13 21 v (col h k) := by
  obtain rfl : z = 0 := Subsingleton.elim _ _
  pointwise [val_main_v520, val_main_v521, val_main_v422, val_main_v193]
  simp only [v409 x1 x2 x3 x4 x5 x6 x7 x8 x9 x10 x11 x12 x13, v147 x1 x2, v517 x1 x2 x3 x4 x5 x6 x7 x8 x9 x10 x11 x12 x13]
  exact G_step (by omega) ..

theorem v525 (z : Fin 1) (h : Fin 8) (k v : Fin 128) :
    val_main_v525 (F := Ideal) x1 x2 x3 x4 x5 x6 x7 x8 x9 x10 x11 x12 x13 (ix4 z h k v) = refG x1 x2 x3 x4 x5 x6 x7 x8 x9 x10 x11 x12 x13 22 v (col h k) := by
  obtain rfl : z = 0 := Subsingleton.elim _ _
  pointwise [val_main_v524, val_main_v525, val_main_v421, val_main_v189]
  simp only [v409 x1 x2 x3 x4 x5 x6 x7 x8 x9 x10 x11 x12 x13, v147 x1 x2, v521 x1 x2 x3 x4 x5 x6 x7 x8 x9 x10 x11 x12 x13]
  exact G_step (by omega) ..

theorem v529 (z : Fin 1) (h : Fin 8) (k v : Fin 128) :
    val_main_v529 (F := Ideal) x1 x2 x3 x4 x5 x6 x7 x8 x9 x10 x11 x12 x13 (ix4 z h k v) = refG x1 x2 x3 x4 x5 x6 x7 x8 x9 x10 x11 x12 x13 23 v (col h k) := by
  obtain rfl : z = 0 := Subsingleton.elim _ _
  pointwise [val_main_v528, val_main_v529, val_main_v420, val_main_v185]
  simp only [v409 x1 x2 x3 x4 x5 x6 x7 x8 x9 x10 x11 x12 x13, v147 x1 x2, v525 x1 x2 x3 x4 x5 x6 x7 x8 x9 x10 x11 x12 x13]
  exact G_step (by omega) ..

theorem v533 (z : Fin 1) (h : Fin 8) (k v : Fin 128) :
    val_main_v533 (F := Ideal) x1 x2 x3 x4 x5 x6 x7 x8 x9 x10 x11 x12 x13 (ix4 z h k v) = refG x1 x2 x3 x4 x5 x6 x7 x8 x9 x10 x11 x12 x13 24 v (col h k) := by
  obtain rfl : z = 0 := Subsingleton.elim _ _
  pointwise [val_main_v532, val_main_v533, val_main_v419, val_main_v181]
  simp only [v409 x1 x2 x3 x4 x5 x6 x7 x8 x9 x10 x11 x12 x13, v147 x1 x2, v529 x1 x2 x3 x4 x5 x6 x7 x8 x9 x10 x11 x12 x13]
  exact G_step (by omega) ..

theorem v537 (z : Fin 1) (h : Fin 8) (k v : Fin 128) :
    val_main_v537 (F := Ideal) x1 x2 x3 x4 x5 x6 x7 x8 x9 x10 x11 x12 x13 (ix4 z h k v) = refG x1 x2 x3 x4 x5 x6 x7 x8 x9 x10 x11 x12 x13 25 v (col h k) := by
  obtain rfl : z = 0 := Subsingleton.elim _ _
  pointwise [val_main_v536, val_main_v537, val_main_v418, val_main_v177]
  simp only [v409 x1 x2 x3 x4 x5 x6 x7 x8 x9 x10 x11 x12 x13, v147 x1 x2, v533 x1 x2 x3 x4 x5 x6 x7 x8 x9 x10 x11 x12 x13]
  exact G_step (by omega) ..

theorem v541 (z : Fin 1) (h : Fin 8) (k v : Fin 128) :
    val_main_v541 (F := Ideal) x1 x2 x3 x4 x5 x6 x7 x8 x9 x10 x11 x12 x13 (ix4 z h k v) = refG x1 x2 x3 x4 x5 x6 x7 x8 x9 x10 x11 x12 x13 26 v (col h k) := by
  obtain rfl : z = 0 := Subsingleton.elim _ _
  pointwise [val_main_v540, val_main_v541, val_main_v417, val_main_v173]
  simp only [v409 x1 x2 x3 x4 x5 x6 x7 x8 x9 x10 x11 x12 x13, v147 x1 x2, v537 x1 x2 x3 x4 x5 x6 x7 x8 x9 x10 x11 x12 x13]
  exact G_step (by omega) ..

theorem v545 (z : Fin 1) (h : Fin 8) (k v : Fin 128) :
    val_main_v545 (F := Ideal) x1 x2 x3 x4 x5 x6 x7 x8 x9 x10 x11 x12 x13 (ix4 z h k v) = refG x1 x2 x3 x4 x5 x6 x7 x8 x9 x10 x11 x12 x13 27 v (col h k) := by
  obtain rfl : z = 0 := Subsingleton.elim _ _
  pointwise [val_main_v544, val_main_v545, val_main_v416, val_main_v169]
  simp only [v409 x1 x2 x3 x4 x5 x6 x7 x8 x9 x10 x11 x12 x13, v147 x1 x2, v541 x1 x2 x3 x4 x5 x6 x7 x8 x9 x10 x11 x12 x13]
  exact G_step (by omega) ..

theorem v549 (z : Fin 1) (h : Fin 8) (k v : Fin 128) :
    val_main_v549 (F := Ideal) x1 x2 x3 x4 x5 x6 x7 x8 x9 x10 x11 x12 x13 (ix4 z h k v) = refG x1 x2 x3 x4 x5 x6 x7 x8 x9 x10 x11 x12 x13 28 v (col h k) := by
  obtain rfl : z = 0 := Subsingleton.elim _ _
  pointwise [val_main_v548, val_main_v549, val_main_v415, val_main_v165]
  simp only [v409 x1 x2 x3 x4 x5 x6 x7 x8 x9 x10 x11 x12 x13, v147 x1 x2, v545 x1 x2 x3 x4 x5 x6 x7 x8 x9 x10 x11 x12 x13]
  exact G_step (by omega) ..

theorem v553 (z : Fin 1) (h : Fin 8) (k v : Fin 128) :
    val_main_v553 (F := Ideal) x1 x2 x3 x4 x5 x6 x7 x8 x9 x10 x11 x12 x13 (ix4 z h k v) = refG x1 x2 x3 x4 x5 x6 x7 x8 x9 x10 x11 x12 x13 29 v (col h k) := by
  obtain rfl : z = 0 := Subsingleton.elim _ _
  pointwise [val_main_v552, val_main_v553, val_main_v414, val_main_v161]
  simp only [v409 x1 x2 x3 x4 x5 x6 x7 x8 x9 x10 x11 x12 x13, v147 x1 x2, v549 x1 x2 x3 x4 x5 x6 x7 x8 x9 x10 x11 x12 x13]
  exact G_step (by omega) ..

theorem v557 (z : Fin 1) (h : Fin 8) (k v : Fin 128) :
    val_main_v557 (F := Ideal) x1 x2 x3 x4 x5 x6 x7 x8 x9 x10 x11 x12 x13 (ix4 z h k v) = refG x1 x2 x3 x4 x5 x6 x7 x8 x9 x10 x11 x12 x13 30 v (col h k) := by
  obtain rfl : z = 0 := Subsingleton.elim _ _
  pointwise [val_main_v556, val_main_v557, val_main_v413, val_main_v157]
  simp only [v409 x1 x2 x3 x4 x5 x6 x7 x8 x9 x10 x11 x12 x13, v147 x1 x2, v553 x1 x2 x3 x4 x5 x6 x7 x8 x9 x10 x11 x12 x13]
  exact G_step (by omega) ..

theorem v561 (z : Fin 1) (h : Fin 8) (k v : Fin 128) :
    val_main_v561 (F := Ideal) x1 x2 x3 x4 x5 x6 x7 x8 x9 x10 x11 x12 x13 (ix4 z h k v) = refG x1 x2 x3 x4 x5 x6 x7 x8 x9 x10 x11 x12 x13 31 v (col h k) := by
  obtain rfl : z = 0 := Subsingleton.elim _ _
  pointwise [val_main_v560, val_main_v561, val_main_v412, val_main_v153]
  simp only [v409 x1 x2 x3 x4 x5 x6 x7 x8 x9 x10 x11 x12 x13, v147 x1 x2, v557 x1 x2 x3 x4 x5 x6 x7 x8 x9 x10 x11 x12 x13]
  exact G_step (by omega) ..

set_option maxHeartbeats 2000000 in
/-- The gradient of the state each chunk ends with. -/
theorem v563 (n : Fin 32) (h : Fin 8) (k v : Fin 128) :
    val_main_v563 (F := Ideal) x1 x2 x3 x4 x5 x6 x7 x8 x9 x10 x11 x12 x13 (ix4 n h k v) = refG x1 x2 x3 x4 x5 x6 x7 x8 x9 x10 x11 x12 x13 (31 - n.val) v (col h k) := by
  pointwise [val_main_cst_43, val_main_v443, val_main_cst_44, val_main_v446, val_main_v447, val_main_cst_45, val_main_v450, val_main_v451, val_main_cst_46, val_main_v454, val_main_v455, val_main_cst_47, val_main_v458, val_main_v459, val_main_cst_48, val_main_v462, val_main_v463, val_main_cst_49, val_main_v466, val_main_v467, val_main_cst_50, val_main_v470, val_main_v471, val_main_cst_51, val_main_v474, val_main_v475, val_main_cst_52, val_main_v478, val_main_v479, val_main_cst_53, val_main_v482, val_main_v483, val_main_cst_54, val_main_v486, val_main_v487, val_main_cst_55, val_main_v490, val_main_v491, val_main_cst_56, val_main_v494, val_main_v495, val_main_cst_57, val_main_v498, val_main_v499, val_main_cst_58, val_main_v502, val_main_v503, val_main_cst_59, val_main_v506, val_main_v507, val_main_cst_60, val_main_v510, val_main_v511, val_main_cst_61, val_main_v514, val_main_v515, val_main_cst_62, val_main_v518, val_main_v519, val_main_cst_63, val_main_v522, val_main_v523, val_main_cst_64, val_main_v526, val_main_v527, val_main_cst_65, val_main_v530, val_main_v531, val_main_cst_66, val_main_v534, val_main_v535, val_main_cst_67, val_main_v538, val_main_v539, val_main_cst_68, val_main_v542, val_main_v543, val_main_cst_69, val_main_v546, val_main_v547, val_main_cst_70, val_main_v550, val_main_v551, val_main_cst_71, val_main_v554, val_main_v555, val_main_cst_72, val_main_v558, val_main_v559, val_main_cst_73, val_main_v562, val_main_v563]
  simp only [v442 x1 x2 x3 x4 x5 x6 x7 x8 x9 x10 x11 x12 x13, v445 x1 x2 x3 x4 x5 x6 x7 x8 x9 x10 x11 x12 x13, v449 x1 x2 x3 x4 x5 x6 x7 x8 x9 x10 x11 x12 x13, v453 x1 x2 x3 x4 x5 x6 x7 x8 x9 x10 x11 x12 x13, v457 x1 x2 x3 x4 x5 x6 x7 x8 x9 x10 x11 x12 x13, v461 x1 x2 x3 x4 x5 x6 x7 x8 x9 x10 x11 x12 x13, v465 x1 x2 x3 x4 x5 x6 x7 x8 x9 x10 x11 x12 x13, v469 x1 x2 x3 x4 x5 x6 x7 x8 x9 x10 x11 x12 x13, v473 x1 x2 x3 x4 x5 x6 x7 x8 x9 x10 x11 x12 x13, v477 x1 x2 x3 x4 x5 x6 x7 x8 x9 x10 x11 x12 x13, v481 x1 x2 x3 x4 x5 x6 x7 x8 x9 x10 x11 x12 x13, v485 x1 x2 x3 x4 x5 x6 x7 x8 x9 x10 x11 x12 x13, v489 x1 x2 x3 x4 x5 x6 x7 x8 x9 x10 x11 x12 x13, v493 x1 x2 x3 x4 x5 x6 x7 x8 x9 x10 x11 x12 x13, v497 x1 x2 x3 x4 x5 x6 x7 x8 x9 x10 x11 x12 x13, v501 x1 x2 x3 x4 x5 x6 x7 x8 x9 x10 x11 x12 x13, v505 x1 x2 x3 x4 x5 x6 x7 x8 x9 x10 x11 x12 x13, v509 x1 x2 x3 x4 x5 x6 x7 x8 x9 x10 x11 x12 x13, v513 x1 x2 x3 x4 x5 x6 x7 x8 x9 x10 x11 x12 x13, v517 x1 x2 x3 x4 x5 x6 x7 x8 x9 x10 x11 x12 x13, v521 x1 x2 x3 x4 x5 x6 x7 x8 x9 x10 x11 x12 x13, v525 x1 x2 x3 x4 x5 x6 x7 x8 x9 x10 x11 x12 x13, v529 x1 x2 x3 x4 x5 x6 x7 x8 x9 x10 x11 x12 x13, v533 x1 x2 x3 x4 x5 x6 x7 x8 x9 x10 x11 x12 x13, v537 x1 x2 x3 x4 x5 x6 x7 x8 x9 x10 x11 x12 x13, v541 x1 x2 x3 x4 x5 x6 x7 x8 x9 x10 x11 x12 x13, v545 x1 x2 x3 x4 x5 x6 x7 x8 x9 x10 x11 x12 x13, v549 x1 x2 x3 x4 x5 x6 x7 x8 x9 x10 x11 x12 x13, v553 x1 x2 x3 x4 x5 x6 x7 x8 x9 x10 x11 x12 x13, v557 x1 x2 x3 x4 x5 x6 x7 x8 x9 x10 x11 x12 x13, v561 x1 x2 x3 x4 x5 x6 x7 x8 x9 x10 x11 x12 x13]
  have h0 : refG x1 x2 x3 x4 x5 x6 x7 x8 x9 x10 x11 x12 x13 0 v (col h k) = 0 := rfl
  generalize hg : (fun a => refG x1 x2 x3 x4 x5 x6 x7 x8 x9 x10 x11 x12 x13 a v (col h k)) = g at *
  have e : ∀ a, refG x1 x2 x3 x4 x5 x6 x7 x8 x9 x10 x11 x12 x13 a v (col h k) = g a := fun a => congrFun hg a
  simp only [e, dite_eq_ite] at h0 ⊢
  obtain ⟨n, hn⟩ := n
  interval_cases n <;> simp [h0]

theorem v579 (n : Fin 32) (v : Fin 128) (j : Fin 1024) :
    val_main_v579 (F := Ideal) x1 x2 x3 x4 x5 x6 x7 x8 x9 x10 x11 x12 x13 (ix3 n v j) = refG x1 x2 x3 x4 x5 x6 x7 x8 x9 x10 x11 x12 x13 (31 - n.val) v j := by
  pointwise [val_main_v578, val_main_v579]
  simp only [v563 x1 x2 x3 x4 x5 x6 x7 x8 x9 x10 x11 x12 x13, col_mk]

theorem v580 (R : Fin 4096) (j : Fin 1024) :
    val_main_v580 (F := Ideal) x1 x2 x10 (ix2 R j) = A (refRows x1 x2 x3 x4 x5 x6 x7 x8 x9 x10 x11 x12 x13) R j := by
  pointwise [val_main_v580]
  simp only [v302 x1 x2 x3 x4 x5 x6 x7 x8 x9 x10 x11 x12 x13]

theorem v581 (R : Fin 4096) (j : Fin 1024) :
    val_main_v581 (F := Ideal) x1 x2 x3 x4 x5 x6 x7 x8 x10 (ix2 R j) = Mg (refRows x1 x2 x3 x4 x5 x6 x7 x8 x9 x10 x11 x12 x13) R j := by
  pointwise [val_main_v581]
  simp only [v327 x1 x2 x3 x4 x5 x6 x7 x8 x9 x10 x11 x12 x13]

theorem v582 (R : Fin 4096) (j : Fin 1024) :
    val_main_v582 (F := Ideal) x1 x2 x3 x4 x5 x6 x7 x8 x9 x10 x11 x12 x13 (ix2 R j) = dYa (refRows x1 x2 x3 x4 x5 x6 x7 x8 x9 x10 x11 x12 x13) R j := by
  pointwise [val_main_v582]
  simp only [v375 x1 x2 x3 x4 x5 x6 x7 x8 x9 x10 x11 x12 x13]

theorem v583 (R : Fin 4096) (j : Fin 1024) :
    val_main_v583 (F := Ideal) x1 x2 x3 x4 x5 x6 x7 x8 x9 x10 x11 x12 x13 (ix2 R j) = dYb (refRows x1 x2 x3 x4 x5 x6 x7 x8 x9 x10 x11 x12 x13) R j := by
  pointwise [val_main_v583]
  simp only [v372 x1 x2 x3 x4 x5 x6 x7 x8 x9 x10 x11 x12 x13]

theorem v584 (R : Fin 4096) (j : Fin 1024) :
    val_main_v584 (F := Ideal) x1 x2 x3 x4 x5 x6 x7 x8 x9 x10 x11 x12 x13 (ix2 R j) = dY (refRows x1 x2 x3 x4 x5 x6 x7 x8 x9 x10 x11 x12 x13) R j := by
  pointwise [val_main_v584]
  simp only [v370 x1 x2 x3 x4 x5 x6 x7 x8 x9 x10 x11 x12 x13]

theorem v573 (R : Fin 4096) (c : Fin 3072) :
    val_main_v573 (F := Ideal) x1 x2 x3 x4 x5 x6 x7 x8 x9 x10 x11 x12 x13 (ix2 R c) = dP (refRows x1 x2 x3 x4 x5 x6 x7 x8 x9 x10 x11 x12 x13) R c := by
  pointwise [val_main_v572, val_main_v573]
  simp only [v382 x1 x2 x3 x4 x5 x6 x7 x8 x9 x10 x11 x12 x13, v377 x1 x2 x3 x4 x5 x6 x7 x8 x9 x10 x11 x12 x13, v374 x1 x2 x3 x4 x5 x6 x7 x8 x9 x10 x11 x12 x13]
  rfl

theorem v571 (a : Fin 8) (j : Fin 1024) :
    val_main_v571 (F := Ideal) x1 x2 x3 x4 x5 x6 x7 x8 x9 x10 x11 x12 x13 (ix2 a j) = _root_.Cert.MixHand.acc (refRows x1 x2 x3 x4 x5 x6 x7 x8 x9 x10 x11 x12 x13) a j := by
  pointwise [val_main_v342, val_main_v343, val_main_v349, val_main_cst_33, val_main_v350, val_main_v351, val_main_v352, val_main_cst_34, val_main_v353, val_main_v354, val_main_v383, val_main_v384, val_main_cst_38, val_main_v385, val_main_v386, val_main_cst_39, val_main_v389, val_main_v404, val_main_cst_74, val_main_v564, val_main_v565, val_main_cst_75, val_main_v566, val_main_v567, val_main_cst_76, val_main_v568, val_main_v569, val_main_cst_77, val_main_v570, val_main_v571]
  simp only [v341 x1 x2 x3 x4 x5 x6 x7 x8 x9 x10 x11 x12 x13, v348 x1 x2 x3 x4 x5 x6 x7 x8 x9 x10 x11 x12 x13, v296 x1 x2 x3 x4 x5 x6 x7 x8 x9 x10 x11 x12 x13, v381 x1 x2 x3 x4 x5 x6 x7 x8 x9 x10 x11 x12 x13, v382 x1 x2 x3 x4 x5 x6 x7 x8 x9 x10 x11 x12 x13, v377 x1 x2 x3 x4 x5 x6 x7 x8 x9 x10 x11 x12 x13, v374 x1 x2 x3 x4 x5 x6 x7 x8 x9 x10 x11 x12 x13, col_mk]
  unfold _root_.Cert.MixHand.acc term
  match a with
  | 0 => rfl
  | 1 => rfl
  | 2 => exact (Fin.sum_univ_one fun _ => ∑ R, xh (refRows x1 x2 x3 x4 x5 x6 x7 x8 x9 x10 x11 x12 x13) R j * w (refRows x1 x2 x3 x4 x5 x6 x7 x8 x9 x10 x11 x12 x13) R j)
  | 3 => rfl
  | 4 => rfl
  | 5 => rfl
  | 6 => exact Finset.sum_const_zero.symm
  | 7 => exact Finset.sum_const_zero.symm

/-- The reference's run, its eleven results entry by entry. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v573) = fun i : S4096x3072.Idx =>
        dP (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v575) = fun i : S4096x1024.Idx =>
        dO (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v577) = fun i : S4096x1024.Idx =>
        dQe (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v579) = fun i : S32x128x1024.Idx =>
        refG (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (31 - (i 0).val) (i 1) (i 2)) ∧
      (r.2.mem ((c.tc : Thread nD τ).loc main_v378) = fun i : S4096x1024.Idx =>
        dAct (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v580) = fun i : S4096x1024.Idx =>
        A (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v581) = fun i : S4096x1024.Idx =>
        Mg (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v582) = fun i : S4096x1024.Idx =>
        dYa (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v583) = fun i : S4096x1024.Idx =>
        dYb (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v584) = fun i : S4096x1024.Idx =>
        dY (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) ∧
      (r.2.mem ((c.tc : Thread nD τ).loc main_v571) = fun i : S8x1024.Idx =>
        _root_.Cert.MixHand.acc (refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (i 0) (i 1)) :=
  (θ_run defs _ _).mono (fun r h c => by
    obtain ⟨h0, h1, h2, h3, h4, h5, h6, h7, h8, h9, h10, -⟩ := h c
    refine ⟨h0.trans ?_, h1.trans ?_, h2.trans ?_, h3.trans ?_, h4.trans ?_, h5.trans ?_, h6.trans ?_, h7.trans ?_, h8.trans ?_, h9.trans ?_, h10.trans ?_⟩
    · exact (val_main_v573_eq _).trans (funext fun i => (congrArg _ (eq_ix2 i)).trans (v573 ..))
    · exact (val_main_v575_eq _).trans (funext fun i => (congrArg _ (eq_ix2 i)).trans (v575 ..))
    · exact (val_main_v577_eq _).trans (funext fun i => (congrArg _ (eq_ix2 i)).trans (v577 ..))
    · exact (val_main_v579_eq _).trans (funext fun i => (congrArg _ (eq_ix3 i)).trans (v579 ..))
    · exact (val_main_v378_eq _).trans (funext fun i => (congrArg _ (eq_ix2 i)).trans (v378 ..))
    · exact (val_main_v580_eq _).trans (funext fun i => (congrArg _ (eq_ix2 i)).trans (v580 ..))
    · exact (val_main_v581_eq _).trans (funext fun i => (congrArg _ (eq_ix2 i)).trans (v581 ..))
    · exact (val_main_v582_eq _).trans (funext fun i => (congrArg _ (eq_ix2 i)).trans (v582 ..))
    · exact (val_main_v583_eq _).trans (funext fun i => (congrArg _ (eq_ix2 i)).trans (v583 ..))
    · exact (val_main_v584_eq _).trans (funext fun i => (congrArg _ (eq_ix2 i)).trans (v584 ..))
    · exact (val_main_v571_eq _).trans (funext fun i => (congrArg _ (eq_ix2 i)).trans (v571 ..))
    ) (Cert.MixRefIdeal.Value.run (F := Ideal) m ρ)

end Cert.MixRefIdeal.Hand
end
-- ==== Proof.MixHost.lean ====
module

public import proofs.«01_k».proof.Proof.MixTile
public import proofs.«01_k».proof.Proof.MixRef
public import Idealize.ShloMosaic.Lib.StableHlo.RunRead

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-! The host lines before the kernel and those of the reference compute the same arrays. -/

/-- What the arrays hold before the last stretch of host lines. -/
def V1 : (b : DevRef τ sig) → b.ty.Contents (Elt Ideal) :=
  StableHlo.after [hostOps0, hostOps0_1, hostOps0_2, hostOps0_3, hostOps0_4, hostOps0_5, hostOps0_6, hostOps0_7, hostOps0_8].flatten
    (fun b => m (c, b))

theorem V_last (b : DevRef τ sig) :
    StableHlo.after [hostOps0, hostOps0_1, hostOps0_2, hostOps0_3, hostOps0_4, hostOps0_5, hostOps0_6, hostOps0_7, hostOps0_8,
      hostOps0_9].flatten (fun b => m (c, b)) b = StableHlo.after hostOps0_9 (V1 m c) b := by
  rw [V1, ← StableHlo.after_append]
  rfl

/-- Equal pieces put together are equal. -/
theorem concat_ext {α : Type} {s : Shape} {d : Fin s.rank} {L L' : List ((t : Shape) × (t.Idx → α))}
    {h : Shape.Concatenates (L.map (·.1)) s d} {h' : Shape.Concatenates (L'.map (·.1)) s d} (e : L = L') :
    concatenate s d L h = concatenate s d L' h' := by
  subst e; rfl

theorem pair_ext {α : Type} {s : Shape} {x y : s.Idx → α} {L L' : List ((t : Shape) × (t.Idx → α))} (e : x = y)
    (e' : L = L') : (⟨s, x⟩ :: L : List ((t : Shape) × (t.Idx → α))) = ⟨s, y⟩ :: L' := by
  subst e e'; rfl

theorem nil_ext {α : Type} : ([] : List ((t : Shape) × (t.Idx → α))) = [] := rfl

theorem v1_110 : V1 m c (Proc.devRef .tc main_v110) = Cert.MixRefIdeal.Read.val_main_v110 (F := Ideal) (m ((c.tc : Thread nD τ).loc main_arg1)) := by
  unfold V1; after_reads_simp; rfl
theorem v1_112 : V1 m c (Proc.devRef .tc main_v112) = Cert.MixRefIdeal.Read.val_main_v112 (F := Ideal) (m ((c.tc : Thread nD τ).loc main_arg1)) (m ((c.tc : Thread nD τ).loc main_arg2)) := by
  unfold V1; after_reads_simp; rfl
theorem v1_114 : V1 m c (Proc.devRef .tc main_v114) = Cert.MixRefIdeal.Read.val_main_v114 (F := Ideal) (m ((c.tc : Thread nD τ).loc main_arg1)) := by
  unfold V1; after_reads_simp; rfl
theorem v1_119 : V1 m c (Proc.devRef .tc main_v119) = Cert.MixRefIdeal.Read.val_main_v119 (F := Ideal) (m ((c.tc : Thread nD τ).loc main_arg1)) (m ((c.tc : Thread nD τ).loc main_arg2)) := by
  unfold V1; after_reads_simp; rfl
theorem v1_126 : V1 m c (Proc.devRef .tc main_v126) = Cert.MixRefIdeal.Read.val_main_v126 (F := Ideal) (m ((c.tc : Thread nD τ).loc main_arg1)) (m ((c.tc : Thread nD τ).loc main_arg2)) := by
  unfold V1; after_reads_simp; rfl

/-- The shifted copies of the gated values. -/
theorem taps_42 : StableHlo.upto [hostOps0, hostOps0_1, hostOps0_2, hostOps0_3, hostOps0_4, hostOps0_5, hostOps0_6, hostOps0_7, hostOps0_8].flatten
    (fun b => m (c, b)) 47 (Proc.devRef .tc main_v42) = Cert.MixRefIdeal.Read.val_main_v42 (F := Ideal) (m ((c.tc : Thread nD τ).loc main_arg1)) := by
  after_reads_simp
  refine concat_ext ?_
  repeat' first | exact nil_ext | refine pair_ext ?_ ?_
  all_goals
    dsimp only [Matrix.cons_val]
    after_reads_simp
    rfl

/-- The shifted copies of the gated values. -/
theorem taps_43 : StableHlo.upto [hostOps0, hostOps0_1, hostOps0_2, hostOps0_3, hostOps0_4, hostOps0_5, hostOps0_6, hostOps0_7, hostOps0_8].flatten
    (fun b => m (c, b)) 47 (Proc.devRef .tc main_v43) = Cert.MixRefIdeal.Read.val_main_v43 (F := Ideal) (m ((c.tc : Thread nD τ).loc main_arg1)) := by
  after_reads_simp
  refine concat_ext ?_
  repeat' first | exact nil_ext | refine pair_ext ?_ ?_
  all_goals
    dsimp only [Matrix.cons_val]
    after_reads_simp
    rfl

theorem v1_74 : V1 m c (Proc.devRef .tc main_v74) = Cert.MixRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold V1
  after_reads_simp
  rw [taps_42, taps_43]
  rfl

/-- The queries, the inner result, the decays and the convolution branch, as the kernel is handed them. -/
theorem host_280 : V m c main_v280 = (truncf .bf16 (shapeCast S4096x1024 (transpose S32x128x8x128 [0, 2, 1, 3]
    (Cert.MixRefIdeal.Read.val_main_v143 (F := Ideal) (m ((c.tc : Thread nD τ).loc main_arg1)) (m ((c.tc : Thread nD τ).loc main_arg2)) : FVec Ideal S32x8x128x128 .f32) transposes_S32x8x128x128_S32x128x8x128_0_2_1_3)
    shapeCasts_S32x128x8x128_S4096x1024) bitsLt_bf16_f32 : FVec Ideal S4096x1024 .bf16) := by
  entry_read
  rw [V_last]
  after_reads_simp
  rw [v1_110, v1_119]
  rfl
theorem host_282 : V m c main_v282 = (shapeCast S4096x1024 (transpose S32x128x8x128 [0, 2, 1, 3]
    (Cert.MixRefIdeal.Read.val_main_v135 (F := Ideal) (m ((c.tc : Thread nD τ).loc main_arg1)) (m ((c.tc : Thread nD τ).loc main_arg2)) : FVec Ideal S32x8x128x128 .f32) transposes_S32x8x128x128_S32x128x8x128_0_2_1_3)
    shapeCasts_S32x128x8x128_S4096x1024 : FVec Ideal S4096x1024 .f32) := by
  entry_read
  rw [V_last]
  after_reads_simp
  rw [v1_110, v1_112, v1_114, v1_126]
  rfl
theorem host_287 : V m c main_v287 = (shapeCast S32x1x1024
    (Cert.MixRefIdeal.Read.val_main_v145 (F := Ideal) (m ((c.tc : Thread nD τ).loc main_arg1)) (m ((c.tc : Thread nD τ).loc main_arg2)) : FVec Ideal S32x8x128 .f32) shapeCasts_S32x8x128_S32x1x1024 : FVec Ideal S32x1x1024 .f32) := by
  entry_read
  rw [V_last]
  after_reads_simp
  rw [v1_119]
  rfl
theorem host_283 : V m c main_v283 = (truncf .bf16
    (Cert.MixRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) : FVec Ideal S4096x1024 .f32) bitsLt_bf16_f32 : FVec Ideal S4096x1024 .bf16) := by
  entry_read
  rw [V_last]
  after_reads_simp
  rw [v1_74]
theorem host_w : V m c main_v284 = (truncf .bf16 ((m ((c.tc : Thread nD τ).loc main_arg7)) : FVec Ideal S1024x1024 .f32) bitsLt_bf16_f32 : FVec Ideal S1024x1024 .bf16)
    ∧ V m c main_v285 = (truncf .bf16 ((m ((c.tc : Thread nD τ).loc main_arg8)) : FVec Ideal S1024x1024 .f32) bitsLt_bf16_f32 : FVec Ideal S1024x1024 .bf16)
    ∧ V m c main_v286 = (truncf .bf16 ((m ((c.tc : Thread nD τ).loc main_arg9)) : FVec Ideal S1024x1024 .f32) bitsLt_bf16_f32 : FVec Ideal S1024x1024 .bf16) := by
  refine ⟨?_, ?_, ?_⟩ <;>
    · entry_read
      after_reads_simp

end Cert.MixIdeal.Hand
end
-- ==== Proof.MixCarry.lean ====
module

public import proofs.«01_k».proof.Proof.MixHost

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-! The states the host lines carry from chunk to chunk are those of the reference. -/

theorem states_273 : StableHlo.upto hostOps0_9 (V1 m c) 150 (Proc.devRef .tc main_v273) = Cert.MixRefIdeal.Read.val_main_v273 (F := Ideal) (m ((c.tc : Thread nD τ).loc main_arg1)) (m ((c.tc : Thread nD τ).loc main_arg2)) := by
  after_reads_simp
  refine concat_ext ?_
  repeat' first | exact nil_ext | refine pair_ext ?_ ?_
  all_goals
    dsimp only [Matrix.cons_val]
    after_reads_simp
    try rw [v1_114]
    try rw [v1_119]
    try rw [v1_112]
    rfl

theorem states_274 : StableHlo.upto hostOps0_9 (V1 m c) 150 (Proc.devRef .tc main_v274) = Cert.MixRefIdeal.Read.val_main_v274 (F := Ideal) (m ((c.tc : Thread nD τ).loc main_arg1)) (m ((c.tc : Thread nD τ).loc main_arg2)) := by
  after_reads_simp
  refine concat_ext ?_
  repeat' first | exact nil_ext | refine pair_ext ?_ ?_
  all_goals
    dsimp only [Matrix.cons_val]
    after_reads_simp
    try rw [v1_114]
    try rw [v1_119]
    try rw [v1_112]
    rfl

theorem host_277 : V m c main_v277 = (shapeCast S32x128x1024 (transpose S32x128x8x128 [0, 3, 1, 2]
    (Cert.MixRefIdeal.Read.val_main_v275 (F := Ideal) (m ((c.tc : Thread nD τ).loc main_arg1)) (m ((c.tc : Thread nD τ).loc main_arg2)) : FVec Ideal S32x8x128x128 .f32) transposes_S32x8x128x128_S32x128x8x128_0_3_1_2)
    shapeCasts_S32x128x8x128_S32x128x1024 : FVec Ideal S32x128x1024 .f32) := by
  entry_read
  rw [V_last]
  after_reads_simp
  rw [states_273, states_274]
  rfl

end Cert.MixIdeal.Hand
end
-- ==== Proof.MixRead.lean ====
module

public import proofs.«01_k».proof.Proof.MixCarry

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-! The blocks a tile reads, in the arrays the reference computes. The tiles run from the last to the first. -/

theorem idx_in : ∀ t : Fin cfg0.N,
    win0_0.index t = ![15 - t.val, 3] ∧ win0_1.index t = ![15 - t.val, 6] ∧ win0_2.index t = ![15 - t.val, 7]
      ∧ win0_3.index t = ![15 - t.val, 0] ∧ win0_4.index t = ![15 - t.val, 0] ∧ win0_5.index t = ![15 - t.val, 0, 0]
      ∧ win0_6.index t = ![15 - t.val, 0] ∧ win0_7.index t = ![0, 0] ∧ win0_8.index t = ![0, 0] ∧ win0_9.index t = ![0, 0]
      ∧ win0_10.index t = ![0, 0] ∧ win0_11.index t = ![0, 0] ∧ win0_12.index t = ![0, 0] ∧ win0_13.index t = ![15 - t.val, 0]
      ∧ win0_14.index t = ![15 - t.val, 0, 0] :=
  (by decide +kernel : ∀ t : Fin grid0.N, _)
theorem idx_out : ∀ t : Fin cfg0.N,
    win0_15.index t = ![15 - t.val, 0] ∧ win0_16.index t = ![15 - t.val, 0]
      ∧ win0_17.index t = ![15 - t.val, 0] ∧ win0_18.index t = ![15 - t.val, 0, 0] ∧ win0_19.index t = ![15 - t.val, 0]
      ∧ win0_20.index t = ![15 - t.val, 0] ∧ win0_21.index t = ![15 - t.val, 0] ∧ win0_22.index t = ![15 - t.val, 0]
      ∧ win0_23.index t = ![15 - t.val, 0] ∧ win0_24.index t = ![15 - t.val, 0] ∧ win0_25.index t = ![0, 0] :=
  (by decide +kernel : ∀ t : Fin grid0.N, _)

/-- The rows of the whole sequence, from the arrays handed over. -/
def KX : Rows (Fin 4096) := Cert.MixRefIdeal.Hand.refRows (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
/-- The decays. -/
def KD : Fin 32 → Fin 1024 → EReal := Cert.MixRefIdeal.Hand.refDec (m ((c.tc : Thread nD τ).loc main_arg1)) (m ((c.tc : Thread nD τ).loc main_arg2))

/-- The row of the sequence that row `r` of a tile is. -/
def rowOf (t : Fin cfg0.N) (r : Fin 256) : Fin 4096 := ⟨(15 - t.val) * 256 + r.val, by omega⟩
/-- The chunk of the sequence that chunk `h` of a tile is. -/
def chOf (t : Fin cfg0.N) (h : Fin 2) : Fin 32 := ⟨(15 - t.val) * 2 + h.val, by omega⟩

theorem v280_at (R : Fin 4096) (j : Fin 1024) : (V m c main_v280 : FVec Ideal S4096x1024 .bf16) (ix2 R j) = (KX m c).qe R j := by
  rw [host_280]
  dsimp only [KX, Cert.MixRefIdeal.Hand.refRows]
  generalize (Cert.MixRefIdeal.Read.val_main_v143 (F := Ideal) (m ((c.tc : Thread nD τ).loc main_arg1)) (m ((c.tc : Thread nD τ).loc main_arg2)) : FVec Ideal S32x8x128x128 .f32) = a
  pointwise
  rfl
theorem v282_at (R : Fin 4096) (j : Fin 1024) : (V m c main_v282 : FVec Ideal S4096x1024 .f32) (ix2 R j) = (KX m c).inner R j := by
  rw [host_282]
  dsimp only [KX, Cert.MixRefIdeal.Hand.refRows]
  generalize (Cert.MixRefIdeal.Read.val_main_v135 (F := Ideal) (m ((c.tc : Thread nD τ).loc main_arg1)) (m ((c.tc : Thread nD τ).loc main_arg2)) : FVec Ideal S32x8x128x128 .f32) = a
  pointwise
  rfl
theorem v277_at (R : Fin 4096) (v : Fin 128) (j : Fin 1024) :
    (V m c main_v277 : FVec Ideal S32x128x1024 .f32) (ix3 (ch R) v j) = (KX m c).st R v j := by
  rw [host_277]
  dsimp only [KX, Cert.MixRefIdeal.Hand.refRows]
  generalize (Cert.MixRefIdeal.Read.val_main_v275 (F := Ideal) (m ((c.tc : Thread nD τ).loc main_arg1)) (m ((c.tc : Thread nD τ).loc main_arg2)) : FVec Ideal S32x8x128x128 .f32) = a
  pointwise
  rfl
theorem v283_at (R : Fin 4096) (j : Fin 1024) : (V m c main_v283 : FVec Ideal S4096x1024 .bf16) (ix2 R j) = (KX m c).act R j := by
  rw [host_283]
  dsimp only [KX, Cert.MixRefIdeal.Hand.refRows]
  generalize (Cert.MixRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) : FVec Ideal S4096x1024 .f32) = a
  pointwise
theorem v287_at (n : Fin 32) (j : Fin 1024) : (V m c main_v287 : FVec Ideal S32x1x1024 .f32) (ix3 n 0 j) = KD m c n j := by
  rw [host_287]
  dsimp only [KD, Cert.MixRefIdeal.Hand.refDec]
  generalize (Cert.MixRefIdeal.Read.val_main_v145 (F := Ideal) (m ((c.tc : Thread nD τ).loc main_arg1)) (m ((c.tc : Thread nD τ).loc main_arg2)) : FVec Ideal S32x8x128 .f32) = a
  pointwise
  rfl

variable (t : Fin cfg0.N) (r : Fin 256) (j : Fin 1024)

theorem blk_plain :
    (blk m c t).og (ix2 r j) = (KX m c).og (rowOf t r) j ∧ (blk m c t).ga (ix2 r j) = (KX m c).ga (rowOf t r) j
      ∧ (blk m c t).gb (ix2 r j) = (KX m c).gb (rowOf t r) j ∧ (blk m c t).dx (ix2 r j) = (KX m c).dx (rowOf t r) j
      ∧ (blk m c t).hg (ix2 0 j) = (KX m c).hg j ∧ (blk m c t).g1 (ix2 0 j) = (KX m c).g1 j
      ∧ (blk m c t).post (ix2 0 j) = (KX m c).post j := by
  dsimp only [blk, KX, Cert.MixRefIdeal.Hand.refRows]
  refine ⟨?_, ?_, ?_, ?_, ?_, ?_, ?_⟩ <;> blk_point [iblk, V, idx_in t, rowOf] <;> rfl

theorem blk_qe : (blk m c t).qe (ix2 r j) = (KX m c).qe (rowOf t r) j := by
  rw [← v280_at m c (rowOf t r) j]
  dsimp only [blk]
  generalize hV : (V m c main_v280 : FVec Ideal S4096x1024 .bf16) = a
  blk_simp [iblk]
  rw [hV]
  blk_ext [idx_in t, rowOf]
theorem blk_inner : (blk m c t).inner (ix2 r j) = (KX m c).inner (rowOf t r) j := by
  rw [← v282_at m c (rowOf t r) j]
  dsimp only [blk]
  generalize hV : (V m c main_v282 : FVec Ideal S4096x1024 .f32) = a
  blk_simp [iblk]
  rw [hV]
  blk_ext [idx_in t, rowOf]
theorem blk_act : (blk m c t).act (ix2 r j) = (KX m c).act (rowOf t r) j := by
  rw [← v283_at m c (rowOf t r) j]
  dsimp only [blk]
  generalize hV : (V m c main_v283 : FVec Ideal S4096x1024 .bf16) = a
  blk_simp [iblk]
  rw [hV]
  blk_ext [idx_in t, rowOf]
theorem blk_wa (k : Fin 1024) : (blk m c t).wa (ix2 k j) = (KX m c).wa k j := by
  have h : (KX m c).wa k j = (V m c main_v284 : FVec Ideal S1024x1024 .bf16) (ix2 k j) := by
    rw [(host_w m c).1]; rfl
  rw [h]
  dsimp only [blk]
  generalize hV : (V m c main_v284 : FVec Ideal S1024x1024 .bf16) = a
  blk_simp [iblk]
  rw [hV]
  blk_ext [idx_in t]
theorem blk_wb (k : Fin 1024) : (blk m c t).wb (ix2 k j) = (KX m c).wb k j := by
  have h : (KX m c).wb k j = (V m c main_v285 : FVec Ideal S1024x1024 .bf16) (ix2 k j) := by
    rw [(host_w m c).2.1]; rfl
  rw [h]
  dsimp only [blk]
  generalize hV : (V m c main_v285 : FVec Ideal S1024x1024 .bf16) = a
  blk_simp [iblk]
  rw [hV]
  blk_ext [idx_in t]
theorem blk_wo (k : Fin 1024) : (blk m c t).wo (ix2 k j) = (KX m c).wo k j := by
  have h : (KX m c).wo k j = (V m c main_v286 : FVec Ideal S1024x1024 .bf16) (ix2 k j) := by
    rw [(host_w m c).2.2]; rfl
  rw [h]
  dsimp only [blk]
  generalize hV : (V m c main_v286 : FVec Ideal S1024x1024 .bf16) = a
  blk_simp [iblk]
  rw [hV]
  blk_ext [idx_in t]

/-- The state block of a tile holds the states its two chunks meet. -/
theorem blk_states (h : Fin 2) (v : Fin 128) : (iblk m c 5 t : FVec Ideal S2x128x1024 .f32) (ix3 h v j)
    = (V m c main_v277 : FVec Ideal S32x128x1024 .f32) (ix3 (chOf t h) v j) := by
  generalize hV : (V m c main_v277 : FVec Ideal S32x128x1024 .f32) = a
  blk_simp [iblk]
  rw [hV]
  blk_ext [idx_in t, chOf]
theorem blk_decays (h : Fin 2) : (iblk m c 14 t : FVec Ideal S2x1x1024 .f32) (ix3 h 0 j) = KD m c (chOf t h) j := by
  rw [← v287_at m c (chOf t h) j]
  generalize hV : (V m c main_v287 : FVec Ideal S32x1x1024 .f32) = a
  blk_simp [iblk]
  rw [hV]
  blk_ext [idx_in t, chOf]

/-- One plane of a block, read by itself. -/
theorem plane_ld {n : ℕ} (h : Fin 2) (w : FVec Ideal ⟨3, ![2, n, 1024]⟩ .f32) (inb) (v : Fin n) (j : Fin 1024) :
    View.ld (Val := Elt Ideal) (S := ⟨3, ![2, n, 1024]⟩) (e' := .f32) w (Rect.unit ![h.val, 0, 0] ![1, n, 1024] inb) (ix3 0 v j)
      = w (ix3 h v j) :=
  View.ld_unit_apply_of _ _ _ _ _ _ fun a => by
    match a with
    | 0 => rfl
    | 1 => exact (Nat.zero_add _).symm
    | 2 => exact (Nat.zero_add _).symm

theorem dec0_at : dec0 m c t (ix3 0 0 j) = KD m c (chOf t 0) j := by
  rw [← blk_decays]
  exact plane_ld 0 _ _ _ _
theorem dec1_at : dec1 m c t (ix3 0 0 j) = KD m c (chOf t 1) j := by
  rw [← blk_decays]
  exact plane_ld 1 _ _ _ _

theorem blk_st (v : Fin 128) : (if r.val < 128 then (blk m c t).s0 (ix3 0 v j) else (blk m c t).s1 (ix3 0 v j)) = (KX m c).st (rowOf t r) v j := by
  rw [← v277_at m c (rowOf t r) v j]
  have ht : t.val < 16 := t.isLt
  split_ifs with h
  · refine Eq.trans ?_ ((blk_states m c t j 0 v).trans (congrArg (fun n => (V m c main_v277 : FVec Ideal S32x128x1024 .f32) (ix3 n v j)) (Fin.ext ?_)))
    · dsimp only [blk]
      exact plane_ld 0 _ _ _ _
    · show (15 - t.val) * 2 + 0 = ((15 - t.val) * 256 + r.val) / 128
      omega
  · refine Eq.trans ?_ ((blk_states m c t j 1 v).trans (congrArg (fun n => (V m c main_v277 : FVec Ideal S32x128x1024 .f32) (ix3 n v j)) (Fin.ext ?_)))
    · dsimp only [blk]
      exact plane_ld 1 _ _ _ _
    · show (15 - t.val) * 2 + 1 = ((15 - t.val) * 256 + r.val) / 128
      omega

/-- The rows of a tile are rows of the sequence. -/
theorem blk_rows : (blk m c t).rows = (KX m c).take (rowOf t) := by
  unfold Blocks.rows Rows.take
  have p := blk_plain m c t
  refine (Rows.mk.injEq ..).mpr ⟨?_, ?_, ?_, ?_, ?_, ?_, ?_, ?_, ?_, ?_, ?_, ?_, ?_, ?_⟩
  · exact funext fun r => funext fun j => blk_qe m c t r j
  · exact funext fun r => funext fun j => blk_inner m c t r j
  · exact funext fun r => funext fun v => funext fun j => blk_st m c t r j v
  · exact funext fun r => funext fun j => blk_act m c t r j
  · exact funext fun r => funext fun j => (p r j).1
  · exact funext fun r => funext fun j => (p r j).2.1
  · exact funext fun r => funext fun j => (p r j).2.2.1
  · exact funext fun r => funext fun j => (p r j).2.2.2.1
  · exact funext fun k => funext fun j => blk_wa m c t j k
  · exact funext fun k => funext fun j => blk_wb m c t j k
  · exact funext fun k => funext fun j => blk_wo m c t j k
  · exact funext fun j => (p 0 j).2.2.2.2.1
  · exact funext fun j => (p 0 j).2.2.2.2.2.1
  · exact funext fun j => (p 0 j).2.2.2.2.2.2

end Cert.MixIdeal.Hand
end
-- ==== Proof.MixPoint.lean ====
module

public import proofs.«01_k».proof.Proof.MixRead

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-! What the tiles leave, in the arrays the reference computes. -/

variable (t : Fin cfg0.N)

/-- The row-wise results of a tile. -/
theorem out_rows (r : Fin 256) :
    (∀ j, (outsAt0 m c t.val t.isLt).1 (ix2 r j) = dP (KX m c) (rowOf t r) j)
    ∧ (∀ j, (outsAt0 m c t.val t.isLt).2.1 (ix2 r j) = dO (KX m c) (rowOf t r) j)
    ∧ (∀ j, (outsAt0 m c t.val t.isLt).2.2.1 (ix2 r j) = dQe (KX m c) (rowOf t r) j)
    ∧ (∀ j, (outsAt0 m c t.val t.isLt).2.2.2.2.1 (ix2 r j) = dAct (KX m c) (rowOf t r) j)
    ∧ (∀ j, (outsAt0 m c t.val t.isLt).2.2.2.2.2.1 (ix2 r j) = A (KX m c) (rowOf t r) j)
    ∧ (∀ j, (outsAt0 m c t.val t.isLt).2.2.2.2.2.2.1 (ix2 r j) = Mg (KX m c) (rowOf t r) j)
    ∧ (∀ j, (outsAt0 m c t.val t.isLt).2.2.2.2.2.2.2.1 (ix2 r j) = dYa (KX m c) (rowOf t r) j)
    ∧ (∀ j, (outsAt0 m c t.val t.isLt).2.2.2.2.2.2.2.2.1 (ix2 r j) = dYb (KX m c) (rowOf t r) j)
    ∧ (∀ j, (outsAt0 m c t.val t.isLt).2.2.2.2.2.2.2.2.2.1 (ix2 r j) = dY (KX m c) (rowOf t r) j) := by
  have hr := blk_rows m c t
  have key : (∀ (r : Fin 256) (j : Fin 3072), (outsAt0 m c t.val t.isLt).1 (ix2 r j) = dP (blk m c t).rows r j)
      ∧ (outsAt0 m c t.val t.isLt).2.1 = v560 (blk m c t)
      ∧ (∀ (r : Fin 256) (j : Fin 1024), (outsAt0 m c t.val t.isLt).2.2.1 (ix2 r j) = dQe (blk m c t).rows r j)
      ∧ (outsAt0 m c t.val t.isLt).2.2.2.2.1 = v263 (blk m c t)
      ∧ (outsAt0 m c t.val t.isLt).2.2.2.2.2.1 = v181 (blk m c t)
      ∧ (outsAt0 m c t.val t.isLt).2.2.2.2.2.2.1 = v183 (blk m c t)
      ∧ (outsAt0 m c t.val t.isLt).2.2.2.2.2.2.2.1 = v254 (blk m c t)
      ∧ (outsAt0 m c t.val t.isLt).2.2.2.2.2.2.2.2.1 = v255 (blk m c t)
      ∧ (outsAt0 m c t.val t.isLt).2.2.2.2.2.2.2.2.2.1 = v229 (blk m c t) := by
    by_cases h : t.val % 16 = 0
    · obtain ⟨h0, h1, h2, -, h4, h5, h6, h7, h8, h9, -, -⟩ := tileA m c t h
      exact ⟨h0, h1, h2, h4, h5, h6, h7, h8, h9⟩
    · obtain ⟨h0, h1, h2, -, h4, h5, h6, h7, h8, h9, -, -⟩ := tileB m c t h
      exact ⟨h0, h1, h2, h4, h5, h6, h7, h8, h9⟩
  obtain ⟨h0, h1, h2, h4, h5, h6, h7, h8, h9⟩ := key
  refine ⟨fun j => ?_, fun j => ?_, fun j => ?_, fun j => ?_, fun j => ?_, fun j => ?_, fun j => ?_, fun j => ?_, fun j => ?_⟩
  · rw [h0, hr]; rfl
  · rw [h1, v560_apply, hr]; rfl
  · rw [h2, hr]; rfl
  · rw [h4, v263_apply, hr]; rfl
  · rw [h5]
    exact (v160_apply (blk m c t) r j).trans (by rw [hr]; rfl)
  · rw [h6]
    exact (v176_apply (blk m c t) r j).trans (by rw [hr]; rfl)
  · rw [h7]
    exact (v247_apply (blk m c t) r j).trans (by rw [hr]; rfl)
  · rw [h8]
    exact (v244_apply (blk m c t) r j).trans (by rw [hr]; rfl)
  · rw [h9, v229_apply, hr]; rfl

/-- What a tile's chunk adds to the carried gradient. -/
theorem chunk_vt (h : Fin 2) (v : Fin 128) (j : Fin 1024) : tileVt (blk m c t) h v j = Vt (KX m c) (chOf t h) v j := by
  unfold tileVt Vt
  rw [blk_rows]
  refine Finset.sum_congr rfl fun i _ => ?_
  have e : rowOf t (half h i) = chunkRow (chOf t h) i :=
    Fin.ext (by show (15 - t.val) * 256 + (h.val * 128 + i.val) = ((15 - t.val) * 2 + h.val) * 128 + i.val; omega)
  rw [← e]
  rfl

/-- The carried gradient through one tile. -/
theorem tile_carry (g : FVec Ideal S128x1024 .f32) (hg : ∀ v j, g (ix2 v j) = G (KX m c) (KD m c) (2 * t.val) v j)
    (v : Fin 128) (j : Fin 1024) :
    next1 (blk m c t) g (dec1 m c t) (ix2 v j) = G (KX m c) (KD m c) (2 * t.val + 1) v j
    ∧ next0 (blk m c t) (next1 (blk m c t) g (dec1 m c t)) (dec0 m c t) (ix2 v j) = G (KX m c) (KD m c) (2 * t.val + 1 + 1) v j := by
  have ht : t.val < 16 := t.isLt
  have h1 : next1 (blk m c t) g (dec1 m c t) (ix2 v j) = G (KX m c) (KD m c) (2 * t.val + 1) v j := by
    rw [next1_apply, dec1_at, chunk_vt, hg, add_comm]
    exact G_step (by show (15 - t.val) * 2 + 1 + 2 * t.val = 31; omega) v j
  refine ⟨h1, ?_⟩
  rw [next0_apply, dec0_at, chunk_vt, h1, add_comm]
  exact G_step (by show (15 - t.val) * 2 + 0 + (2 * t.val + 1) = 31; omega) v j

theorem start_zero (v : Fin 128) (j : Fin 1024) : k0_pay3 (F := Ideal) (ix2 v j) = G (KX m c) (KD m c) 0 v j := by
  unfold_payloads
  pointwise
  rfl

theorem carried (n : ℕ) (hn : n < cfg0.N) (v : Fin 128) (j : Fin 1024) :
    (outsAt0 m c n hn).2.2.2.2.2.2.2.2.2.2.2 (ix2 v j) = G (KX m c) (KD m c) (2 * n + 1 + 1) v j := by
  induction n generalizing v j with
  | zero => exact ((tileA m c ⟨0, hn⟩ rfl).2.2.2.2.2.2.2.2.2.2.2 v j).trans (tile_carry m c ⟨0, hn⟩ _ (start_zero m c) v j).2
  | succ n ih =>
    have h16 : n + 1 < 16 := hn
    exact ((tileB m c ⟨n + 1, hn⟩ (by dsimp only; omega)).2.2.2.2.2.2.2.2.2.2.2 v j).trans
      (tile_carry m c ⟨n + 1, hn⟩ _ (fun v j => ih (by omega) v j) v j).2

/-- The gradient of the state after each chunk of a tile. -/
theorem out_states (h : Fin 2) (v : Fin 128) (j : Fin 1024) :
    (outsAt0 m c t.val t.isLt).2.2.2.1 (ix3 h v j) = G (KX m c) (KD m c) (31 - (chOf t h).val) v j := by
  have ht : t.val < 16 := t.isLt
  have hh : h.val < 2 := h.isLt
  have key : ∀ g : FVec Ideal S128x1024 .f32, (∀ v j, g (ix2 v j) = G (KX m c) (KD m c) (2 * t.val) v j) →
      (if h.val = 0 then next1 (blk m c t) g (dec1 m c t) (ix2 v j) else g (ix2 v j)) = G (KX m c) (KD m c) (31 - (chOf t h).val) v j := by
    intro g hg
    split_ifs with h0
    · rw [(tile_carry m c t g hg v j).1]
      exact congrArg (fun k => G (KX m c) (KD m c) k v j) (by show 2 * t.val + 1 = 31 - ((15 - t.val) * 2 + h.val); omega)
    · rw [hg]
      exact congrArg (fun k => G (KX m c) (KD m c) k v j) (by show 2 * t.val = 31 - ((15 - t.val) * 2 + h.val); omega)
  by_cases h0 : t.val % 16 = 0
  · refine ((tileA m c t h0).2.2.2.1 h v j).trans (key _ fun v j => ?_)
    have e : t.val = 0 := by omega
    rw [e]
    exact start_zero m c v j
  · refine ((tileB m c t h0).2.2.2.1 h v j).trans (key _ fun v j => ?_)
    rw [carried]
    exact congrArg (fun k => G (KX m c) (KD m c) k v j) (by omega)

/-- The column sums of all tiles are those of the sequence. -/
theorem sums (a : Fin 8) (j : Fin 1024) :
    ∑ t : Fin cfg0.N, ∑ r, term (blk m c t).rows r a j = acc (KX m c) a j := by
  have hN : cfg0.N = 16 := N_0
  have e : ∀ t : Fin cfg0.N, (∑ r, term (blk m c t).rows r a j)
      = ∑ r : Fin 256, term (KX m c) ⟨(Fin.rev t).val * 256 + r.val, by have := (Fin.rev t).isLt; omega⟩ a j := by
    intro t
    rw [blk_rows]
    refine Finset.sum_congr rfl fun r _ => ?_
    have e : rowOf t r = ⟨(Fin.rev t).val * 256 + r.val, by have := (Fin.rev t).isLt; omega⟩ :=
      Fin.ext (by show (15 - t.val) * 256 + r.val = (Fin.rev t).val * 256 + r.val; rw [Fin.val_rev]; omega)
    rw [← e]
    rfl
  rw [Finset.sum_congr rfl fun t _ => e t]
  refine (Equiv.sum_comp Fin.revPerm (fun t : Fin cfg0.N => ∑ r : Fin 256, term (KX m c) ⟨t.val * 256 + r.val, by have := t.isLt; omega⟩ a j)).trans ?_
  exact Eq.trans rfl (Fin.sum_mul_add_congr (F := fun (t : Fin cfg0.N) (k : Fin 256) =>
      term (KX m c) ⟨t.val * 256 + k.val, by have := t.isLt; omega⟩ a j) fun s k hl => rfl)

end Cert.MixIdeal.Hand
end
-- ==== Proof.MixFinal.lean ====
module

public import proofs.«01_k».proof.Proof.MixPoint

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-! The arrays after the last tile, and the run. -/

theorem final16 : (dats m 0 c).arrAt 16 cfg0.N = fun i : S4096x1024.Idx => dO (KX m c) (i 0) (i 1) := by
  refine (dats m 0 c).arrAt_eq_of_covers 16 _ (by decide +kernel) fun t hf y => ?_
  rw [after0_16]
  blk_simp [idx_out t]
  have hy : (y 0).val < 256 := (y 0).isLt
  have hy1 : (y 1).val < 1024 := (y 1).isLt
  refine Eq.trans (congrArg _ ?_) (((out_rows m c t ⟨(y 0).val, hy⟩).2.1 ⟨(y 1).val, hy1⟩).trans ?_)
  · blk_ext
  · refine congrArg₂ (dO (KX m c)) (Fin.ext ?_) (Fin.ext ?_) <;> blk_simp [idx_out t, rowOf]

theorem final17 : (dats m 0 c).arrAt 17 cfg0.N = fun i : S4096x1024.Idx => dQe (KX m c) (i 0) (i 1) := by
  refine (dats m 0 c).arrAt_eq_of_covers 17 _ (by decide +kernel) fun t hf y => ?_
  rw [after0_17]
  blk_simp [idx_out t]
  have hy : (y 0).val < 256 := (y 0).isLt
  have hy1 : (y 1).val < 1024 := (y 1).isLt
  refine Eq.trans (congrArg _ ?_) (((out_rows m c t ⟨(y 0).val, hy⟩).2.2.1 ⟨(y 1).val, hy1⟩).trans ?_)
  · blk_ext
  · refine congrArg₂ (dQe (KX m c)) (Fin.ext ?_) (Fin.ext ?_) <;> blk_simp [idx_out t, rowOf]

theorem final19 : (dats m 0 c).arrAt 19 cfg0.N = fun i : S4096x1024.Idx => dAct (KX m c) (i 0) (i 1) := by
  refine (dats m 0 c).arrAt_eq_of_covers 19 _ (by decide +kernel) fun t hf y => ?_
  rw [after0_19]
  blk_simp [idx_out t]
  have hy : (y 0).val < 256 := (y 0).isLt
  have hy1 : (y 1).val < 1024 := (y 1).isLt
  refine Eq.trans (congrArg _ ?_) (((out_rows m c t ⟨(y 0).val, hy⟩).2.2.2.1 ⟨(y 1).val, hy1⟩).trans ?_)
  · blk_ext
  · refine congrArg₂ (dAct (KX m c)) (Fin.ext ?_) (Fin.ext ?_) <;> blk_simp [idx_out t, rowOf]

theorem final20 : (dats m 0 c).arrAt 20 cfg0.N = fun i : S4096x1024.Idx => A (KX m c) (i 0) (i 1) := by
  refine (dats m 0 c).arrAt_eq_of_covers 20 _ (by decide +kernel) fun t hf y => ?_
  rw [after0_20]
  blk_simp [idx_out t]
  have hy : (y 0).val < 256 := (y 0).isLt
  have hy1 : (y 1).val < 1024 := (y 1).isLt
  refine Eq.trans (congrArg _ ?_) (((out_rows m c t ⟨(y 0).val, hy⟩).2.2.2.2.1 ⟨(y 1).val, hy1⟩).trans ?_)
  · blk_ext
  · refine congrArg₂ (A (KX m c)) (Fin.ext ?_) (Fin.ext ?_) <;> blk_simp [idx_out t, rowOf]

theorem final21 : (dats m 0 c).arrAt 21 cfg0.N = fun i : S4096x1024.Idx => Mg (KX m c) (i 0) (i 1) := by
  refine (dats m 0 c).arrAt_eq_of_covers 21 _ (by decide +kernel) fun t hf y => ?_
  rw [after0_21]
  blk_simp [idx_out t]
  have hy : (y 0).val < 256 := (y 0).isLt
  have hy1 : (y 1).val < 1024 := (y 1).isLt
  refine Eq.trans (congrArg _ ?_) (((out_rows m c t ⟨(y 0).val, hy⟩).2.2.2.2.2.1 ⟨(y 1).val, hy1⟩).trans ?_)
  · blk_ext
  · refine congrArg₂ (Mg (KX m c)) (Fin.ext ?_) (Fin.ext ?_) <;> blk_simp [idx_out t, rowOf]

theorem final22 : (dats m 0 c).arrAt 22 cfg0.N = fun i : S4096x1024.Idx => dYa (KX m c) (i 0) (i 1) := by
  refine (dats m 0 c).arrAt_eq_of_covers 22 _ (by decide +kernel) fun t hf y => ?_
  rw [after0_22]
  blk_simp [idx_out t]
  have hy : (y 0).val < 256 := (y 0).isLt
  have hy1 : (y 1).val < 1024 := (y 1).isLt
  refine Eq.trans (congrArg _ ?_) (((out_rows m c t ⟨(y 0).val, hy⟩).2.2.2.2.2.2.1 ⟨(y 1).val, hy1⟩).trans ?_)
  · blk_ext
  · refine congrArg₂ (dYa (KX m c)) (Fin.ext ?_) (Fin.ext ?_) <;> blk_simp [idx_out t, rowOf]

theorem final23 : (dats m 0 c).arrAt 23 cfg0.N = fun i : S4096x1024.Idx => dYb (KX m c) (i 0) (i 1) := by
  refine (dats m 0 c).arrAt_eq_of_covers 23 _ (by decide +kernel) fun t hf y => ?_
  rw [after0_23]
  blk_simp [idx_out t]
  have hy : (y 0).val < 256 := (y 0).isLt
  have hy1 : (y 1).val < 1024 := (y 1).isLt
  refine Eq.trans (congrArg _ ?_) (((out_rows m c t ⟨(y 0).val, hy⟩).2.2.2.2.2.2.2.1 ⟨(y 1).val, hy1⟩).trans ?_)
  · blk_ext
  · refine congrArg₂ (dYb (KX m c)) (Fin.ext ?_) (Fin.ext ?_) <;> blk_simp [idx_out t, rowOf]

theorem final24 : (dats m 0 c).arrAt 24 cfg0.N = fun i : S4096x1024.Idx => dY (KX m c) (i 0) (i 1) := by
  refine (dats m 0 c).arrAt_eq_of_covers 24 _ (by decide +kernel) fun t hf y => ?_
  rw [after0_24]
  blk_simp [idx_out t]
  have hy : (y 0).val < 256 := (y 0).isLt
  have hy1 : (y 1).val < 1024 := (y 1).isLt
  refine Eq.trans (congrArg _ ?_) (((out_rows m c t ⟨(y 0).val, hy⟩).2.2.2.2.2.2.2.2 ⟨(y 1).val, hy1⟩).trans ?_)
  · blk_ext
  · refine congrArg₂ (dY (KX m c)) (Fin.ext ?_) (Fin.ext ?_) <;> blk_simp [idx_out t, rowOf]

theorem final18 : (dats m 0 c).arrAt 18 cfg0.N = fun i : S32x128x1024.Idx => G (KX m c) (KD m c) (31 - (i 0).val) (i 1) (i 2) := by
  refine (dats m 0 c).arrAt_eq_of_covers 18 _ (by decide +kernel) fun t hf y => ?_
  rw [after0_18]
  blk_simp [idx_out t]
  have hy : (y 0).val < 2 := (y 0).isLt
  have hy1 : (y 1).val < 128 := (y 1).isLt
  have hy2 : (y 2).val < 1024 := (y 2).isLt
  refine Eq.trans (congrArg _ ?_) ((out_states m c t ⟨(y 0).val, hy⟩ ⟨(y 1).val, hy1⟩ ⟨(y 2).val, hy2⟩).trans ?_)
  · blk_ext
  · refine congr (congr (congrArg (G (KX m c) (KD m c)) ?_) (Fin.ext ?_)) (Fin.ext ?_) <;> blk_simp [idx_out t, chOf]

theorem final25 : (dats m 0 c).arrAt 25 cfg0.N = fun i : S8x1024.Idx => acc (KX m c) (i 0) (i 1) := by
  refine (dats m 0 c).arrAt_eq_of_after_last 25 t0_15 (by decide +kernel) _ fun j => ?_
  blk_simp [idx_out t0_15]
  rw [after0_25]
  have h := Pipeline.eq_sum_fin_of_reset_step_apply_last
    (fun n h => fun i : Fin 8 × Fin 1024 => (outsAt0 m c n h).2.2.2.2.2.2.2.2.2.2.1 (ix2 i.1 i.2))
    16 (fun _ => 0) (fun t i => ∑ r, term (blk m c t).rows r i.1 i.2)
    (fun t h i => (tileA m c t h).2.2.2.2.2.2.2.2.2.2.1 i.1 i.2) (fun t h i => (tileB m c t h).2.2.2.2.2.2.2.2.2.2.1 i.1 i.2)
    (le_of_eq N_0) t0_15 rfl (j 0, j 1)
  refine Eq.trans (congrArg _ ?_) (h.trans ?_)
  · blk_ext
  · rw [zero_add]
    exact sums m c (j 0) (j 1)

end Cert.MixIdeal.Hand
end
-- ==== Proof.MixWide.lean ====
module

public import proofs.«01_k».proof.Proof.MixFinal

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-- The wide array of projection gradients: only its first columns are written. -/
def wideP (R : Fin 4096) (q : Fin 8192) : EReal := if h : q.val < 3072 then dP (KX m c) R ⟨q.val, h⟩ else 0

theorem cov15 : (cfg0.win 15).CoversWhere (fun β => β (1 : Fin 2) = 0) := by decide +kernel

theorem size15 (t : Fin cfg0.N) : ((cfg0.win 15).xblock (cfg0.grid.coords t)).size 0 = 256
    ∧ ((cfg0.win 15).xblock (cfg0.grid.coords t)).size 1 = 3072 := by
  revert t; decide +kernel

theorem wide_at (X : Fin 4096) (y : Fin 3072) (R : Fin 4096) (Q : Fin 8192) (hr : R.val = X.val) (hq : Q.val = y.val) :
    dP (KX m c) X y = wideP m c R Q := by
  obtain rfl := Fin.ext hr
  unfold wideP
  rw [dif_pos (hq ▸ y.isLt)]
  exact congrArg _ (Fin.ext hq.symm)

theorem point15 (t : Fin cfg0.N) (y : ((cfg0.win 15).xblock (cfg0.grid.coords t)).Idx) :
    _root_.cast (congrArg (Elt Ideal) ((cfg0.win 15).blk t).view.elt_eq.symm) ((dats m 0 c).after 15 t ((cfg0.win 15).xinj (cfg0.grid.coords t) y))
      = (fun i : S4096x8192.Idx => wideP m c (i 0) (i 1)) (((cfg0.win 15).blk t).view.emb y) := by
  rw [after0_15]
  blk_simp [idx_out t]
  have hy : (y 0).val < 256 := (size15 t).1 ▸ (y 0).isLt
  have hy1 : (y 1).val < 3072 := (size15 t).2 ▸ (y 1).isLt
  generalize hz : (⟨(y 0).val, hy⟩ : Fin 256) = z
  generalize hz1 : (⟨(y 1).val, hy1⟩ : Fin 3072) = z1
  have h := (out_rows m c t z).1 z1
  generalize (outsAt0 m c t.val t.isLt).1 = a at h ⊢
  refine Eq.trans (congrArg a ?_) (h.trans ?_)
  · subst hz hz1; blk_ext
  · subst hz hz1; apply wide_at <;> blk_simp [idx_out t, rowOf]

theorem final15 (R : Fin 4096) (q : Fin 3072) (h : q.val < 8192) :
    ((dats m 0 c).arrAt 15 cfg0.N : FVec Ideal S4096x8192 .bf16) (ix2 R ⟨q.val, h⟩) = dP (KX m c) R q := by
  have key := (dats m 0 c).arrAt_apply_of_coversWhere 15 (fun i : S4096x8192.Idx => wideP m c (i 0) (i 1))
    (P := fun i : S4096x8192.Idx => (i 1).val / 3072 = 0) (fun β => β (1 : Fin 2) = 0) cov15 (fun t _ y => point15 m c t y)
    (fun j => Iff.rfl) (ix2 R ⟨q.val, h⟩)
  refine key.trans ((if_pos ?_).trans ?_)
  · exact Nat.div_eq_of_lt q.isLt
  · exact (wide_at m c R q R ⟨q.val, h⟩ rfl rfl).symm

end Cert.MixIdeal.Hand
end
-- ==== Proof.MixRun.lean ====
module

public import proofs.«01_k».proof.Proof.MixWide

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixIdeal.Hand

open Cert.MixIdeal Cert.MixIdeal.Gen

variable (m : (ℓ : Loc nD τ sig) → Buf (Elt Ideal) ℓ) (c : Dev nD)

/-- The columns kept of the wide array. -/
theorem tail_289 : Pipeline.afterTail₀ cfgs (dats m) 0 (V0 m) [hostOps1] c main_v289 = fun i : S4096x3072.Idx => dP (KX m c) (i 0) (i 1) := by
  have e := Pipeline.Dat.withArrays_arrAt (dats m 0 c) sharedIn0 (V0 m c) (A_eq m c) 15
  unfold Pipeline.afterTail₀
  change StableHlo.after [hostOps1].flatten (Pipeline.withArrays (cfgs 0).spec c (V0 m c) fun w => (dats m 0 c).arrAt w (cfgs 0).N) (Proc.devRef .tc main_v289) = _
  change Pipeline.withArrays (cfgs 0).spec c (V0 m c) (fun w => (dats m 0 c).arrAt w (cfgs 0).N) (Proc.devRef .tc main_v288_0) = _ at e
  generalize Pipeline.withArrays (cfgs 0).spec c (V0 m c) (fun w => (dats m 0 c).arrAt w (cfgs 0).N) = W at e ⊢
  after_reads_simp
  rw [e]
  funext i
  have h1 : (i 1).val < 3072 := (i 1).isLt
  refine Eq.trans ?_ (final15 m c (i 0) (i 1) (by omega))
  generalize (dats m 0 c).arrAt 15 cfg0.N = a
  pointwise

/-- The run, its eleven results entry by entry. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v289) = fun i : S4096x3072.Idx => dP (KX m c) (i 0) (i 1))
      ∧ (r.2.mem ((c.tc : Thread nD τ).loc main_v288_1) = fun i : S4096x1024.Idx => dO (KX m c) (i 0) (i 1))
      ∧ (r.2.mem ((c.tc : Thread nD τ).loc main_v288_2) = fun i : S4096x1024.Idx => dQe (KX m c) (i 0) (i 1))
      ∧ (r.2.mem ((c.tc : Thread nD τ).loc main_v288_3) = fun i : S32x128x1024.Idx => G (KX m c) (KD m c) (31 - (i 0).val) (i 1) (i 2))
      ∧ (r.2.mem ((c.tc : Thread nD τ).loc main_v288_4) = fun i : S4096x1024.Idx => dAct (KX m c) (i 0) (i 1))
      ∧ (r.2.mem ((c.tc : Thread nD τ).loc main_v288_5) = fun i : S4096x1024.Idx => A (KX m c) (i 0) (i 1))
      ∧ (r.2.mem ((c.tc : Thread nD τ).loc main_v288_6) = fun i : S4096x1024.Idx => Mg (KX m c) (i 0) (i 1))
      ∧ (r.2.mem ((c.tc : Thread nD τ).loc main_v288_7) = fun i : S4096x1024.Idx => dYa (KX m c) (i 0) (i 1))
      ∧ (r.2.mem ((c.tc : Thread nD τ).loc main_v288_8) = fun i : S4096x1024.Idx => dYb (KX m c) (i 0) (i 1))
      ∧ (r.2.mem ((c.tc : Thread nD τ).loc main_v288_9) = fun i : S4096x1024.Idx => dY (KX m c) (i 0) (i 1))
      ∧ (r.2.mem ((c.tc : Thread nD τ).loc main_v288_10) = fun i : S8x1024.Idx => acc (KX m c) (i 0) (i 1)) :=
  (θ_run defs _ _).mono (fun r h c => ⟨((h c).2 main_v289 (by decide)).trans (tail_289 m c),
    ((h c).1 16).trans (final16 m c), ((h c).1 17).trans (final17 m c), ((h c).1 18).trans (final18 m c), ((h c).1 19).trans (final19 m c), ((h c).1 20).trans (final20 m c), ((h c).1 21).trans (final21 m c), ((h c).1 22).trans (final22 m c), ((h c).1 23).trans (final23 m c), ((h c).1 24).trans (final24 m c), ((h c).1 25).trans (final25 m c)⟩) (Gen.run_main m ρ)

end Cert.MixIdeal.Hand
end
-- ==== Proof.MixClaim.lean ====
/- The two claims about the mixing call's results: the reference keeps its arguments, and both programs leave the same
   eleven arrays. -/
module

public import proofs.«01_k».proof.Defs
public import proofs.«01_k».proof.Proof.MixRun

@[expose] public section

noncomputable section

namespace Cert.Proof

open Idealize.ShloMosaic Idealize.SL.Sem

/-- The reference of the mixing call runs and leaves its arguments. -/
theorem quiescent_mixRef : Cert.quiescent_MixRefIdeal := fun m ρ _ =>
  (θ_run Cert.MixRefIdeal.defs _ _).mono
    (fun r h => ⟨fun c => (h c).2.2.2.2.2.2.2.2.2.2.2, Idealize.ShloMosaic.sem_eq_zero_of_no_sems (by decide) r.2⟩)
    (Cert.MixRefIdeal.Value.run (F := Ideal) m ρ)

set_option maxRecDepth 16384 in
/-- From equal arguments the eleven results of the mixing call and of its reference are the same arrays. -/
theorem algebraic_mix : Cert.algebraic_MixIdeal_MixRefIdeal := by
  intro m g m' g' _ hagree
  refine ⟨fun c => fun i : Cert.MixIdeal.S4096x3072.Idx => Cert.MixHand.dP (Cert.MixIdeal.Hand.KX m c) (i 0) (i 1),
    fun c => fun i : Cert.MixIdeal.S4096x1024.Idx => Cert.MixHand.dO (Cert.MixIdeal.Hand.KX m c) (i 0) (i 1),
    fun c => fun i : Cert.MixIdeal.S4096x1024.Idx => Cert.MixHand.dQe (Cert.MixIdeal.Hand.KX m c) (i 0) (i 1),
    fun c => fun i : Cert.MixIdeal.S32x128x1024.Idx => Cert.MixHand.G (Cert.MixIdeal.Hand.KX m c) (Cert.MixIdeal.Hand.KD m c) (31 - (i 0).val) (i 1) (i 2),
    fun c => fun i : Cert.MixIdeal.S4096x1024.Idx => Cert.MixHand.dAct (Cert.MixIdeal.Hand.KX m c) (i 0) (i 1),
    fun c => fun i : Cert.MixIdeal.S4096x1024.Idx => Cert.MixHand.A (Cert.MixIdeal.Hand.KX m c) (i 0) (i 1),
    fun c => fun i : Cert.MixIdeal.S4096x1024.Idx => Cert.MixHand.Mg (Cert.MixIdeal.Hand.KX m c) (i 0) (i 1),
    fun c => fun i : Cert.MixIdeal.S4096x1024.Idx => Cert.MixHand.dYa (Cert.MixIdeal.Hand.KX m c) (i 0) (i 1),
    fun c => fun i : Cert.MixIdeal.S4096x1024.Idx => Cert.MixHand.dYb (Cert.MixIdeal.Hand.KX m c) (i 0) (i 1),
    fun c => fun i : Cert.MixIdeal.S4096x1024.Idx => Cert.MixHand.dY (Cert.MixIdeal.Hand.KX m c) (i 0) (i 1),
    fun c => fun i : Cert.MixIdeal.S8x1024.Idx => Cert.MixHand.acc (Cert.MixIdeal.Hand.KX m c) (i 0) (i 1),
    (θ_run Cert.MixIdeal.defs _ _).mono (fun r h c => ?_)
      (θ_run_and (Cert.MixIdeal.Hand.run_rows m g) (Cert.MixIdeal.Gen.unchanged m g)),
    (θ_run Cert.MixRefIdeal.defs _ _).mono (fun r h c => ?_)
      (θ_run_and (Cert.MixRefIdeal.Hand.run_rows m' g') (Cert.MixRefIdeal.Value.run (F := Ideal) m' g'))⟩
  · obtain ⟨k1, k2, k3, k4, k5, k6, k7, k8, k9, k10, k11⟩ := h.1 c
    exact ⟨k1, k2, k3, k4, k5, k6, k7, k8, k9, k10, k11, h.2 c⟩
  · obtain ⟨r1, r2, r3, r4, r5, r6, r7, r8, r9, r10, r11⟩ := h.1 c
    obtain ⟨-, h1, h2, h3, h4, h5, h6, h7, h8, h9, h10, h11, h12, h13⟩ := hagree c
    rw [h1, h2, h3, h4, h5, h6, h7, h8, h9, h10, h11, h12, h13] at r1 r2 r3 r4 r5 r6 r7 r8 r9 r10 r11
    exact ⟨r1, r2, r3, r4, r5, r6, r7, r8, r9, r10, r11, (h.2 c).2.2.2.2.2.2.2.2.2.2.2⟩

end Cert.Proof

end
-- ==== Proof.MixFwdRow.lean ====
module

public import proofs.«01_k».proof.Proof.MixRow

@[expose] public section

noncomputable section

open Idealize.ShloMosaic

namespace Cert.MixHand

/-- The mixing step's result: the residual input, which stands among the rows in the place the backward pass has for its
    cotangent, and the gated, normalised and weighted output. -/
def X1 {R : Type} (X : Rows R) (r : R) (j : Fin 1024) : EReal := X.dx r j + X.g1 j * (yh X r j * X.post j)

end Cert.MixHand

end
-- ==== Proof.MixFwdHost.lean ====
module

public import proofs.«01_k».proof.Proof.Gen.MixFwdIdeal.Frame
public import proofs.«01_k».proof.Proof.MixFwdRow
public import proofs.«01_k».proof.Proof.Gen.MixFwdRefIdeal.Read
public import Idealize.ShloMosaic.Lib.Pipeline.ValueKit
public import Idealize.ShloMosaic.Lib.Claim
public import Idealize.ShloMosaic.Lib.StableHlo.RunRead

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixFwdIdeal.Hand

open Cert.MixFwdIdeal Cert.MixFwdIdeal.Gen

variable (m : (ℓ : Loc nD τ sig) → Buf (Elt Ideal) ℓ) (c : Dev nD)

/-! The host lines before the kernel and those of the reference compute the same arrays. -/

/-- What the arrays hold before the last stretch of host lines. -/
def V1 : (b : DevRef τ sig) → b.ty.Contents (Elt Ideal) :=
  StableHlo.after [hostOps0, hostOps0_1, hostOps0_2, hostOps0_3, hostOps0_4, hostOps0_5, hostOps0_6, hostOps0_7, hostOps0_8].flatten
    (fun b => m (c, b))

theorem V_last (b : DevRef τ sig) :
    StableHlo.after [hostOps0, hostOps0_1, hostOps0_2, hostOps0_3, hostOps0_4, hostOps0_5, hostOps0_6, hostOps0_7, hostOps0_8,
      hostOps0_9].flatten (fun b => m (c, b)) b = StableHlo.after hostOps0_9 (V1 m c) b := by
  rw [V1, ← StableHlo.after_append]
  rfl

/-- Equal pieces put together are equal. -/
theorem concat_ext {α : Type} {s : Shape} {d : Fin s.rank} {L L' : List ((t : Shape) × (t.Idx → α))}
    {h : Shape.Concatenates (L.map (·.1)) s d} {h' : Shape.Concatenates (L'.map (·.1)) s d} (e : L = L') :
    concatenate s d L h = concatenate s d L' h' := by
  subst e; rfl

theorem pair_ext {α : Type} {s : Shape} {x y : s.Idx → α} {L L' : List ((t : Shape) × (t.Idx → α))} (e : x = y)
    (e' : L = L') : (⟨s, x⟩ :: L : List ((t : Shape) × (t.Idx → α))) = ⟨s, y⟩ :: L' := by
  subst e e'; rfl

theorem nil_ext {α : Type} : ([] : List ((t : Shape) × (t.Idx → α))) = [] := rfl

theorem v1_110 : V1 m c (Proc.devRef .tc main_v110) = Cert.MixFwdRefIdeal.Read.val_main_v110 (F := Ideal) (m ((c.tc : Thread nD τ).loc main_arg1)) := by
  unfold V1; after_reads_simp; rfl
theorem v1_112 : V1 m c (Proc.devRef .tc main_v112) = Cert.MixFwdRefIdeal.Read.val_main_v112 (F := Ideal) (m ((c.tc : Thread nD τ).loc main_arg1)) (m ((c.tc : Thread nD τ).loc main_arg2)) := by
  unfold V1; after_reads_simp; rfl
theorem v1_114 : V1 m c (Proc.devRef .tc main_v114) = Cert.MixFwdRefIdeal.Read.val_main_v114 (F := Ideal) (m ((c.tc : Thread nD τ).loc main_arg1)) := by
  unfold V1; after_reads_simp; rfl
theorem v1_119 : V1 m c (Proc.devRef .tc main_v119) = Cert.MixFwdRefIdeal.Read.val_main_v119 (F := Ideal) (m ((c.tc : Thread nD τ).loc main_arg1)) (m ((c.tc : Thread nD τ).loc main_arg2)) := by
  unfold V1; after_reads_simp; rfl
theorem v1_126 : V1 m c (Proc.devRef .tc main_v126) = Cert.MixFwdRefIdeal.Read.val_main_v126 (F := Ideal) (m ((c.tc : Thread nD τ).loc main_arg1)) (m ((c.tc : Thread nD τ).loc main_arg2)) := by
  unfold V1; after_reads_simp; rfl

/-- The shifted copies of the gated values. -/
theorem taps_42 : StableHlo.upto [hostOps0, hostOps0_1, hostOps0_2, hostOps0_3, hostOps0_4, hostOps0_5, hostOps0_6, hostOps0_7, hostOps0_8].flatten
    (fun b => m (c, b)) 47 (Proc.devRef .tc main_v42) = Cert.MixFwdRefIdeal.Read.val_main_v42 (F := Ideal) (m ((c.tc : Thread nD τ).loc main_arg1)) := by
  after_reads_simp
  refine concat_ext ?_
  repeat' first | exact nil_ext | refine pair_ext ?_ ?_
  all_goals
    dsimp only [Matrix.cons_val]
    after_reads_simp
    rfl

/-- The shifted copies of the gated values. -/
theorem taps_43 : StableHlo.upto [hostOps0, hostOps0_1, hostOps0_2, hostOps0_3, hostOps0_4, hostOps0_5, hostOps0_6, hostOps0_7, hostOps0_8].flatten
    (fun b => m (c, b)) 47 (Proc.devRef .tc main_v43) = Cert.MixFwdRefIdeal.Read.val_main_v43 (F := Ideal) (m ((c.tc : Thread nD τ).loc main_arg1)) := by
  after_reads_simp
  refine concat_ext ?_
  repeat' first | exact nil_ext | refine pair_ext ?_ ?_
  all_goals
    dsimp only [Matrix.cons_val]
    after_reads_simp
    rfl

theorem v1_74 : V1 m c (Proc.devRef .tc main_v74) = Cert.MixFwdRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold V1
  after_reads_simp
  rw [taps_42, taps_43]
  rfl

/-- The queries, the inner result and the convolution branch, as the kernel is handed them. -/
theorem host_280 : V m c main_v280 = (truncf .bf16 (shapeCast S4096x1024 (transpose S32x128x8x128 [0, 2, 1, 3]
    (Cert.MixFwdRefIdeal.Read.val_main_v143 (F := Ideal) (m ((c.tc : Thread nD τ).loc main_arg1)) (m ((c.tc : Thread nD τ).loc main_arg2)) : FVec Ideal S32x8x128x128 .f32) transposes_S32x8x128x128_S32x128x8x128_0_2_1_3)
    shapeCasts_S32x128x8x128_S4096x1024) bitsLt_bf16_f32 : FVec Ideal S4096x1024 .bf16) := by
  entry_read
  rw [V_last]
  after_reads_simp
  rw [v1_110, v1_119]
  rfl
theorem host_282 : V m c main_v282 = (shapeCast S4096x1024 (transpose S32x128x8x128 [0, 2, 1, 3]
    (Cert.MixFwdRefIdeal.Read.val_main_v135 (F := Ideal) (m ((c.tc : Thread nD τ).loc main_arg1)) (m ((c.tc : Thread nD τ).loc main_arg2)) : FVec Ideal S32x8x128x128 .f32) transposes_S32x8x128x128_S32x128x8x128_0_2_1_3)
    shapeCasts_S32x128x8x128_S4096x1024 : FVec Ideal S4096x1024 .f32) := by
  entry_read
  rw [V_last]
  after_reads_simp
  rw [v1_110, v1_112, v1_114, v1_126]
  rfl
theorem host_283 : V m c main_v283 = (truncf .bf16
    (Cert.MixFwdRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) : FVec Ideal S4096x1024 .f32) bitsLt_bf16_f32 : FVec Ideal S4096x1024 .bf16) := by
  entry_read
  rw [V_last]
  after_reads_simp
  rw [v1_74]
theorem host_w : V m c main_v284 = (truncf .bf16 ((m ((c.tc : Thread nD τ).loc main_arg7)) : FVec Ideal S1024x1024 .f32) bitsLt_bf16_f32 : FVec Ideal S1024x1024 .bf16)
    ∧ V m c main_v285 = (truncf .bf16 ((m ((c.tc : Thread nD τ).loc main_arg8)) : FVec Ideal S1024x1024 .f32) bitsLt_bf16_f32 : FVec Ideal S1024x1024 .bf16)
    ∧ V m c main_v286 = (truncf .bf16 ((m ((c.tc : Thread nD τ).loc main_arg9)) : FVec Ideal S1024x1024 .f32) bitsLt_bf16_f32 : FVec Ideal S1024x1024 .bf16) := by
  refine ⟨?_, ?_, ?_⟩ <;>
    · entry_read
      after_reads_simp

end Cert.MixFwdIdeal.Hand
end
-- ==== Proof.MixFwdCarry.lean ====
module

public import proofs.«01_k».proof.Proof.MixFwdHost

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixFwdIdeal.Hand

open Cert.MixFwdIdeal Cert.MixFwdIdeal.Gen

variable (m : (ℓ : Loc nD τ sig) → Buf (Elt Ideal) ℓ) (c : Dev nD)

/-! The states the host lines carry from chunk to chunk are those of the reference. -/

theorem states_273 : StableHlo.upto hostOps0_9 (V1 m c) 150 (Proc.devRef .tc main_v273) = Cert.MixFwdRefIdeal.Read.val_main_v273 (F := Ideal) (m ((c.tc : Thread nD τ).loc main_arg1)) (m ((c.tc : Thread nD τ).loc main_arg2)) := by
  after_reads_simp
  refine concat_ext ?_
  repeat' first | exact nil_ext | refine pair_ext ?_ ?_
  all_goals
    dsimp only [Matrix.cons_val]
    after_reads_simp
    try rw [v1_114]
    try rw [v1_119]
    try rw [v1_112]
    rfl

theorem states_274 : StableHlo.upto hostOps0_9 (V1 m c) 150 (Proc.devRef .tc main_v274) = Cert.MixFwdRefIdeal.Read.val_main_v274 (F := Ideal) (m ((c.tc : Thread nD τ).loc main_arg1)) (m ((c.tc : Thread nD τ).loc main_arg2)) := by
  after_reads_simp
  refine concat_ext ?_
  repeat' first | exact nil_ext | refine pair_ext ?_ ?_
  all_goals
    dsimp only [Matrix.cons_val]
    after_reads_simp
    try rw [v1_114]
    try rw [v1_119]
    try rw [v1_112]
    rfl

theorem host_277 : V m c main_v277 = (shapeCast S32x128x1024 (transpose S32x128x8x128 [0, 3, 1, 2]
    (Cert.MixFwdRefIdeal.Read.val_main_v275 (F := Ideal) (m ((c.tc : Thread nD τ).loc main_arg1)) (m ((c.tc : Thread nD τ).loc main_arg2)) : FVec Ideal S32x8x128x128 .f32) transposes_S32x8x128x128_S32x128x8x128_0_3_1_2)
    shapeCasts_S32x128x8x128_S32x128x1024 : FVec Ideal S32x128x1024 .f32) := by
  entry_read
  rw [V_last]
  after_reads_simp
  rw [states_273, states_274]
  rfl

end Cert.MixFwdIdeal.Hand
end
-- ==== Proof.MixFwdRef.lean ====
module

public import proofs.«01_k».proof.Proof.MixFwdRow
public import proofs.«01_k».proof.Proof.Gen.MixFwdRefIdeal.Run
public import proofs.«01_k».proof.Proof.Gen.MixFwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Cert.MixHand

namespace Cert.MixFwdRefIdeal.Hand

open Cert.MixFwdRefIdeal Cert.MixFwdRefIdeal.Gen Cert.MixFwdRefIdeal.Read

/-! What the reference of the forward pass computes, stage by stage. -/

variable (x0 : FVec Ideal S4096x1024 .f32)
  (x1 : FVec Ideal S4096x8192 .f32) (x2 : FVec Ideal S2x1024 .f32) (x3 : FVec Ideal S31x1024 .f32)
  (x4 x5 x6 : FVec Ideal S1x1024 .f32) (x7 x8 x9 : FVec Ideal S1024x1024 .f32) (x10 x11 x12 : FVec Ideal S1x1024 .f32)

/-- The rows the forward pass reads. -/
def refRows : Rows (Fin 4096) where
  qe R j := val_main_v143 (F := Ideal) x1 x2 (ix4 (ch R) (hd j) (inCh R) (pl j))
  inner R j := val_main_v135 (F := Ideal) x1 x2 (ix4 (ch R) (hd j) (inCh R) (pl j))
  st R v j := val_main_v275 (F := Ideal) x1 x2 (ix4 (ch R) (hd j) (pl j) v)
  act R j := val_main_v74 (F := Ideal) x1 x3 x4 x5 x6 (ix2 R j)
  og R j := x1 (ix2 R ⟨3072 + j.val, by omega⟩)
  ga R j := x1 (ix2 R ⟨6144 + j.val, by omega⟩)
  gb R j := x1 (ix2 R ⟨7168 + j.val, by omega⟩)
  dx R j := x0 (ix2 R j)
  wa k c := x7 (ix2 k c)
  wb k c := x8 (ix2 k c)
  wo k c := x9 (ix2 k c)
  hg j := x10 (ix2 0 j)
  g1 j := x11 (ix2 0 j)
  post j := x12 (ix2 0 j)

theorem v280 (R : Fin 4096) (h : Fin 8) (v : Fin 128) :
    val_main_v280 (F := Ideal) x1 x2 (ix3 R h v) = O (refRows x0 x1 x2 x3 x4 x5 x6 x7 x8 x9 x10 x11 x12) R (col h v) := by
  pointwise [val_main_v280, val_main_v279, val_main_v278, val_main_v277, val_main_v276]
  simp only [O, refRows, hd_col, pl_col]
  rfl

theorem v288 (R : Fin 4096) (h : Fin 8) (z : Fin 1) :
    val_main_v288 (F := Ideal) x1 x2 (ix3 R h z) = ovar (refRows x0 x1 x2 x3 x4 x5 x6 x7 x8 x9 x10 x11 x12) R h := by
  obtain rfl : z = 0 := Subsingleton.elim _ _
  pointwise [val_main_v282, val_main_cst_18, val_main_v283, val_main_v284, val_main_cst_19, val_main_v285, val_main_v286, val_main_cst_20, val_main_v287, val_main_v288]
  simp only [v280 x0 x1 x2 x3 x4 x5 x6 x7 x8 x9 x10 x11 x12]
  rfl

theorem v289 (R : Fin 4096) (h : Fin 8) (z : Fin 1) :
    val_main_v289 (F := Ideal) x1 x2 (ix3 R h z) = ors (refRows x0 x1 x2 x3 x4 x5 x6 x7 x8 x9 x10 x11 x12) R h := by
  obtain rfl : z = 0 := Subsingleton.elim _ _
  pointwise [val_main_v289]
  simp only [v288 x0 x1 x2 x3 x4 x5 x6 x7 x8 x9 x10 x11 x12]
  rfl

theorem v291 (R : Fin 4096) (h : Fin 8) (v : Fin 128) :
    val_main_v291 (F := Ideal) x1 x2 (ix3 R h v) = xh (refRows x0 x1 x2 x3 x4 x5 x6 x7 x8 x9 x10 x11 x12) R (col h v) := by
  pointwise [val_main_v290, val_main_v291]
  simp only [v280 x0 x1 x2 x3 x4 x5 x6 x7 x8 x9 x10 x11 x12, v289 x0 x1 x2 x3 x4 x5 x6 x7 x8 x9 x10 x11 x12, xh, hd_col]

theorem v295 (R : Fin 4096) (j : Fin 1024) :
    val_main_v295 (F := Ideal) x1 x2 x10 (ix2 R j) = xh (refRows x0 x1 x2 x3 x4 x5 x6 x7 x8 x9 x10 x11 x12) R j * (refRows x0 x1 x2 x3 x4 x5 x6 x7 x8 x9 x10 x11 x12).hg j := by
  pointwise [val_main_v292, val_main_v293, val_main_v294, val_main_v295, val_main_v281]
  simp only [v291 x0 x1 x2 x3 x4 x5 x6 x7 x8 x9 x10 x11 x12, col_mk]
  rfl

theorem v297 (R : Fin 4096) (j : Fin 1024) :
    val_main_v297 (F := Ideal) x1 (ix2 R j) = silu (refRows x0 x1 x2 x3 x4 x5 x6 x7 x8 x9 x10 x11 x12) R j := by
  pointwise [val_main_v296, val_main_call5_v0, val_main_call5_v1, val_main_call5_cst, val_main_call5_v2, val_main_call5_v3, val_main_call5_cst_0, val_main_call5_v4, val_main_call5_v5, val_main_v297]
  rfl

theorem v298 (R : Fin 4096) (j : Fin 1024) :
    val_main_v298 (F := Ideal) x1 x2 x10 (ix2 R j) = A (refRows x0 x1 x2 x3 x4 x5 x6 x7 x8 x9 x10 x11 x12) R j := by
  pointwise [val_main_v298]
  simp only [v295 x0 x1 x2 x3 x4 x5 x6 x7 x8 x9 x10 x11 x12, v297 x0 x1 x2 x3 x4 x5 x6 x7 x8 x9 x10 x11 x12]
  rfl

theorem v306 (R : Fin 4096) (j : Fin 1024) :
    val_main_v306 (F := Ideal) x1 x2 x7 x10 (ix2 R j) = Ya (refRows x0 x1 x2 x3 x4 x5 x6 x7 x8 x9 x10 x11 x12) R j := by
  pointwise [val_main_v306]
  simp only [v298 x0 x1 x2 x3 x4 x5 x6 x7 x8 x9 x10 x11 x12]
  rfl

theorem v315 (R : Fin 4096) (j : Fin 1024) :
    val_main_v315 (F := Ideal) x1 x3 x4 x5 x6 x8 (ix2 R j) = Yb (refRows x0 x1 x2 x3 x4 x5 x6 x7 x8 x9 x10 x11 x12) R j := by
  pointwise [val_main_v315]
  rfl

theorem v305 (R : Fin 4096) (j : Fin 1024) :
    val_main_v305 (F := Ideal) x1 (ix2 R j) = sg ((refRows x0 x1 x2 x3 x4 x5 x6 x7 x8 x9 x10 x11 x12).ga R j) := by
  pointwise [val_main_v299, val_main_v300, val_main_v301, val_main_cst_21, val_main_v302, val_main_v303, val_main_cst_22, val_main_v304, val_main_v305]
  rfl

theorem v314 (R : Fin 4096) (j : Fin 1024) :
    val_main_v314 (F := Ideal) x1 (ix2 R j) = sg ((refRows x0 x1 x2 x3 x4 x5 x6 x7 x8 x9 x10 x11 x12).gb R j) := by
  pointwise [val_main_v308, val_main_v309, val_main_v310, val_main_cst_23, val_main_v311, val_main_v312, val_main_cst_24, val_main_v313, val_main_v314]
  rfl

theorem v317 (R : Fin 4096) (j : Fin 1024) :
    val_main_v317 (F := Ideal) x1 x2 x3 x4 x5 x6 x7 x8 x10 (ix2 R j) = Mg (refRows x0 x1 x2 x3 x4 x5 x6 x7 x8 x9 x10 x11 x12) R j := by
  pointwise [val_main_v307, val_main_v316, val_main_v317]
  simp only [v305 x0 x1 x2 x3 x4 x5 x6 x7 x8 x9 x10 x11 x12, v314 x0 x1 x2 x3 x4 x5 x6 x7 x8 x9 x10 x11 x12, v306 x0 x1 x2 x3 x4 x5 x6 x7 x8 x9 x10 x11 x12, v315 x0 x1 x2 x3 x4 x5 x6 x7 x8 x9 x10 x11 x12]
  rfl

theorem v318 (R : Fin 4096) (j : Fin 1024) :
    val_main_v318 (F := Ideal) x1 x2 x3 x4 x5 x6 x7 x8 x9 x10 (ix2 R j) = Y (refRows x0 x1 x2 x3 x4 x5 x6 x7 x8 x9 x10 x11 x12) R j := by
  pointwise [val_main_v318]
  simp only [v317 x0 x1 x2 x3 x4 x5 x6 x7 x8 x9 x10 x11 x12]
  rfl

theorem v325 (R : Fin 4096) (z : Fin 1) :
    val_main_v325 (F := Ideal) x1 x2 x3 x4 x5 x6 x7 x8 x9 x10 (ix2 R z) = yvar (refRows x0 x1 x2 x3 x4 x5 x6 x7 x8 x9 x10 x11 x12) R := by
  obtain rfl : z = 0 := Subsingleton.elim _ _
  pointwise [val_main_v319, val_main_cst_25, val_main_v320, val_main_v321, val_main_cst_26, val_main_v322, val_main_v323, val_main_cst_27, val_main_v324, val_main_v325]
  simp only [v318 x0 x1 x2 x3 x4 x5 x6 x7 x8 x9 x10 x11 x12]
  rfl

theorem v326 (R : Fin 4096) (z : Fin 1) :
    val_main_v326 (F := Ideal) x1 x2 x3 x4 x5 x6 x7 x8 x9 x10 (ix2 R z) = yrs (refRows x0 x1 x2 x3 x4 x5 x6 x7 x8 x9 x10 x11 x12) R := by
  obtain rfl : z = 0 := Subsingleton.elim _ _
  pointwise [val_main_v326]
  simp only [v325 x0 x1 x2 x3 x4 x5 x6 x7 x8 x9 x10 x11 x12]
  rfl

theorem v328 (R : Fin 4096) (j : Fin 1024) :
    val_main_v328 (F := Ideal) x1 x2 x3 x4 x5 x6 x7 x8 x9 x10 (ix2 R j) = yh (refRows x0 x1 x2 x3 x4 x5 x6 x7 x8 x9 x10 x11 x12) R j := by
  pointwise [val_main_v327, val_main_v328]
  simp only [v318 x0 x1 x2 x3 x4 x5 x6 x7 x8 x9 x10 x11 x12, v326 x0 x1 x2 x3 x4 x5 x6 x7 x8 x9 x10 x11 x12]
  rfl

theorem v333 (R : Fin 4096) (j : Fin 1024) :
    val_main_v333 (F := Ideal) x0 x1 x2 x3 x4 x5 x6 x7 x8 x9 x10 x11 x12 (ix2 R j) = X1 (refRows x0 x1 x2 x3 x4 x5 x6 x7 x8 x9 x10 x11 x12) R j := by
  pointwise [val_main_v329, val_main_v330, val_main_v331, val_main_v332, val_main_v333]
  simp only [v328 x0 x1 x2 x3 x4 x5 x6 x7 x8 x9 x10 x11 x12]
  rfl

/-- The reference's run, its result entry by entry. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v333) = fun i : S4096x1024.Idx =>
        X1 (refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (i 0) (i 1) :=
  (θ_run defs _ _).mono (fun r h c =>
    (h c).1.trans ((val_main_v333_eq _).trans (funext fun i => (congrArg _ (eq_ix2 i)).trans (v333 ..))))
    (Cert.MixFwdRefIdeal.Value.run (F := Ideal) m ρ)

end Cert.MixFwdRefIdeal.Hand
end
-- ==== Proof.MixFwdBlock.lean ====
module

public import proofs.«01_k».proof.Proof.MixFwdRow
public import proofs.«01_k».proof.Proof.Gen.MixFwdIdeal.Skeleton
public import Idealize.ShloMosaic.Lib.Pipeline.ValueKit
public import Idealize.ShloMosaic.Lib.Claim

@[expose] public section

set_option maxRecDepth 16384
set_option maxHeartbeats 2000000

noncomputable section

open Idealize.ShloMosaic Idealize.ShloMosaic.TcCoe Idealize.SL.Sem
open Cert.MixHand

namespace Cert.MixFwdIdeal.Hand

open Cert.MixFwdIdeal Cert.MixFwdIdeal.Gen

/-- The blocks one tile of the forward pass reads. -/
structure Blocks where
  x : FVec Ideal S512x1024 .f32
  og : FVec Ideal S512x1024 .f32
  ga : FVec Ideal S512x1024 .f32
  gb : FVec Ideal S512x1024 .f32
  qe : FVec Ideal S512x1024 .bf16
  inner : FVec Ideal S512x1024 .f32
  s0 : FVec Ideal S1x128x1024 .f32
  s1 : FVec Ideal S1x128x1024 .f32
  s2 : FVec Ideal S1x128x1024 .f32
  s3 : FVec Ideal S1x128x1024 .f32
  act : FVec Ideal S512x1024 .bf16
  wa : FVec Ideal S1024x1024 .bf16
  wb : FVec Ideal S1024x1024 .bf16
  wo : FVec Ideal S1024x1024 .bf16
  hg : FVec Ideal S1x1024 .f32
  g1 : FVec Ideal S1x1024 .f32
  post : FVec Ideal S1x1024 .f32

/-- The state a row of the tile meets, among the states of its four chunks. -/
def pick (s0 s1 s2 s3 : EReal) (r : Fin 512) : EReal :=
  if r.val < 128 then s0 else if r.val < 256 then s1 else if r.val < 384 then s2 else s3

/-- The rows of the tile. -/
def Blocks.rows (b : Blocks) : Rows (Fin 512) where
  qe r j := b.qe (ix2 r j)
  inner r j := b.inner (ix2 r j)
  st r v j := pick (b.s0 (ix3 0 v j)) (b.s1 (ix3 0 v j)) (b.s2 (ix3 0 v j)) (b.s3 (ix3 0 v j)) r
  act r j := b.act (ix2 r j)
  og r j := b.og (ix2 r j)
  ga r j := b.ga (ix2 r j)
  gb r j := b.gb (ix2 r j)
  dx r j := b.x (ix2 r j)
  wa k c := b.wa (ix2 k c)
  wb k c := b.wb (ix2 k c)
  wo k c := b.wo (ix2 k c)
  hg j := b.hg (ix2 0 j)
  g1 j := b.g1 (ix2 0 j)
  post j := b.post (ix2 0 j)

variable (b : Blocks)

/-! The values of one tile's computation, each under its number in the kernel's text. -/

def v1 : FVec Ideal S512x1024 .bf16 := k0_pay1 (F := Ideal) b.qe
def v29 : FVec Ideal S128x1024 .f32 := k0_pay2 (F := Ideal) b.qe b.s0
def v57 : FVec Ideal S128x1024 .f32 := k0_pay8 (F := Ideal) (v1 b) (k0_pay3 b.s1) (k0_pay4 b.qe b.s1) (k0_pay5 b.qe b.s1)
  (k0_pay6 b.qe) (k0_pay7 b.s1)
def v117 : FVec Ideal S512x1024 .f32 := k0_pay19 (F := Ideal) (v1 b) (v29 b) (v57 b)
  (k0_pay10 (v1 b) b.s2) (k0_pay11 (v1 b) b.s2) (k0_pay12 (v1 b) b.s2) (k0_pay13 (v1 b) b.s2) (k0_pay14 (v1 b) b.s2)
  (k0_pay15 (v1 b) b.s2) (k0_pay16 (v1 b) b.s2) (k0_pay17 (v1 b)) (k0_pay18 b.s2) (constant S128x128 .f32 0x00000000#32) b.s3 b.inner
def v120 : FVec Ideal S512x128 .f32 := k0_pay20 (F := Ideal) (v1 b) (v29 b) (v57 b)
  (k0_pay10 (v1 b) b.s2) (k0_pay11 (v1 b) b.s2) (k0_pay12 (v1 b) b.s2) (k0_pay13 (v1 b) b.s2) (k0_pay14 (v1 b) b.s2)
  (k0_pay15 (v1 b) b.s2) (k0_pay16 (v1 b) b.s2) (k0_pay17 (v1 b)) (k0_pay18 b.s2) (constant S128x128 .f32 0x00000000#32) b.s3 b.inner
def v123 : FVec Ideal S512x1 .f32 := k0_pay21 (F := Ideal) (v1 b) (v29 b) (v57 b)
  (k0_pay10 (v1 b) b.s2) (k0_pay11 (v1 b) b.s2) (k0_pay12 (v1 b) b.s2) (k0_pay13 (v1 b) b.s2) (k0_pay14 (v1 b) b.s2)
  (k0_pay15 (v1 b) b.s2) (k0_pay16 (v1 b) b.s2) (k0_pay17 (v1 b)) (k0_pay18 b.s2) (constant S128x128 .f32 0x00000000#32) b.s3 b.inner
def v217 : FVec Ideal S512x1024 .f32 := k0_pay29 (F := Ideal) (v117 b) b.og b.hg (k0_pay23 (v120 b) (v123 b) k0_pay22)
  (k0_pay24 (v117 b)) (k0_pay25 (v117 b)) (k0_pay26 (v117 b)) (k0_pay27 (v117 b)) (k0_pay28 (v117 b)) b.wa
def v251 : FVec Ideal S512x1024 .f32 := k0_pay30 (F := Ideal) (v217 b) b.act b.wb b.ga b.gb b.wo b.x b.g1 b.post

/-! What each chunk's rows get from the state they meet. -/

/-- A row's product with a state, over its head. -/
def ex (s : FVec Ideal S1x128x1024 .f32) (r : Fin 512) (j : Fin 1024) : EReal :=
  ∑ k : Fin 128, b.qe (ix2 r (col (hd j) k)) * s (ix3 0 (pl j) (col (hd j) k))

/-- The first chunk's rows. -/
theorem v29_apply (r : Fin 128) (j : Fin 1024) : v29 b (ix2 r j) = ex b b.s0 ⟨r.val, by omega⟩ j := by
  unfold v29
  unfold_payloads
  pointwise
  rw [← heads8 (ex b b.s0 ⟨r.val, by omega⟩) j]
  unfold ex
  simp only [hd_col, pl_col]
  simp only [col_zero]
  rfl

/-- The second chunk's rows. -/
theorem v57_apply (r : Fin 128) (j : Fin 1024) : v57 b (ix2 r j) = ex b b.s1 ⟨128 + r.val, by omega⟩ j := by
  unfold v57 v1
  unfold_payloads
  pointwise
  rw [← heads8 (ex b b.s1 ⟨128 + r.val, by omega⟩) j]
  unfold ex
  simp only [hd_col, pl_col]
  simp only [col_zero]
  rfl

theorem third_0 (r v : Fin 128) : k0_pay10 (F := Ideal) (v1 b) b.s2 (ix2 r v) = ex b b.s2 ⟨256 + r.val, by omega⟩ (col 0 v) := by
  unfold ex v1
  unfold_payloads
  pointwise
  simp only [hd_col, pl_col]
  rfl

theorem third_1 (r v : Fin 128) : k0_pay11 (F := Ideal) (v1 b) b.s2 (ix2 r v) = ex b b.s2 ⟨256 + r.val, by omega⟩ (col 1 v) := by
  unfold ex v1
  unfold_payloads
  pointwise
  simp only [hd_col, pl_col]
  rfl

theorem third_2 (r v : Fin 128) : k0_pay12 (F := Ideal) (v1 b) b.s2 (ix2 r v) = ex b b.s2 ⟨256 + r.val, by omega⟩ (col 2 v) := by
  unfold ex v1
  unfold_payloads
  pointwise
  simp only [hd_col, pl_col]
  rfl

theorem third_3 (r v : Fin 128) : k0_pay13 (F := Ideal) (v1 b) b.s2 (ix2 r v) = ex b b.s2 ⟨256 + r.val, by omega⟩ (col 3 v) := by
  unfold ex v1
  unfold_payloads
  pointwise
  simp only [hd_col, pl_col]
  rfl

theorem third_4 (r v : Fin 128) : k0_pay14 (F := Ideal) (v1 b) b.s2 (ix2 r v) = ex b b.s2 ⟨256 + r.val, by omega⟩ (col 4 v) := by
  unfold ex v1
  unfold_payloads
  pointwise
  simp only [hd_col, pl_col]
  rfl

theorem third_5 (r v : Fin 128) : k0_pay15 (F := Ideal) (v1 b) b.s2 (ix2 r v) = ex b b.s2 ⟨256 + r.val, by omega⟩ (col 5 v) := by
  unfold ex v1
  unfold_payloads
  pointwise
  simp only [hd_col, pl_col]
  rfl

theorem third_6 (r v : Fin 128) : k0_pay16 (F := Ideal) (v1 b) b.s2 (ix2 r v) = ex b b.s2 ⟨256 + r.val, by omega⟩ (col 6 v) := by
  unfold ex v1
  unfold_payloads
  pointwise
  simp only [hd_col, pl_col]
  rfl

/-- Eight heads put side by side, read at a column. -/
theorem cat8 (f : Fin 8 → FVec Ideal S128x128 .f32) (r : Fin 128) (j : Fin 1024) :
    concatenate S128x1024 1 [⟨S128x128, f 0⟩, ⟨S128x128, f 1⟩, ⟨S128x128, f 2⟩, ⟨S128x128, f 3⟩, ⟨S128x128, f 4⟩, ⟨S128x128, f 5⟩,
      ⟨S128x128, f 6⟩, ⟨S128x128, f 7⟩] concatenates_S128x128_S128x128_S128x128_S128x128_S128x128_S128x128_S128x128_S128x128_S128x1024_d1 (ix2 r j) = f (hd j) (ix2 r (pl j)) := by
  pointwise
  rw [← heads8 (fun j => f (hd j) (ix2 r (pl j))) j]
  simp only [hd_col, pl_col]

/-- Eight heads put side by side are one function of the column, if each head is. -/
theorem cat8_eq (p0 p1 p2 p3 p4 p5 p6 p7 : FVec Ideal S128x128 .f32) (g : Fin 128 → Fin 1024 → EReal)
    (h0 : ∀ r v, p0 (ix2 r v) = g r (col 0 v)) (h1 : ∀ r v, p1 (ix2 r v) = g r (col 1 v)) (h2 : ∀ r v, p2 (ix2 r v) = g r (col 2 v))
    (h3 : ∀ r v, p3 (ix2 r v) = g r (col 3 v)) (h4 : ∀ r v, p4 (ix2 r v) = g r (col 4 v)) (h5 : ∀ r v, p5 (ix2 r v) = g r (col 5 v))
    (h6 : ∀ r v, p6 (ix2 r v) = g r (col 6 v)) (h7 : ∀ r v, p7 (ix2 r v) = g r (col 7 v)) (r : Fin 128) (j : Fin 1024) :
    concatenate S128x1024 1 [⟨S128x128, p0⟩, ⟨S128x128, p1⟩, ⟨S128x128, p2⟩, ⟨S128x128, p3⟩, ⟨S128x128, p4⟩, ⟨S128x128, p5⟩,
      ⟨S128x128, p6⟩, ⟨S128x128, p7⟩] concatenates_S128x128_S128x128_S128x128_S128x128_S128x128_S128x128_S128x128_S128x128_S128x1024_d1 (ix2 r j) = g r j := by
  refine (cat8 ![p0, p1, p2, p3, p4, p5, p6, p7] r j).trans ?_
  have e : ∀ h : Fin 8, (![p0, p1, p2, p3, p4, p5, p6, p7] h : FVec Ideal S128x128 .f32) (ix2 r (pl j)) = g r (col h (pl j)) := by
    intro h
    match h with
    | 0 => exact h0 _ _
    | 1 => exact h1 _ _
    | 2 => exact h2 _ _
    | 3 => exact h3 _ _
    | 4 => exact h4 _ _
    | 5 => exact h5 _ _
    | 6 => exact h6 _ _
    | 7 => exact h7 _ _
  refine (e (hd j)).trans (congrArg (g r) (Fin.ext ?_))
  show j.val / 128 * 128 + j.val % 128 = j.val
  omega

/-- The four chunks put one under the other: the third and the fourth are what the kernel's text has them be. -/
theorem v117_parts : ∃ E2 E3 : FVec Ideal S128x1024 .f32,
    v117 b = addf (concatenate S512x1024 0 [⟨S128x1024, v29 b⟩, ⟨S128x1024, v57 b⟩, ⟨S128x1024, E2⟩, ⟨S128x1024, E3⟩]
      concatenates_S128x1024_S128x1024_S128x1024_S128x1024_S512x1024_d0) (shapeCast S512x1024 b.inner shapeCasts_S512x1024_S512x1024)
    ∧ (∀ (r : Fin 128) (j : Fin 1024), E2 (ix2 r j) = ex b b.s2 ⟨256 + r.val, by omega⟩ j)
    ∧ (∀ (r : Fin 128) (j : Fin 1024), E3 (ix2 r j) = ex b b.s3 ⟨384 + r.val, by omega⟩ j) := by
  unfold v117 k0_pay19
  refine ⟨_, _, rfl, ?_, ?_⟩
  · refine cat8_eq _ _ _ _ _ _ _ _ (fun r j => ex b b.s2 ⟨256 + r.val, by omega⟩ j) (third_0 b) (third_1 b) (third_2 b) (third_3 b)
      (third_4 b) (third_5 b) (third_6 b) fun r v => ?_
    unfold k0_pay18 k0_pay17 k0_pay9 v1 k0_pay1 ex
    pointwise
    simp only [hd_col, pl_col]
    rfl
  · refine cat8_eq _ _ _ _ _ _ _ _ (fun r j => ex b b.s3 ⟨384 + r.val, by omega⟩ j) ?_ ?_ ?_ ?_ ?_ ?_ ?_ ?_
    all_goals
      intro r v
      unfold v1 k0_pay1 ex
      pointwise
      simp only [hd_col, pl_col]
      rfl

theorem v117_apply (r : Fin 512) (j : Fin 1024) : v117 b (ix2 r j) = O b.rows r j := by
  have e : O b.rows r j = pick (ex b b.s0 r j) (ex b b.s1 r j) (ex b b.s2 r j) (ex b b.s3 r j) r + b.inner (ix2 r j) := by
    unfold O ex
    refine congrArg (· + _) ?_
    show (∑ k : Fin 128, b.qe (ix2 r (col (hd j) k)) * pick _ _ _ _ r) = _
    unfold pick
    split_ifs <;> rfl
  obtain ⟨E2, E3, h, hE2, hE3⟩ := v117_parts b
  have h29 := v29_apply b
  have h57 := v57_apply b
  rw [e, h]
  generalize v29 b = E0 at h29 ⊢
  generalize v57 b = E1 at h57 ⊢
  generalize hp : (pick (ex b b.s0 r j) (ex b b.s1 r j) (ex b b.s2 r j) (ex b b.s3 r j) r) = q
  pointwise
  simp only [h29, h57, hE2, hE3]
  subst hp
  congr 1
  unfold pick
  by_cases h0 : r.val < 128
  · rw [dif_pos h0, if_pos h0]
  · rw [dif_neg h0, if_neg h0]
    by_cases h1 : r.val < 256
    · rw [dif_pos (by omega), if_pos h1]
      exact congrArg (fun r => ex b b.s1 r j) (Fin.ext (by show 128 + (r.val - 128) = r.val; omega))
    · rw [dif_neg (by omega), if_neg h1]
      by_cases h2 : r.val < 384
      · rw [dif_pos (by omega), if_pos h2]
        exact congrArg (fun r => ex b b.s2 r j) (Fin.ext (by show 256 + (r.val - 128 - 128) = r.val; omega))
      · rw [dif_neg (by omega), if_neg h2]
        exact congrArg (fun r => ex b b.s3 r j) (Fin.ext (by show 384 + (r.val - 128 - 128 - 128) = r.val; omega))

theorem fold_v117 : k0_pay19 (F := Ideal) (v1 b) (v29 b) (v57 b)
  (k0_pay10 (v1 b) b.s2) (k0_pay11 (v1 b) b.s2) (k0_pay12 (v1 b) b.s2) (k0_pay13 (v1 b) b.s2) (k0_pay14 (v1 b) b.s2)
  (k0_pay15 (v1 b) b.s2) (k0_pay16 (v1 b) b.s2) (k0_pay17 (v1 b)) (k0_pay18 b.s2) (constant S128x128 .f32 0x00000000#32) b.s3 b.inner = v117 b := rfl

/-- One head's normalised column. -/
theorem head_xh (X : Rows (Fin 512)) (r : Fin 512) (h : Fin 8) (v : Fin 128) :
    O X r (col h v) * Ideal.rsqrt (Ideal.div (∑ x : Fin 128, O X r (col h x) * O X r (col h x)) (Ideal.ofBits .f32 1124073472#32)
      + Ideal.ofBits .f32 897988541#32) = xh X r (col h v) := by
  unfold xh
  rw [hd_col]
  rfl

theorem v217_apply (r : Fin 512) (c : Fin 1024) : v217 b (ix2 r c) = Ya b.rows r c := by
  unfold v217 v123 v120
  unfold k0_pay29 k0_pay28 k0_pay27 k0_pay26 k0_pay25 k0_pay24 k0_pay23 k0_pay22 k0_pay21 k0_pay20
  simp only [fold_v117]
  pointwise
  unfold Ya
  refine Finset.sum_congr rfl fun j _ => congrArg₂ (· * ·) ?_ rfl
  unfold A
  rw [← heads8 (xh b.rows r) j]
  simp only [← head_xh]
  simp only [col_zero]
  simp only [v117_apply]
  rfl

theorem v251_apply (r : Fin 512) (j : Fin 1024) : v251 b (ix2 r j) = X1 b.rows r j := by
  unfold v251 k0_pay30
  pointwise
  simp only [v217_apply]
  rfl

end Cert.MixFwdIdeal.Hand

end
-- ==== Proof.MixFwdRead.lean ====
module

public import proofs.«01_k».proof.Proof.MixFwdCarry
public import proofs.«01_k».proof.Proof.MixFwdRef
public import proofs.«01_k».proof.Proof.MixFwdBlock

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixFwdIdeal.Hand

open Cert.MixFwdIdeal Cert.MixFwdIdeal.Gen

variable (m : (ℓ : Loc nD τ sig) → Buf (Elt Ideal) ℓ) (c : Dev nD)

/-! The blocks a tile reads, in the arrays the reference computes. -/

theorem idx_in : ∀ t : Fin cfg0.N,
    win0_0.index t = ![t.val, 0] ∧ win0_1.index t = ![t.val, 3] ∧ win0_2.index t = ![t.val, 6] ∧ win0_3.index t = ![t.val, 7]
      ∧ win0_4.index t = ![t.val, 0] ∧ win0_5.index t = ![t.val, 0] ∧ win0_6.index t = ![t.val, 0, 0]
      ∧ win0_7.index t = ![t.val, 0] ∧ win0_8.index t = ![0, 0] ∧ win0_9.index t = ![0, 0] ∧ win0_10.index t = ![0, 0]
      ∧ win0_11.index t = ![0, 0] ∧ win0_12.index t = ![0, 0] ∧ win0_13.index t = ![0, 0] ∧ win0_14.index t = ![t.val, 0] :=
  (by decide +kernel : ∀ t : Fin grid0.N, _)

/-- The rows of the whole sequence, from the arrays handed over. -/
def KX : Rows (Fin 4096) := Cert.MixFwdRefIdeal.Hand.refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- What one tile reads. -/
def blk (t : Fin cfg0.N) : Blocks :=
  ⟨iblk m c 0 t, iblk m c 1 t, iblk m c 2 t, iblk m c 3 t, iblk m c 4 t, iblk m c 5 t, View.ld (Val := Elt Ideal) (S := S4x128x1024) (e' := .f32) (iblk m c 6 t) r0_1, View.ld (Val := Elt Ideal) (S := S4x128x1024) (e' := .f32) (iblk m c 6 t) r0_2, View.ld (Val := Elt Ideal) (S := S4x128x1024) (e' := .f32) (iblk m c 6 t) r0_3, View.ld (Val := Elt Ideal) (S := S4x128x1024) (e' := .f32) (iblk m c 6 t) r0_4, iblk m c 7 t, iblk m c 8 t, iblk m c 9 t, iblk m c 10 t, iblk m c 11 t, iblk m c 12 t, iblk m c 13 t⟩

/-- The row of the sequence that row `r` of a tile is. -/
def rowOf (t : Fin cfg0.N) (r : Fin 512) : Fin 4096 := ⟨t.val * 512 + r.val, by have : t.val < 8 := t.isLt; omega⟩
/-- The chunk of the sequence that chunk `h` of a tile is. -/
def chOf (t : Fin cfg0.N) (h : Fin 4) : Fin 32 := ⟨t.val * 4 + h.val, by have : t.val < 8 := t.isLt; omega⟩

theorem v280_at (R : Fin 4096) (j : Fin 1024) : (V m c main_v280 : FVec Ideal S4096x1024 .bf16) (ix2 R j) = (KX m c).qe R j := by
  rw [host_280]
  dsimp only [KX, Cert.MixFwdRefIdeal.Hand.refRows]
  generalize (Cert.MixFwdRefIdeal.Read.val_main_v143 (F := Ideal) (m ((c.tc : Thread nD τ).loc main_arg1)) (m ((c.tc : Thread nD τ).loc main_arg2)) : FVec Ideal S32x8x128x128 .f32) = a
  pointwise
  rfl
theorem v282_at (R : Fin 4096) (j : Fin 1024) : (V m c main_v282 : FVec Ideal S4096x1024 .f32) (ix2 R j) = (KX m c).inner R j := by
  rw [host_282]
  dsimp only [KX, Cert.MixFwdRefIdeal.Hand.refRows]
  generalize (Cert.MixFwdRefIdeal.Read.val_main_v135 (F := Ideal) (m ((c.tc : Thread nD τ).loc main_arg1)) (m ((c.tc : Thread nD τ).loc main_arg2)) : FVec Ideal S32x8x128x128 .f32) = a
  pointwise
  rfl
theorem v277_at (R : Fin 4096) (v : Fin 128) (j : Fin 1024) :
    (V m c main_v277 : FVec Ideal S32x128x1024 .f32) (ix3 (ch R) v j) = (KX m c).st R v j := by
  rw [host_277]
  dsimp only [KX, Cert.MixFwdRefIdeal.Hand.refRows]
  generalize (Cert.MixFwdRefIdeal.Read.val_main_v275 (F := Ideal) (m ((c.tc : Thread nD τ).loc main_arg1)) (m ((c.tc : Thread nD τ).loc main_arg2)) : FVec Ideal S32x8x128x128 .f32) = a
  pointwise
  rfl
theorem v283_at (R : Fin 4096) (j : Fin 1024) : (V m c main_v283 : FVec Ideal S4096x1024 .bf16) (ix2 R j) = (KX m c).act R j := by
  rw [host_283]
  dsimp only [KX, Cert.MixFwdRefIdeal.Hand.refRows]
  generalize (Cert.MixFwdRefIdeal.Read.val_main_v74 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) : FVec Ideal S4096x1024 .f32) = a
  pointwise
variable (t : Fin cfg0.N) (r : Fin 512) (j : Fin 1024)

theorem blk_plain :
    (blk m c t).og (ix2 r j) = (KX m c).og (rowOf t r) j ∧ (blk m c t).ga (ix2 r j) = (KX m c).ga (rowOf t r) j
      ∧ (blk m c t).gb (ix2 r j) = (KX m c).gb (rowOf t r) j ∧ (blk m c t).x (ix2 r j) = (KX m c).dx (rowOf t r) j
      ∧ (blk m c t).hg (ix2 0 j) = (KX m c).hg j ∧ (blk m c t).g1 (ix2 0 j) = (KX m c).g1 j
      ∧ (blk m c t).post (ix2 0 j) = (KX m c).post j := by
  dsimp only [blk, KX, Cert.MixFwdRefIdeal.Hand.refRows]
  refine ⟨?_, ?_, ?_, ?_, ?_, ?_, ?_⟩ <;> blk_point [iblk, V, idx_in t, rowOf] <;> rfl

theorem blk_qe : (blk m c t).qe (ix2 r j) = (KX m c).qe (rowOf t r) j := by
  rw [← v280_at m c (rowOf t r) j]
  dsimp only [blk]
  generalize hV : (V m c main_v280 : FVec Ideal S4096x1024 .bf16) = a
  blk_simp [iblk]
  rw [hV]
  blk_ext [idx_in t, rowOf]
theorem blk_inner : (blk m c t).inner (ix2 r j) = (KX m c).inner (rowOf t r) j := by
  rw [← v282_at m c (rowOf t r) j]
  dsimp only [blk]
  generalize hV : (V m c main_v282 : FVec Ideal S4096x1024 .f32) = a
  blk_simp [iblk]
  rw [hV]
  blk_ext [idx_in t, rowOf]
theorem blk_act : (blk m c t).act (ix2 r j) = (KX m c).act (rowOf t r) j := by
  rw [← v283_at m c (rowOf t r) j]
  dsimp only [blk]
  generalize hV : (V m c main_v283 : FVec Ideal S4096x1024 .bf16) = a
  blk_simp [iblk]
  rw [hV]
  blk_ext [idx_in t, rowOf]
theorem blk_wa (k : Fin 1024) : (blk m c t).wa (ix2 k j) = (KX m c).wa k j := by
  have h : (KX m c).wa k j = (V m c main_v284 : FVec Ideal S1024x1024 .bf16) (ix2 k j) := by
    rw [(host_w m c).1]; rfl
  rw [h]
  dsimp only [blk]
  generalize hV : (V m c main_v284 : FVec Ideal S1024x1024 .bf16) = a
  blk_simp [iblk]
  rw [hV]
  blk_ext [idx_in t]
theorem blk_wb (k : Fin 1024) : (blk m c t).wb (ix2 k j) = (KX m c).wb k j := by
  have h : (KX m c).wb k j = (V m c main_v285 : FVec Ideal S1024x1024 .bf16) (ix2 k j) := by
    rw [(host_w m c).2.1]; rfl
  rw [h]
  dsimp only [blk]
  generalize hV : (V m c main_v285 : FVec Ideal S1024x1024 .bf16) = a
  blk_simp [iblk]
  rw [hV]
  blk_ext [idx_in t]
theorem blk_wo (k : Fin 1024) : (blk m c t).wo (ix2 k j) = (KX m c).wo k j := by
  have h : (KX m c).wo k j = (V m c main_v286 : FVec Ideal S1024x1024 .bf16) (ix2 k j) := by
    rw [(host_w m c).2.2]; rfl
  rw [h]
  dsimp only [blk]
  generalize hV : (V m c main_v286 : FVec Ideal S1024x1024 .bf16) = a
  blk_simp [iblk]
  rw [hV]
  blk_ext [idx_in t]

/-- The state block of a tile holds the states its four chunks meet. -/
theorem blk_states (h : Fin 4) (v : Fin 128) : (iblk m c 6 t : FVec Ideal S4x128x1024 .f32) (ix3 h v j)
    = (V m c main_v277 : FVec Ideal S32x128x1024 .f32) (ix3 (chOf t h) v j) := by
  generalize hV : (V m c main_v277 : FVec Ideal S32x128x1024 .f32) = a
  blk_simp [iblk]
  rw [hV]
  blk_ext [idx_in t, chOf]
/-- One plane of a block, read by itself. -/
theorem plane_ld {n : ℕ} (h : Fin 4) (w : FVec Ideal ⟨3, ![4, n, 1024]⟩ .f32) (inb) (v : Fin n) (j : Fin 1024) :
    View.ld (Val := Elt Ideal) (S := ⟨3, ![4, n, 1024]⟩) (e' := .f32) w (Rect.unit ![h.val, 0, 0] ![1, n, 1024] inb) (ix3 0 v j)
      = w (ix3 h v j) :=
  View.ld_unit_apply_of _ _ _ _ _ _ fun a => by
    match a with
    | 0 => rfl
    | 1 => exact (Nat.zero_add _).symm
    | 2 => exact (Nat.zero_add _).symm

/-- Each chunk's state is the one its rows meet. -/
theorem blk_st_at (h : Fin 4) (v : Fin 128) (inb) (hr : r.val / 128 = h.val) :
    View.ld (Val := Elt Ideal) (S := S4x128x1024) (e' := .f32) (iblk m c 6 t) (Rect.unit ![h.val, 0, 0] ![1, 128, 1024] inb) (ix3 0 v j)
      = (KX m c).st (rowOf t r) v j := by
  rw [← v277_at m c (rowOf t r) v j]
  refine (plane_ld h _ _ _ _).trans ((blk_states m c t j h v).trans (congrArg (fun n => (V m c main_v277 : FVec Ideal S32x128x1024 .f32) (ix3 n v j)) (Fin.ext ?_)))
  show t.val * 4 + h.val = (t.val * 512 + r.val) / 128
  omega

theorem blk_st (v : Fin 128) : pick ((blk m c t).s0 (ix3 0 v j)) ((blk m c t).s1 (ix3 0 v j)) ((blk m c t).s2 (ix3 0 v j))
    ((blk m c t).s3 (ix3 0 v j)) r = (KX m c).st (rowOf t r) v j := by
  unfold pick
  have hr : r.val < 512 := r.isLt
  split_ifs
  · exact blk_st_at m c t r j 0 v _ (by show r.val / 128 = 0; omega)
  · exact blk_st_at m c t r j 1 v _ (by show r.val / 128 = 1; omega)
  · exact blk_st_at m c t r j 2 v _ (by show r.val / 128 = 2; omega)
  · exact blk_st_at m c t r j 3 v _ (by show r.val / 128 = 3; omega)

/-- The rows of a tile are rows of the sequence. -/
theorem blk_rows : (blk m c t).rows = (KX m c).take (rowOf t) := by
  unfold Blocks.rows Rows.take
  have p := blk_plain m c t
  refine (Rows.mk.injEq ..).mpr ⟨?_, ?_, ?_, ?_, ?_, ?_, ?_, ?_, ?_, ?_, ?_, ?_, ?_, ?_⟩
  · exact funext fun r => funext fun j => blk_qe m c t r j
  · exact funext fun r => funext fun j => blk_inner m c t r j
  · exact funext fun r => funext fun v => funext fun j => blk_st m c t r j v
  · exact funext fun r => funext fun j => blk_act m c t r j
  · exact funext fun r => funext fun j => (p r j).1
  · exact funext fun r => funext fun j => (p r j).2.1
  · exact funext fun r => funext fun j => (p r j).2.2.1
  · exact funext fun r => funext fun j => (p r j).2.2.2.1
  · exact funext fun k => funext fun j => blk_wa m c t j k
  · exact funext fun k => funext fun j => blk_wb m c t j k
  · exact funext fun k => funext fun j => blk_wo m c t j k
  · exact funext fun j => (p 0 j).2.2.2.2.1
  · exact funext fun j => (p 0 j).2.2.2.2.2.1
  · exact funext fun j => (p 0 j).2.2.2.2.2.2

end Cert.MixFwdIdeal.Hand
end
-- ==== Proof.MixFwdRun.lean ====
module

public import proofs.«01_k».proof.Proof.MixFwdRead

@[expose] public section

set_option maxRecDepth 16384
set_option maxHeartbeats 8000000

noncomputable section

open Idealize.ShloMosaic Idealize.ShloMosaic.TcCoe Idealize.SL.Sem
open Idealize.ShloMosaic.Pipeline (Dat)
open Cert.MixHand

namespace Cert.MixFwdIdeal.Hand

open Cert.MixFwdIdeal Cert.MixFwdIdeal.Gen

variable (m : (ℓ : Loc nD τ sig) → Buf (Elt Ideal) ℓ) (c : Dev nD)

/-! What a tile leaves, the array after the last tile, and the run. -/

/-! A block read whole is the block. -/

theorem whole_a {e : EltTy} (w : S512x1024.Idx → Elt Ideal e) : View.ld w r0_0 = w := by
  simp (disch := decide) only [View.ld_unit_lit']
theorem whole_b {e : EltTy} (w : S1024x1024.Idx → Elt Ideal e) : View.ld w r0_6 = w := by
  simp (disch := decide) only [View.ld_unit_lit']
theorem whole_c {e : EltTy} (w : S1x1024.Idx → Elt Ideal e) : View.ld w r0_5 = w := by
  simp (disch := decide) only [View.ld_unit_lit']
theorem whole_canon (w : S512x1024.Idx → Elt Ideal .f32) : View.canon (Val := Elt Ideal) [⟨r0_0, w⟩] = w := by
  simp (disch := decide) only [View.canon_cons_unit_lit']

section
variable (x0 : Vec Ideal S512x1024 .f32) (x1 : Vec Ideal S512x1024 .f32) (x2 : Vec Ideal S512x1024 .f32) (x3 : Vec Ideal S512x1024 .f32) (x4 : Vec Ideal S512x1024 .bf16) (x5 : Vec Ideal S512x1024 .f32) (x6 : Vec Ideal S4x128x1024 .f32) (x7 : Vec Ideal S512x1024 .bf16) (x8 : Vec Ideal S1024x1024 .bf16) (x9 : Vec Ideal S1024x1024 .bf16) (x10 : Vec Ideal S1024x1024 .bf16) (x11 : Vec Ideal S1x1024 .f32) (x12 : Vec Ideal S1x1024 .f32) (x13 : Vec Ideal S1x1024 .f32)

/-- The blocks, under the names the tile's stages have for them. -/
def ofBlocks : Blocks := ⟨x0, x1, x2, x3, x4, x5, View.ld (Val := Elt Ideal) (S := S4x128x1024) (e' := .f32) x6 r0_1, View.ld (Val := Elt Ideal) (S := S4x128x1024) (e' := .f32) x6 r0_2, View.ld (Val := Elt Ideal) (S := S4x128x1024) (e' := .f32) x6 r0_3, View.ld (Val := Elt Ideal) (S := S4x128x1024) (e' := .f32) x6 r0_4, x7, x8, x9, x10, x11, x12, x13⟩

theorem fold_31 : k0_pay31 (F := Ideal) x0 x1 x2 x3 x4 x5 x6 x7 x8 x9 x10 x11 x12 x13 = v1 (ofBlocks x0 x1 x2 x3 x4 x5 x6 x7 x8 x9 x10 x11 x12 x13) := by
  unfold k0_pay31
  simp only [whole_a]
  rfl
theorem fold_32 : k0_pay32 (F := Ideal) x0 x1 x2 x3 x4 x5 x6 x7 x8 x9 x10 x11 x12 x13 = v29 (ofBlocks x0 x1 x2 x3 x4 x5 x6 x7 x8 x9 x10 x11 x12 x13) := by
  unfold k0_pay32
  simp only [whole_a]
  rfl
theorem fold_34 : k0_pay34 (F := Ideal) x0 x1 x2 x3 x4 x5 x6 x7 x8 x9 x10 x11 x12 x13 = v57 (ofBlocks x0 x1 x2 x3 x4 x5 x6 x7 x8 x9 x10 x11 x12 x13) := by
  unfold k0_pay34
  simp only [fold_31, whole_a]
  rfl
theorem fold_35 : k0_pay35 (F := Ideal) x0 x1 x2 x3 x4 x5 x6 x7 x8 x9 x10 x11 x12 x13 = k0_pay10 (v1 (ofBlocks x0 x1 x2 x3 x4 x5 x6 x7 x8 x9 x10 x11 x12 x13)) (ofBlocks x0 x1 x2 x3 x4 x5 x6 x7 x8 x9 x10 x11 x12 x13).s2 := by
  unfold k0_pay35
  rw [fold_31]
  rfl
theorem fold_36 : k0_pay36 (F := Ideal) x0 x1 x2 x3 x4 x5 x6 x7 x8 x9 x10 x11 x12 x13 = k0_pay11 (v1 (ofBlocks x0 x1 x2 x3 x4 x5 x6 x7 x8 x9 x10 x11 x12 x13)) (ofBlocks x0 x1 x2 x3 x4 x5 x6 x7 x8 x9 x10 x11 x12 x13).s2 := by
  unfold k0_pay36
  rw [fold_31]
  rfl
theorem fold_37 : k0_pay37 (F := Ideal) x0 x1 x2 x3 x4 x5 x6 x7 x8 x9 x10 x11 x12 x13 = k0_pay12 (v1 (ofBlocks x0 x1 x2 x3 x4 x5 x6 x7 x8 x9 x10 x11 x12 x13)) (ofBlocks x0 x1 x2 x3 x4 x5 x6 x7 x8 x9 x10 x11 x12 x13).s2 := by
  unfold k0_pay37
  rw [fold_31]
  rfl
theorem fold_38 : k0_pay38 (F := Ideal) x0 x1 x2 x3 x4 x5 x6 x7 x8 x9 x10 x11 x12 x13 = k0_pay13 (v1 (ofBlocks x0 x1 x2 x3 x4 x5 x6 x7 x8 x9 x10 x11 x12 x13)) (ofBlocks x0 x1 x2 x3 x4 x5 x6 x7 x8 x9 x10 x11 x12 x13).s2 := by
  unfold k0_pay38
  rw [fold_31]
  rfl
theorem fold_39 : k0_pay39 (F := Ideal) x0 x1 x2 x3 x4 x5 x6 x7 x8 x9 x10 x11 x12 x13 = k0_pay14 (v1 (ofBlocks x0 x1 x2 x3 x4 x5 x6 x7 x8 x9 x10 x11 x12 x13)) (ofBlocks x0 x1 x2 x3 x4 x5 x6 x7 x8 x9 x10 x11 x12 x13).s2 := by
  unfold k0_pay39
  rw [fold_31]
  rfl
theorem fold_40 : k0_pay40 (F := Ideal) x0 x1 x2 x3 x4 x5 x6 x7 x8 x9 x10 x11 x12 x13 = k0_pay15 (v1 (ofBlocks x0 x1 x2 x3 x4 x5 x6 x7 x8 x9 x10 x11 x12 x13)) (ofBlocks x0 x1 x2 x3 x4 x5 x6 x7 x8 x9 x10 x11 x12 x13).s2 := by
  unfold k0_pay40
  rw [fold_31]
  rfl
theorem fold_41 : k0_pay41 (F := Ideal) x0 x1 x2 x3 x4 x5 x6 x7 x8 x9 x10 x11 x12 x13 = k0_pay16 (v1 (ofBlocks x0 x1 x2 x3 x4 x5 x6 x7 x8 x9 x10 x11 x12 x13)) (ofBlocks x0 x1 x2 x3 x4 x5 x6 x7 x8 x9 x10 x11 x12 x13).s2 := by
  unfold k0_pay41
  rw [fold_31]
  rfl
theorem fold_42 : k0_pay42 (F := Ideal) x0 x1 x2 x3 x4 x5 x6 x7 x8 x9 x10 x11 x12 x13 = k0_pay17 (v1 (ofBlocks x0 x1 x2 x3 x4 x5 x6 x7 x8 x9 x10 x11 x12 x13)) := by
  unfold k0_pay42
  rw [fold_31]
theorem fold_43 : k0_pay43 (F := Ideal) x0 x1 x2 x3 x4 x5 x6 x7 x8 x9 x10 x11 x12 x13 = k0_pay18 (ofBlocks x0 x1 x2 x3 x4 x5 x6 x7 x8 x9 x10 x11 x12 x13).s2 := rfl
theorem fold_44 : k0_pay44 (F := Ideal) x0 x1 x2 x3 x4 x5 x6 x7 x8 x9 x10 x11 x12 x13 = v117 (ofBlocks x0 x1 x2 x3 x4 x5 x6 x7 x8 x9 x10 x11 x12 x13) := by
  unfold k0_pay44
  simp only [fold_31, fold_32, fold_34, fold_35, fold_36, fold_37, fold_38, fold_39, fold_40, fold_41, fold_42, fold_43, whole_a]
  rfl

/-- What a tile stores, of the blocks it reads. -/
theorem out_block : out0_14 (F := Ideal) x0 x1 x2 x3 x4 x5 x6 x7 x8 x9 x10 x11 x12 x13 = v251 (ofBlocks x0 x1 x2 x3 x4 x5 x6 x7 x8 x9 x10 x11 x12 x13) := by
  unfold out0_14
  rw [whole_canon]
  simp only [fold_31, fold_32, fold_34, fold_35, fold_36, fold_37, fold_38, fold_39, fold_40, fold_41, fold_42, fold_43, fold_44,
    whole_a, whole_b, whole_c]
  rfl

end

theorem out14 (t : Fin cfg0.N) : (dats m 0 c).after 14 t = v251 (blk m c t) := by
  rw [after0_14, out_block]
  rfl

theorem out_rows (t : Fin cfg0.N) (r : Fin 512) (j : Fin 1024) :
    v251 (blk m c t) (ix2 r j) = X1 (KX m c) (rowOf t r) j := by
  rw [v251_apply, blk_rows]
  rfl

theorem final14 : (dats m 0 c).arrAt 14 cfg0.N = fun i : S4096x1024.Idx => X1 (KX m c) (i 0) (i 1) := by
  refine (dats m 0 c).arrAt_eq_of_covers 14 _ (by decide +kernel) fun t hf y => ?_
  rw [out14]
  blk_simp [idx_in t]
  have hy : (y 0).val < 512 := (y 0).isLt
  have hy1 : (y 1).val < 1024 := (y 1).isLt
  refine Eq.trans (congrArg _ ?_) ((out_rows m c t ⟨(y 0).val, hy⟩ ⟨(y 1).val, hy1⟩).trans ?_)
  · blk_ext
  · refine congrArg₂ (X1 (KX m c)) (Fin.ext ?_) (Fin.ext ?_) <;> blk_simp [idx_in t, rowOf]

/-- The run, its result entry by entry. -/
theorem run_rows (ρ : Dev nD → PrngReg) :
    θ_run defs (onTc (τ := τ) (main (F := Ideal))) ⟨m, fun _ => 0, ρ⟩ fun r => ∀ c : Dev nD,
      r.2.mem ((c.tc : Thread nD τ).loc main_v287) = fun i : S4096x1024.Idx => X1 (KX m c) (i 0) (i 1) :=
  (θ_run defs _ _).mono (fun r h c => ((h c).1 14).trans (final14 m c)) (Gen.run_main m ρ)

end Cert.MixFwdIdeal.Hand
end
-- ==== Proof.MixFwdClaim.lean ====
/- The two claims about the forward mixing call's result: the reference keeps its arguments, and both programs leave the
   same array. -/
module

public import proofs.«01_k».proof.Defs
public import proofs.«01_k».proof.Proof.MixFwdRun

@[expose] public section

noncomputable section

namespace Cert.Proof

open Idealize.ShloMosaic Idealize.SL.Sem

/-- The reference of the forward mixing call runs and leaves its arguments. -/
theorem quiescent_mixFwdRef : Cert.quiescent_MixFwdRefIdeal := fun m ρ _ =>
  (θ_run Cert.MixFwdRefIdeal.defs _ _).mono
    (fun r h => ⟨fun c => (h c).2, Idealize.ShloMosaic.sem_eq_zero_of_no_sems (by decide) r.2⟩)
    (Cert.MixFwdRefIdeal.Value.run (F := Ideal) m ρ)

set_option maxRecDepth 16384 in
/-- From equal arguments the result of the forward mixing call and of its reference are the same array. -/
theorem algebraic_mixFwd : Cert.algebraic_MixFwdIdeal_MixFwdRefIdeal := by
  intro m g m' g' _ hagree
  refine ⟨fun c => fun i : Cert.MixFwdIdeal.S4096x1024.Idx => Cert.MixHand.X1 (Cert.MixFwdIdeal.Hand.KX m c) (i 0) (i 1),
    (θ_run Cert.MixFwdIdeal.defs _ _).mono (fun r h c => ⟨h.1 c, h.2 c⟩)
      (θ_run_and (Cert.MixFwdIdeal.Hand.run_rows m g) (Cert.MixFwdIdeal.Gen.unchanged m g)),
    (θ_run Cert.MixFwdRefIdeal.defs _ _).mono (fun r h c => ?_)
      (θ_run_and (Cert.MixFwdRefIdeal.Hand.run_rows m' g') (Cert.MixFwdRefIdeal.Value.run (F := Ideal) m' g'))⟩
  have r1 := h.1 c
  obtain ⟨h0, h1, h2, h3, h4, h5, h6, h7, h8, h9, h10, h11, h12⟩ := hagree c
  rw [h0, h1, h2, h3, h4, h5, h6, h7, h8, h9, h10, h11, h12] at r1
  exact ⟨r1, (h.2 c).2⟩

end Cert.Proof

end
-- ==== Proof.lean ====
/- The five claims about three backward calls, the input projection's, the feed-forward's and the mixing call's, and
   about the forward mixing call; of the convolution's backward call, all but the value claim. The frames are the
   generated runs. Each value claim reads the kernel's results and the reference's as the same functions of the
   arguments (`InProjOut` and `InProjRef`, `FfnAcc` and `FfnRef`, `MixClaim`, `MixFwdClaim`). -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.InProjOut
public import proofs.«01_k».proof.Proof.InProjRef
public import proofs.«01_k».proof.Proof.FfnAcc
public import proofs.«01_k».proof.Proof.FfnRef
public import proofs.«01_k».proof.Proof.MixClaim
public import proofs.«01_k».proof.Proof.MixFwdClaim
public import Idealize.ShloMosaic.Adequacy
public import Idealize.ShloMosaic.Init

@[expose] public section

noncomputable section

namespace Cert.Proof

open Idealize.ShloMosaic Idealize.SL.Sem Cert.InProj

/-- The reference runs and leaves its arguments: its generated run read at them; it has no semaphore. -/
theorem quiescent_inProjRef : Cert.quiescent_InProjRefIdeal := fun m ρ _ =>
  (θ_run Cert.InProjRefIdeal.defs _ _).mono
    (fun r h => ⟨fun c => (h c).2.2, Idealize.ShloMosaic.sem_eq_zero_of_no_sems (by decide) r.2⟩)
    (Cert.InProjRefIdeal.Value.run (F := Ideal) m ρ)

set_option maxRecDepth 16384 in
/-- From equal arguments the kernel's two results and the reference's are the same arrays. -/
theorem algebraic_inProj : Cert.algebraic_InProjIdeal_InProjRefIdeal := by
  pair_intro
  · run_from Cert.InProjIdeal.Gen.run_main m g
  · run_from Cert.InProjRefIdeal.Value.run m' g'
    · obtain ⟨h0, h1, h2, h3, h4, h5, h6⟩ := hagree c
      refine (Cert.InProjRefIdeal.Read.val_main_v49_eq m' c).trans (Eq.trans ?_ (Cert.InProjIdeal.Hand.final7 m c).symm)
      rw [h0, h1, h2, h3, h4, h5]
      funext i
      rw [eq_ix2 i]
      exact Cert.InProjRefIdeal.Hand.v49 ..
    · obtain ⟨h0, h1, h2, h3, h4, h5, h6⟩ := hagree c
      refine (Cert.InProjRefIdeal.Read.val_main_v51_eq _ _ _ _ _).trans (Eq.trans ?_ (Cert.InProjIdeal.Hand.final8 m c).symm)
      rw [h4, h5]
      funext i
      rw [eq_ix2 i]
      exact Cert.InProjRefIdeal.Hand.v51 ..

/-- The reference of the feed-forward's call runs and leaves its arguments. -/
theorem quiescent_ffnRef : Cert.quiescent_FfnRefIdeal := fun m ρ _ =>
  (θ_run Cert.FfnRefIdeal.defs _ _).mono
    (fun r h => ⟨fun c => (h c).2.2.2.2.2.2, Idealize.ShloMosaic.sem_eq_zero_of_no_sems (by decide) r.2⟩)
    (Cert.FfnRefIdeal.Value.run (F := Ideal) m ρ)

set_option maxRecDepth 16384 in
/-- From equal arguments the six results of the feed-forward's call and the reference's are the same arrays. -/
theorem algebraic_ffn : Cert.algebraic_FfnIdeal_FfnRefIdeal := by
  intro m g m' g' _ hagree
  refine ⟨fun c => fun i : Cert.FfnIdeal.S4096x1024.Idx => Cert.FfnIdeal.Hand.dxK m c (i 0) (i 1),
    fun c => fun i : Cert.FfnIdeal.S4096x1024.Idx => Cert.FfnIdeal.Hand.hK m c (i 0) (i 1),
    fun c => fun i : Cert.FfnIdeal.S4096x1024.Idx => Cert.FfnIdeal.Hand.dyK m c (i 0) (i 1),
    fun c => fun i : Cert.FfnIdeal.S4096x4096.Idx => Cert.FfnIdeal.Hand.actK m c (i 0) (i 1),
    fun c => fun i : Cert.FfnIdeal.S4096x4096.Idx => Cert.FfnIdeal.Hand.dzK m c (i 0) (i 1),
    fun c => fun i : Cert.FfnIdeal.S8x1024.Idx => Cert.FfnIdeal.Hand.accK m c (i 0) (i 1),
    (θ_run Cert.FfnIdeal.defs _ _).mono (fun r h c => ?_)
      (θ_run_and (Cert.FfnIdeal.Hand.run_rows m g) (Cert.FfnIdeal.Gen.unchanged m g)),
    (θ_run Cert.FfnRefIdeal.defs _ _).mono (fun r h c => ?_)
      (θ_run_and (Cert.FfnRefIdeal.Hand.run_rows m' g') (Cert.FfnRefIdeal.Value.run (F := Ideal) m' g'))⟩
  · obtain ⟨k1, k2, k3, k4, k5, k6⟩ := h.1 c
    exact ⟨k1, k2, k3, k4, k5, k6, h.2 c⟩
  · obtain ⟨r1, r2, r3, r4, r5, r6⟩ := h.1 c
    obtain ⟨h0, h1, h2, h3, h4, h5, h6, h7, h8⟩ := hagree c
    rw [h0, h1, h2, h3, h4, h5, h6, h7, h8] at r1 r3 r5 r6
    rw [h0, h4, h5, h6] at r2
    rw [h0, h2, h4, h5, h6] at r4
    exact ⟨r1, r2, r3, r4, r5, r6, (h.2 c).2.2.2.2.2.2⟩

/-- The reference of the convolution's backward call runs and leaves its arguments. -/
theorem quiescent_convRef : Cert.quiescent_ConvRefIdeal := fun m ρ _ =>
  (θ_run Cert.ConvRefIdeal.defs _ _).mono
    (fun r h => ⟨fun c => (h c).2.2.2, Idealize.ShloMosaic.sem_eq_zero_of_no_sems (by decide) r.2⟩)
    (Cert.ConvRefIdeal.Value.run (F := Ideal) m ρ)

theorem claim : Cert.Claim := ⟨Cert.InProj.Gen.facts, Cert.InProjIdeal.Gen.facts, Cert.InProjRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.MixFwd.Gen.facts, Cert.MixFwdIdeal.Gen.facts, Cert.MixFwdRefIdeal.Gen.facts,
  Cert.Conv.Gen.facts, Cert.ConvIdeal.Gen.facts, Cert.ConvRefIdeal.Gen.facts,
  fun m ρ _ => Cert.InProj.Gen.frame m ρ,
  fun m ρ _ => Cert.InProjIdeal.Gen.frame m ρ,
  quiescent_inProjRef,
  fun m ρ _ => Cert.Ffn.Gen.frame m ρ,
  fun m ρ _ => Cert.FfnIdeal.Gen.frame m ρ,
  quiescent_ffnRef,
  fun m ρ _ => Cert.Mix.Gen.frame m ρ,
  fun m ρ _ => Cert.MixIdeal.Gen.frame m ρ,
  quiescent_mixRef,
  fun m ρ _ => Cert.MixFwd.Gen.frame m ρ,
  fun m ρ _ => Cert.MixFwdIdeal.Gen.frame m ρ,
  quiescent_mixFwdRef,
  fun m ρ _ => Cert.Conv.Gen.frame m ρ,
  fun m ρ _ => Cert.ConvIdeal.Gen.frame m ρ,
  quiescent_convRef,
  trivial, algebraic_inProj, trivial, algebraic_ffn, trivial, algebraic_mix, trivial, algebraic_mixFwd, trivial⟩

end Cert.Proof

end
